-- ==== Defs.lean ====
def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepKernelIdeal_finite [hPre_finite : Cert.Pre_finite.Facts] (m : (ℓ : Loc Cert.StepKernelIdeal.nD Cert.StepKernelIdeal.τ Cert.StepKernelIdeal.sig) → Buf (Elt Ideal) ℓ) : Prop :=
  ∀ c : Dev Cert.StepKernelIdeal.nD,
    (Cert.Pre_finite.fn (F := Ideal) (m ((c.tc : Thread Cert.StepKernelIdeal.nD Cert.StepKernelIdeal.τ).loc Cert.StepKernelIdeal.main_arg0)) (m ((c.tc : Thread Cert.StepKernelIdeal.nD Cert.StepKernelIdeal.τ).loc Cert.StepKernelIdeal.main_arg1)) (m ((c.tc : Thread Cert.StepKernelIdeal.nD Cert.StepKernelIdeal.τ).loc Cert.StepKernelIdeal.main_arg2)) (m ((c.tc : Thread Cert.StepKernelIdeal.nD Cert.StepKernelIdeal.τ).loc Cert.StepKernelIdeal.main_arg3))) = (fun _ => 1#1)

def Pre_StepReferenceIdeal (m : (ℓ : Loc Cert.StepReferenceIdeal.nD Cert.StepReferenceIdeal.τ Cert.StepReferenceIdeal.sig) → Buf (Elt Ideal) ℓ) : Prop :=
  True

def Pre_StepReferenceIdeal_finite [hPre_finite : Cert.Pre_finite.Facts] (m : (ℓ : Loc Cert.StepReferenceIdeal.nD Cert.StepReferenceIdeal.τ Cert.StepReferenceIdeal.sig) → Buf (Elt Ideal) ℓ) : Prop :=
  ∀ c : Dev Cert.StepReferenceIdeal.nD,
    (Cert.Pre_finite.fn (F := Ideal) (m ((c.tc : Thread Cert.StepReferenceIdeal.nD Cert.StepReferenceIdeal.τ).loc Cert.StepReferenceIdeal.main_arg0)) (m ((c.tc : Thread Cert.StepReferenceIdeal.nD Cert.StepReferenceIdeal.τ).loc Cert.StepReferenceIdeal.main_arg1)) (m ((c.tc : Thread Cert.StepReferenceIdeal.nD Cert.StepReferenceIdeal.τ).loc Cert.StepReferenceIdeal.main_arg2)) (m ((c.tc : Thread Cert.StepReferenceIdeal.nD Cert.StepReferenceIdeal.τ).loc Cert.StepReferenceIdeal.main_arg3))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_SProjKernel (m : (ℓ : Loc Cert.SProjKernel.nD Cert.SProjKernel.τ Cert.SProjKernel.sig) → Buf (Elt Bits) ℓ) : Prop :=
  True

def Pre_SProjKernelIdeal (m : (ℓ : Loc Cert.SProjKernelIdeal.nD Cert.SProjKernelIdeal.τ Cert.SProjKernelIdeal.sig) → Buf (Elt Ideal) ℓ) : Prop :=
  True

def Pre_SProjReferenceIdeal (m : (ℓ : Loc Cert.SProjReferenceIdeal.nD Cert.SProjReferenceIdeal.τ Cert.SProjReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_DnKernel [hPre_in_range : Cert.Pre_in_range.Facts] (m : (ℓ : Loc Cert.DnKernel.nD Cert.DnKernel.τ Cert.DnKernel.sig) → Buf (Elt Bits) ℓ) : Prop :=
  ∀ c : Dev Cert.DnKernel.nD,
    (Cert.Pre_in_range.fn (F := Bits) (m ((c.tc : Thread Cert.DnKernel.nD Cert.DnKernel.τ).loc Cert.DnKernel.main_arg0)) (m ((c.tc : Thread Cert.DnKernel.nD Cert.DnKernel.τ).loc Cert.DnKernel.main_arg1)) (m ((c.tc : Thread Cert.DnKernel.nD Cert.DnKernel.τ).loc Cert.DnKernel.main_arg2)) (m ((c.tc : Thread Cert.DnKernel.nD Cert.DnKernel.τ).loc Cert.DnKernel.main_arg3)) (m ((c.tc : Thread Cert.DnKernel.nD Cert.DnKernel.τ).loc Cert.DnKernel.main_arg4))) = (fun _ => 1#1)

def Pre_DnKernelIdeal [hPre_in_range : Cert.Pre_in_range.Facts] (m : (ℓ : Loc Cert.DnKernelIdeal.nD Cert.DnKernelIdeal.τ Cert.DnKernelIdeal.sig) → Buf (Elt Ideal) ℓ) : Prop :=
  ∀ c : Dev Cert.DnKernelIdeal.nD,
    (Cert.Pre_in_range.fn (F := Ideal) (m ((c.tc : Thread Cert.DnKernelIdeal.nD Cert.DnKernelIdeal.τ).loc Cert.DnKernelIdeal.main_arg0)) (m ((c.tc : Thread Cert.DnKernelIdeal.nD Cert.DnKernelIdeal.τ).loc Cert.DnKernelIdeal.main_arg1)) (m ((c.tc : Thread Cert.DnKernelIdeal.nD Cert.DnKernelIdeal.τ).loc Cert.DnKernelIdeal.main_arg2)) (m ((c.tc : Thread Cert.DnKernelIdeal.nD Cert.DnKernelIdeal.τ).loc Cert.DnKernelIdeal.main_arg3)) (m ((c.tc : Thread Cert.DnKernelIdeal.nD Cert.DnKernelIdeal.τ).loc Cert.DnKernelIdeal.main_arg4))) = (fun _ => 1#1)

def Pre_DnReferenceIdeal (m : (ℓ : Loc Cert.DnReferenceIdeal.nD Cert.DnReferenceIdeal.τ Cert.DnReferenceIdeal.sig) → Buf (Elt Ideal) ℓ) : Prop :=
  True

def Pre_DnReferenceIdeal_in_range [hPre_in_range : Cert.Pre_in_range.Facts] (m : (ℓ : Loc Cert.DnReferenceIdeal.nD Cert.DnReferenceIdeal.τ Cert.DnReferenceIdeal.sig) → Buf (Elt Ideal) ℓ) : Prop :=
  ∀ c : Dev Cert.DnReferenceIdeal.nD,
    (Cert.Pre_in_range.fn (F := Ideal) (m ((c.tc : Thread Cert.DnReferenceIdeal.nD Cert.DnReferenceIdeal.τ).loc Cert.DnReferenceIdeal.main_arg0)) (m ((c.tc : Thread Cert.DnReferenceIdeal.nD Cert.DnReferenceIdeal.τ).loc Cert.DnReferenceIdeal.main_arg1)) (m ((c.tc : Thread Cert.DnReferenceIdeal.nD Cert.DnReferenceIdeal.τ).loc Cert.DnReferenceIdeal.main_arg2)) (m ((c.tc : Thread Cert.DnReferenceIdeal.nD Cert.DnReferenceIdeal.τ).loc Cert.DnReferenceIdeal.main_arg3)) (m ((c.tc : Thread Cert.DnReferenceIdeal.nD Cert.DnReferenceIdeal.τ).loc Cert.DnReferenceIdeal.main_arg4))) = (fun _ => 1#1)

def Pre_GuKernel [hPre_in_range_gu : Cert.Pre_in_range_gu.Facts] (m : (ℓ : Loc Cert.GuKernel.nD Cert.GuKernel.τ Cert.GuKernel.sig) → Buf (Elt Bits) ℓ) : Prop :=
  ∀ c : Dev Cert.GuKernel.nD,
    (Cert.Pre_in_range_gu.fn (F := Bits) (m ((c.tc : Thread Cert.GuKernel.nD Cert.GuKernel.τ).loc Cert.GuKernel.main_arg0)) (m ((c.tc : Thread Cert.GuKernel.nD Cert.GuKernel.τ).loc Cert.GuKernel.main_arg1)) (m ((c.tc : Thread Cert.GuKernel.nD Cert.GuKernel.τ).loc Cert.GuKernel.main_arg2)) (m ((c.tc : Thread Cert.GuKernel.nD Cert.GuKernel.τ).loc Cert.GuKernel.main_arg3)) (m ((c.tc : Thread Cert.GuKernel.nD Cert.GuKernel.τ).loc Cert.GuKernel.main_arg4))) = (fun _ => 1#1)

def Pre_GuKernelIdeal [hPre_in_range_gu : Cert.Pre_in_range_gu.Facts] (m : (ℓ : Loc Cert.GuKernelIdeal.nD Cert.GuKernelIdeal.τ Cert.GuKernelIdeal.sig) → Buf (Elt Ideal) ℓ) : Prop :=
  ∀ c : Dev Cert.GuKernelIdeal.nD,
    (Cert.Pre_in_range_gu.fn (F := Ideal) (m ((c.tc : Thread Cert.GuKernelIdeal.nD Cert.GuKernelIdeal.τ).loc Cert.GuKernelIdeal.main_arg0)) (m ((c.tc : Thread Cert.GuKernelIdeal.nD Cert.GuKernelIdeal.τ).loc Cert.GuKernelIdeal.main_arg1)) (m ((c.tc : Thread Cert.GuKernelIdeal.nD Cert.GuKernelIdeal.τ).loc Cert.GuKernelIdeal.main_arg2)) (m ((c.tc : Thread Cert.GuKernelIdeal.nD Cert.GuKernelIdeal.τ).loc Cert.GuKernelIdeal.main_arg3)) (m ((c.tc : Thread Cert.GuKernelIdeal.nD Cert.GuKernelIdeal.τ).loc Cert.GuKernelIdeal.main_arg4))) = (fun _ => 1#1)

def Pre_GuReferenceIdeal (m : (ℓ : Loc Cert.GuReferenceIdeal.nD Cert.GuReferenceIdeal.τ Cert.GuReferenceIdeal.sig) → Buf (Elt Ideal) ℓ) : Prop :=
  True

def Pre_GuReferenceIdeal_in_range_gu [hPre_in_range_gu : Cert.Pre_in_range_gu.Facts] (m : (ℓ : Loc Cert.GuReferenceIdeal.nD Cert.GuReferenceIdeal.τ Cert.GuReferenceIdeal.sig) → Buf (Elt Ideal) ℓ) : Prop :=
  ∀ c : Dev Cert.GuReferenceIdeal.nD,
    (Cert.Pre_in_range_gu.fn (F := Ideal) (m ((c.tc : Thread Cert.GuReferenceIdeal.nD Cert.GuReferenceIdeal.τ).loc Cert.GuReferenceIdeal.main_arg0)) (m ((c.tc : Thread Cert.GuReferenceIdeal.nD Cert.GuReferenceIdeal.τ).loc Cert.GuReferenceIdeal.main_arg1)) (m ((c.tc : Thread Cert.GuReferenceIdeal.nD Cert.GuReferenceIdeal.τ).loc Cert.GuReferenceIdeal.main_arg2)) (m ((c.tc : Thread Cert.GuReferenceIdeal.nD Cert.GuReferenceIdeal.τ).loc Cert.GuReferenceIdeal.main_arg3)) (m ((c.tc : Thread Cert.GuReferenceIdeal.nD Cert.GuReferenceIdeal.τ).loc Cert.GuReferenceIdeal.main_arg4))) = (fun _ => 1#1)

def Pre_CrossKernel (m : (ℓ : Loc Cert.CrossKernel.nD Cert.CrossKernel.τ Cert.CrossKernel.sig) → Buf (Elt Bits) ℓ) : Prop :=
  True

def Pre_CrossKernelIdeal (m : (ℓ : Loc Cert.CrossKernelIdeal.nD Cert.CrossKernelIdeal.τ Cert.CrossKernelIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3))
      ∧ r.2.sem = fun _ => 0)

def quiescent_StepKernelIdeal_pre_finite [hStepKernelIdeal : Cert.StepKernelIdeal.Facts] [hPre_finite : Cert.Pre_finite.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal_finite m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3))
      ∧ r.2.sem = fun _ => 0)

def quiescent_StepReferenceIdeal_pre_finite [hStepReferenceIdeal : Cert.StepReferenceIdeal.Facts] [hPre_finite : Cert.Pre_finite.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal_finite m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_SProjKernel [hSProjKernel : Cert.SProjKernel.Facts] : Prop :=
  ∀ (m : (ℓ : Loc Cert.SProjKernel.nD Cert.SProjKernel.τ Cert.SProjKernel.sig) → Buf (Elt Bits) ℓ) (g : Dev Cert.SProjKernel.nD → PrngReg), Pre_SProjKernel m →
    θ_run (Cert.SProjKernel.defs (F := Bits)) (onTc (τ := Cert.SProjKernel.τ) (Cert.SProjKernel.main (F := Bits))) ⟨m, fun _ => 0, g⟩ (fun r => (∀ c : Dev Cert.SProjKernel.nD,
      r.2.mem ((c.tc : Thread Cert.SProjKernel.nD Cert.SProjKernel.τ).loc Cert.SProjKernel.main_arg0) = m ((c.tc : Thread Cert.SProjKernel.nD Cert.SProjKernel.τ).loc Cert.SProjKernel.main_arg0)
      ∧ r.2.mem ((c.tc : Thread Cert.SProjKernel.nD Cert.SProjKernel.τ).loc Cert.SProjKernel.main_arg1) = m ((c.tc : Thread Cert.SProjKernel.nD Cert.SProjKernel.τ).loc Cert.SProjKernel.main_arg1)
      ∧ r.2.mem ((c.tc : Thread Cert.SProjKernel.nD Cert.SProjKernel.τ).loc Cert.SProjKernel.main_arg2) = m ((c.tc : Thread Cert.SProjKernel.nD Cert.SProjKernel.τ).loc Cert.SProjKernel.main_arg2))
      ∧ r.2.sem = fun _ => 0)

def quiescent_SProjKernelIdeal [hSProjKernelIdeal : Cert.SProjKernelIdeal.Facts] : Prop :=
  ∀ (m : (ℓ : Loc Cert.SProjKernelIdeal.nD Cert.SProjKernelIdeal.τ Cert.SProjKernelIdeal.sig) → Buf (Elt Ideal) ℓ) (g : Dev Cert.SProjKernelIdeal.nD → PrngReg), Pre_SProjKernelIdeal m →
    θ_run (Cert.SProjKernelIdeal.defs (F := Ideal)) (onTc (τ := Cert.SProjKernelIdeal.τ) (Cert.SProjKernelIdeal.main (F := Ideal))) ⟨m, fun _ => 0, g⟩ (fun r => (∀ c : Dev Cert.SProjKernelIdeal.nD,
      r.2.mem ((c.tc : Thread Cert.SProjKernelIdeal.nD Cert.SProjKernelIdeal.τ).loc Cert.SProjKernelIdeal.main_arg0) = m ((c.tc : Thread Cert.SProjKernelIdeal.nD Cert.SProjKernelIdeal.τ).loc Cert.SProjKernelIdeal.main_arg0)
      ∧ r.2.mem ((c.tc : Thread Cert.SProjKernelIdeal.nD Cert.SProjKernelIdeal.τ).loc Cert.SProjKernelIdeal.main_arg1) = m ((c.tc : Thread Cert.SProjKernelIdeal.nD Cert.SProjKernelIdeal.τ).loc Cert.SProjKernelIdeal.main_arg1)
      ∧ r.2.mem ((c.tc : Thread Cert.SProjKernelIdeal.nD Cert.SProjKernelIdeal.τ).loc Cert.SProjKernelIdeal.main_arg2) = m ((c.tc : Thread Cert.SProjKernelIdeal.nD Cert.SProjKernelIdeal.τ).loc Cert.SProjKernelIdeal.main_arg2))
      ∧ r.2.sem = fun _ => 0)

def quiescent_SProjReferenceIdeal [hSProjReferenceIdeal : Cert.SProjReferenceIdeal.Facts] : Prop :=
  ∀ (m : (ℓ : Loc Cert.SProjReferenceIdeal.nD Cert.SProjReferenceIdeal.τ Cert.SProjReferenceIdeal.sig) → Buf (Elt Ideal) ℓ) (g : Dev Cert.SProjReferenceIdeal.nD → PrngReg), Pre_SProjReferenceIdeal m →
    θ_run (Cert.SProjReferenceIdeal.defs (F := Ideal)) (onTc (τ := Cert.SProjReferenceIdeal.τ) (Cert.SProjReferenceIdeal.main (F := Ideal))) ⟨m, fun _ => 0, g⟩ (fun r => (∀ c : Dev Cert.SProjReferenceIdeal.nD,
      r.2.mem ((c.tc : Thread Cert.SProjReferenceIdeal.nD Cert.SProjReferenceIdeal.τ).loc Cert.SProjReferenceIdeal.main_arg0) = m ((c.tc : Thread Cert.SProjReferenceIdeal.nD Cert.SProjReferenceIdeal.τ).loc Cert.SProjReferenceIdeal.main_arg0)
      ∧ r.2.mem ((c.tc : Thread Cert.SProjReferenceIdeal.nD Cert.SProjReferenceIdeal.τ).loc Cert.SProjReferenceIdeal.main_arg1) = m ((c.tc : Thread Cert.SProjReferenceIdeal.nD Cert.SProjReferenceIdeal.τ).loc Cert.SProjReferenceIdeal.main_arg1)
      ∧ r.2.mem ((c.tc : Thread Cert.SProjReferenceIdeal.nD Cert.SProjReferenceIdeal.τ).loc Cert.SProjReferenceIdeal.main_arg2) = m ((c.tc : Thread Cert.SProjReferenceIdeal.nD Cert.SProjReferenceIdeal.τ).loc Cert.SProjReferenceIdeal.main_arg2))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_DnKernel [hDnKernel : Cert.DnKernel.Facts] [hPre_in_range : Cert.Pre_in_range.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1)
      ∧ r.2.mem ((c.tc : Thread Cert.DnKernel.nD Cert.DnKernel.τ).loc Cert.DnKernel.main_arg2) = m ((c.tc : Thread Cert.DnKernel.nD Cert.DnKernel.τ).loc Cert.DnKernel.main_arg2)
      ∧ r.2.mem ((c.tc : Thread Cert.DnKernel.nD Cert.DnKernel.τ).loc Cert.DnKernel.main_arg3) = m ((c.tc : Thread Cert.DnKernel.nD Cert.DnKernel.τ).loc Cert.DnKernel.main_arg3)
      ∧ r.2.mem ((c.tc : Thread Cert.DnKernel.nD Cert.DnKernel.τ).loc Cert.DnKernel.main_arg4) = m ((c.tc : Thread Cert.DnKernel.nD Cert.DnKernel.τ).loc Cert.DnKernel.main_arg4))
      ∧ r.2.sem = fun _ => 0)

def quiescent_DnKernelIdeal [hDnKernelIdeal : Cert.DnKernelIdeal.Facts] [hPre_in_range : Cert.Pre_in_range.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
      ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
      ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
      ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4))
      ∧ r.2.sem = fun _ => 0)

def quiescent_DnReferenceIdeal_pre_in_range [hDnReferenceIdeal : Cert.DnReferenceIdeal.Facts] [hPre_in_range : Cert.Pre_in_range.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal_in_range m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4))
      ∧ r.2.sem = fun _ => 0)

def quiescent_GuKernel [hGuKernel : Cert.GuKernel.Facts] [hPre_in_range_gu : Cert.Pre_in_range_gu.Facts] : Prop :=
  ∀ (m : (ℓ : Loc Cert.GuKernel.nD Cert.GuKernel.τ Cert.GuKernel.sig) → Buf (Elt Bits) ℓ) (g : Dev Cert.GuKernel.nD → PrngReg), Pre_GuKernel m →
    θ_run (Cert.GuKernel.defs (F := Bits)) (onTc (τ := Cert.GuKernel.τ) (Cert.GuKernel.main (F := Bits))) ⟨m, fun _ => 0, g⟩ (fun r => (∀ c : Dev Cert.GuKernel.nD,
      r.2.mem ((c.tc : Thread Cert.GuKernel.nD Cert.GuKernel.τ).loc Cert.GuKernel.main_arg0) = m ((c.tc : Thread Cert.GuKernel.nD Cert.GuKernel.τ).loc Cert.GuKernel.main_arg0)
      ∧ r.2.mem ((c.tc : Thread Cert.GuKernel.nD Cert.GuKernel.τ).loc Cert.GuKernel.main_arg1) = m ((c.tc : Thread Cert.GuKernel.nD Cert.GuKernel.τ).loc Cert.GuKernel.main_arg1)
      ∧ r.2.mem ((c.tc : Thread Cert.GuKernel.nD Cert.GuKernel.τ).loc Cert.GuKernel.main_arg2) = m ((c.tc : Thread Cert.GuKernel.nD Cert.GuKernel.τ).loc Cert.GuKernel.main_arg2)
      ∧ r.2.mem ((c.tc : Thread Cert.GuKernel.nD Cert.GuKernel.τ).loc Cert.GuKernel.main_arg3) = m ((c.tc : Thread Cert.GuKernel.nD Cert.GuKernel.τ).loc Cert.GuKernel.main_arg3)
      ∧ r.2.mem ((c.tc : Thread Cert.GuKernel.nD Cert.GuKernel.τ).loc Cert.GuKernel.main_arg4) = m ((c.tc : Thread Cert.GuKernel.nD Cert.GuKernel.τ).loc Cert.GuKernel.main_arg4))
      ∧ r.2.sem = fun _ => 0)

def quiescent_GuKernelIdeal [hGuKernelIdeal : Cert.GuKernelIdeal.Facts] [hPre_in_range_gu : Cert.Pre_in_range_gu.Facts] : Prop :=
  ∀ (m : (ℓ : Loc Cert.GuKernelIdeal.nD Cert.GuKernelIdeal.τ Cert.GuKernelIdeal.sig) → Buf (Elt Ideal) ℓ) (g : Dev Cert.GuKernelIdeal.nD → PrngReg), Pre_GuKernelIdeal m →
    θ_run (Cert.GuKernelIdeal.defs (F := Ideal)) (onTc (τ := Cert.GuKernelIdeal.τ) (Cert.GuKernelIdeal.main (F := Ideal))) ⟨m, fun _ => 0, g⟩ (fun r => (∀ c : Dev Cert.GuKernelIdeal.nD,
      r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
      ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1)
      ∧ r.2.mem ((c.tc : Thread Cert.GuKernelIdeal.nD Cert.GuKernelIdeal.τ).loc Cert.GuKernelIdeal.main_arg2) = m ((c.tc : Thread Cert.GuKernelIdeal.nD Cert.GuKernelIdeal.τ).loc Cert.GuKernelIdeal.main_arg2)
      ∧ r.2.mem ((c.tc : Thread Cert.GuKernelIdeal.nD Cert.GuKernelIdeal.τ).loc Cert.GuKernelIdeal.main_arg3) = m ((c.tc : Thread Cert.GuKernelIdeal.nD Cert.GuKernelIdeal.τ).loc Cert.GuKernelIdeal.main_arg3)
      ∧ r.2.mem ((c.tc : Thread Cert.GuKernelIdeal.nD Cert.GuKernelIdeal.τ).loc Cert.GuKernelIdeal.main_arg4) = m ((c.tc : Thread Cert.GuKernelIdeal.nD Cert.GuKernelIdeal.τ).loc Cert.GuKernelIdeal.main_arg4))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1)
      ∧ r.2.mem ((c.tc : Thread Cert.GuReferenceIdeal.nD Cert.GuReferenceIdeal.τ).loc Cert.GuReferenceIdeal.main_arg2) = m ((c.tc : Thread Cert.GuReferenceIdeal.nD Cert.GuReferenceIdeal.τ).loc Cert.GuReferenceIdeal.main_arg2)
      ∧ r.2.mem ((c.tc : Thread Cert.GuReferenceIdeal.nD Cert.GuReferenceIdeal.τ).loc Cert.GuReferenceIdeal.main_arg3) = m ((c.tc : Thread Cert.GuReferenceIdeal.nD Cert.GuReferenceIdeal.τ).loc Cert.GuReferenceIdeal.main_arg3)
      ∧ r.2.mem ((c.tc : Thread Cert.GuReferenceIdeal.nD Cert.GuReferenceIdeal.τ).loc Cert.GuReferenceIdeal.main_arg4) = m ((c.tc : Thread Cert.GuReferenceIdeal.nD Cert.GuReferenceIdeal.τ).loc Cert.GuReferenceIdeal.main_arg4))
      ∧ r.2.sem = fun _ => 0)

def quiescent_GuReferenceIdeal_pre_in_range_gu [hGuReferenceIdeal : Cert.GuReferenceIdeal.Facts] [hPre_in_range_gu : Cert.Pre_in_range_gu.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal_in_range_gu m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1)
      ∧ r.2.mem ((c.tc : Thread Cert.GuReferenceIdeal.nD Cert.GuReferenceIdeal.τ).loc Cert.GuReferenceIdeal.main_arg2) = m ((c.tc : Thread Cert.GuReferenceIdeal.nD Cert.GuReferenceIdeal.τ).loc Cert.GuReferenceIdeal.main_arg2)
      ∧ r.2.mem ((c.tc : Thread Cert.GuReferenceIdeal.nD Cert.GuReferenceIdeal.τ).loc Cert.GuReferenceIdeal.main_arg3) = m ((c.tc : Thread Cert.GuReferenceIdeal.nD Cert.GuReferenceIdeal.τ).loc Cert.GuReferenceIdeal.main_arg3)
      ∧ r.2.mem ((c.tc : Thread Cert.GuReferenceIdeal.nD Cert.GuReferenceIdeal.τ).loc Cert.GuReferenceIdeal.main_arg4) = m ((c.tc : Thread Cert.GuReferenceIdeal.nD Cert.GuReferenceIdeal.τ).loc Cert.GuReferenceIdeal.main_arg4))
      ∧ r.2.sem = fun _ => 0)

def quiescent_CrossKernel [hCrossKernel : Cert.CrossKernel.Facts] : Prop :=
  ∀ (m : (ℓ : Loc Cert.CrossKernel.nD Cert.CrossKernel.τ Cert.CrossKernel.sig) → Buf (Elt Bits) ℓ) (g : Dev Cert.CrossKernel.nD → PrngReg), Pre_CrossKernel m →
    θ_run (Cert.CrossKernel.defs (F := Bits)) (onTc (τ := Cert.CrossKernel.τ) (Cert.CrossKernel.main (F := Bits))) ⟨m, fun _ => 0, g⟩ (fun r => (∀ c : Dev Cert.CrossKernel.nD,
      r.2.mem ((c.tc : Thread Cert.CrossKernel.nD Cert.CrossKernel.τ).loc Cert.CrossKernel.main_arg0) = m ((c.tc : Thread Cert.CrossKernel.nD Cert.CrossKernel.τ).loc Cert.CrossKernel.main_arg0)
      ∧ r.2.mem ((c.tc : Thread Cert.CrossKernel.nD Cert.CrossKernel.τ).loc Cert.CrossKernel.main_arg1) = m ((c.tc : Thread Cert.CrossKernel.nD Cert.CrossKernel.τ).loc Cert.CrossKernel.main_arg1)
      ∧ r.2.mem ((c.tc : Thread Cert.CrossKernel.nD Cert.CrossKernel.τ).loc Cert.CrossKernel.main_arg2) = m ((c.tc : Thread Cert.CrossKernel.nD Cert.CrossKernel.τ).loc Cert.CrossKernel.main_arg2)
      ∧ r.2.mem ((c.tc : Thread Cert.CrossKernel.nD Cert.CrossKernel.τ).loc Cert.CrossKernel.main_arg3) = m ((c.tc : Thread Cert.CrossKernel.nD Cert.CrossKernel.τ).loc Cert.CrossKernel.main_arg3)
      ∧ r.2.mem ((c.tc : Thread Cert.CrossKernel.nD Cert.CrossKernel.τ).loc Cert.CrossKernel.main_arg4) = m ((c.tc : Thread Cert.CrossKernel.nD Cert.CrossKernel.τ).loc Cert.CrossKernel.main_arg4))
      ∧ r.2.sem = fun _ => 0)

def quiescent_CrossKernelIdeal [hCrossKernelIdeal : Cert.CrossKernelIdeal.Facts] : Prop :=
  ∀ (m : (ℓ : Loc Cert.CrossKernelIdeal.nD Cert.CrossKernelIdeal.τ Cert.CrossKernelIdeal.sig) → Buf (Elt Ideal) ℓ) (g : Dev Cert.CrossKernelIdeal.nD → PrngReg), Pre_CrossKernelIdeal m →
    θ_run (Cert.CrossKernelIdeal.defs (F := Ideal)) (onTc (τ := Cert.CrossKernelIdeal.τ) (Cert.CrossKernelIdeal.main (F := Ideal))) ⟨m, fun _ => 0, g⟩ (fun r => (∀ c : Dev Cert.CrossKernelIdeal.nD,
      r.2.mem ((c.tc : Thread Cert.CrossKernelIdeal.nD Cert.CrossKernelIdeal.τ).loc Cert.CrossKernelIdeal.main_arg0) = m ((c.tc : Thread Cert.CrossKernelIdeal.nD Cert.CrossKernelIdeal.τ).loc Cert.CrossKernelIdeal.main_arg0)
      ∧ r.2.mem ((c.tc : Thread Cert.CrossKernelIdeal.nD Cert.CrossKernelIdeal.τ).loc Cert.CrossKernelIdeal.main_arg1) = m ((c.tc : Thread Cert.CrossKernelIdeal.nD Cert.CrossKernelIdeal.τ).loc Cert.CrossKernelIdeal.main_arg1)
      ∧ r.2.mem ((c.tc : Thread Cert.CrossKernelIdeal.nD Cert.CrossKernelIdeal.τ).loc Cert.CrossKernelIdeal.main_arg2) = m ((c.tc : Thread Cert.CrossKernelIdeal.nD Cert.CrossKernelIdeal.τ).loc Cert.CrossKernelIdeal.main_arg2)
      ∧ r.2.mem ((c.tc : Thread Cert.CrossKernelIdeal.nD Cert.CrossKernelIdeal.τ).loc Cert.CrossKernelIdeal.main_arg3) = m ((c.tc : Thread Cert.CrossKernelIdeal.nD Cert.CrossKernelIdeal.τ).loc Cert.CrossKernelIdeal.main_arg3)
      ∧ r.2.mem ((c.tc : Thread Cert.CrossKernelIdeal.nD Cert.CrossKernelIdeal.τ).loc Cert.CrossKernelIdeal.main_arg4) = m ((c.tc : Thread Cert.CrossKernelIdeal.nD Cert.CrossKernelIdeal.τ).loc Cert.CrossKernelIdeal.main_arg4))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4))
      ∧ r.2.sem = fun _ => 0)

def preserves_StepKernel_StepKernelIdeal : Prop :=
  True

def algebraic_StepKernelIdeal_StepReferenceIdeal_pre_finite [hStepKernelIdeal : Cert.StepKernelIdeal.Facts] [hStepReferenceIdeal : Cert.StepReferenceIdeal.Facts] [hPre_finite : Cert.Pre_finite.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal_finite m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)) →
    ∃ (v0 : (c : Dev Cert.StepKernelIdeal.nD) → Buf (Elt Ideal) ((c.tc : Thread Cert.StepKernelIdeal.nD Cert.StepKernelIdeal.τ).loc Cert.StepKernelIdeal.main_v24_0)) (v1 : (c : Dev Cert.StepKernelIdeal.nD) → Buf (Elt Ideal) ((c.tc : Thread Cert.StepKernelIdeal.nD Cert.StepKernelIdeal.τ).loc Cert.StepKernelIdeal.main_v24_1)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v24_0) = v0 c
          ∧ r.2.mem ((c.tc : Thread Cert.StepKernelIdeal.nD Cert.StepKernelIdeal.τ).loc Cert.StepKernelIdeal.main_v24_1) = v1 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v94) = v0 c
          ∧ r.2.mem ((c.tc : Thread Cert.StepReferenceIdeal.nD Cert.StepReferenceIdeal.τ).loc Cert.StepReferenceIdeal.main_v75) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v11)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v11) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v27) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_SProjKernel_SProjKernelIdeal : Prop :=
  True

def algebraic_SProjKernelIdeal_SProjReferenceIdeal [hSProjKernelIdeal : Cert.SProjKernelIdeal.Facts] [hSProjReferenceIdeal : Cert.SProjReferenceIdeal.Facts] : Prop :=
  ∀ (m : (ℓ : Loc Cert.SProjKernelIdeal.nD Cert.SProjKernelIdeal.τ Cert.SProjKernelIdeal.sig) → Buf (Elt Ideal) ℓ) (g : Dev Cert.SProjKernelIdeal.nD → PrngReg)
    (m' : (ℓ : Loc Cert.SProjReferenceIdeal.nD Cert.SProjReferenceIdeal.τ Cert.SProjReferenceIdeal.sig) → Buf (Elt Ideal) ℓ) (g' : Dev Cert.SProjReferenceIdeal.nD → PrngReg), Pre_SProjKernelIdeal m →
    (∀ c : Dev Cert.SProjKernelIdeal.nD,
      m' ((c.tc : Thread Cert.SProjReferenceIdeal.nD Cert.SProjReferenceIdeal.τ).loc Cert.SProjReferenceIdeal.main_arg0) = m ((c.tc : Thread Cert.SProjKernelIdeal.nD Cert.SProjKernelIdeal.τ).loc Cert.SProjKernelIdeal.main_arg0)
      ∧ m' ((c.tc : Thread Cert.SProjReferenceIdeal.nD Cert.SProjReferenceIdeal.τ).loc Cert.SProjReferenceIdeal.main_arg1) = m ((c.tc : Thread Cert.SProjKernelIdeal.nD Cert.SProjKernelIdeal.τ).loc Cert.SProjKernelIdeal.main_arg1)
      ∧ m' ((c.tc : Thread Cert.SProjReferenceIdeal.nD Cert.SProjReferenceIdeal.τ).loc Cert.SProjReferenceIdeal.main_arg2) = m ((c.tc : Thread Cert.SProjKernelIdeal.nD Cert.SProjKernelIdeal.τ).loc Cert.SProjKernelIdeal.main_arg2)) →
    ∃ (v0 : (c : Dev Cert.SProjKernelIdeal.nD) → Buf (Elt Ideal) ((c.tc : Thread Cert.SProjKernelIdeal.nD Cert.SProjKernelIdeal.τ).loc Cert.SProjKernelIdeal.main_v10)),
      θ_run (Cert.SProjKernelIdeal.defs (F := Ideal)) (onTc (τ := Cert.SProjKernelIdeal.τ) (Cert.SProjKernelIdeal.main (F := Ideal))) ⟨m, fun _ => 0, g⟩ (fun r => ∀ c : Dev Cert.SProjKernelIdeal.nD,
          r.2.mem ((c.tc : Thread Cert.SProjKernelIdeal.nD Cert.SProjKernelIdeal.τ).loc Cert.SProjKernelIdeal.main_v10) = v0 c
          ∧ r.2.mem ((c.tc : Thread Cert.SProjKernelIdeal.nD Cert.SProjKernelIdeal.τ).loc Cert.SProjKernelIdeal.main_arg0) = m ((c.tc : Thread Cert.SProjKernelIdeal.nD Cert.SProjKernelIdeal.τ).loc Cert.SProjKernelIdeal.main_arg0)
          ∧ r.2.mem ((c.tc : Thread Cert.SProjKernelIdeal.nD Cert.SProjKernelIdeal.τ).loc Cert.SProjKernelIdeal.main_arg1) = m ((c.tc : Thread Cert.SProjKernelIdeal.nD Cert.SProjKernelIdeal.τ).loc Cert.SProjKernelIdeal.main_arg1)
          ∧ r.2.mem ((c.tc : Thread Cert.SProjKernelIdeal.nD Cert.SProjKernelIdeal.τ).loc Cert.SProjKernelIdeal.main_arg2) = m ((c.tc : Thread Cert.SProjKernelIdeal.nD Cert.SProjKernelIdeal.τ).loc Cert.SProjKernelIdeal.main_arg2))
      ∧ θ_run (Cert.SProjReferenceIdeal.defs (F := Ideal)) (onTc (τ := Cert.SProjReferenceIdeal.τ) (Cert.SProjReferenceIdeal.main (F := Ideal))) ⟨m', fun _ => 0, g'⟩ (fun r => ∀ c : Dev Cert.SProjReferenceIdeal.nD,
          r.2.mem ((c.tc : Thread Cert.SProjReferenceIdeal.nD Cert.SProjReferenceIdeal.τ).loc Cert.SProjReferenceIdeal.main_v27) = v0 c
          ∧ r.2.mem ((c.tc : Thread Cert.SProjReferenceIdeal.nD Cert.SProjReferenceIdeal.τ).loc Cert.SProjReferenceIdeal.main_arg0) = m' ((c.tc : Thread Cert.SProjReferenceIdeal.nD Cert.SProjReferenceIdeal.τ).loc Cert.SProjReferenceIdeal.main_arg0)
          ∧ r.2.mem ((c.tc : Thread Cert.SProjReferenceIdeal.nD Cert.SProjReferenceIdeal.τ).loc Cert.SProjReferenceIdeal.main_arg1) = m' ((c.tc : Thread Cert.SProjReferenceIdeal.nD Cert.SProjReferenceIdeal.τ).loc Cert.SProjReferenceIdeal.main_arg1)
          ∧ r.2.mem ((c.tc : Thread Cert.SProjReferenceIdeal.nD Cert.SProjReferenceIdeal.τ).loc Cert.SProjReferenceIdeal.main_arg2) = m' ((c.tc : Thread Cert.SProjReferenceIdeal.nD Cert.SProjReferenceIdeal.τ).loc Cert.SProjReferenceIdeal.main_arg2))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v7)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v7) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v9) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v6)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v6) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_DnKernel_DnKernelIdeal : Prop :=
  True

def algebraic_DnKernelIdeal_DnReferenceIdeal [hDnKernelIdeal : Cert.DnKernelIdeal.Facts] [hDnReferenceIdeal : Cert.DnReferenceIdeal.Facts] [hPre_in_range : Cert.Pre_in_range.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)
      ∧ m' ((c.tc : Thread Cert.DnReferenceIdeal.nD Cert.DnReferenceIdeal.τ).loc Cert.DnReferenceIdeal.main_arg2) = m ((c.tc : Thread Cert.DnKernelIdeal.nD Cert.DnKernelIdeal.τ).loc Cert.DnKernelIdeal.main_arg2)
      ∧ m' ((c.tc : Thread Cert.DnReferenceIdeal.nD Cert.DnReferenceIdeal.τ).loc Cert.DnReferenceIdeal.main_arg3) = m ((c.tc : Thread Cert.DnKernelIdeal.nD Cert.DnKernelIdeal.τ).loc Cert.DnKernelIdeal.main_arg3)
      ∧ m' ((c.tc : Thread Cert.DnReferenceIdeal.nD Cert.DnReferenceIdeal.τ).loc Cert.DnReferenceIdeal.main_arg4) = m ((c.tc : Thread Cert.DnKernelIdeal.nD Cert.DnKernelIdeal.τ).loc Cert.DnKernelIdeal.main_arg4)) →
    ∃ (v0 : (c : Dev Cert.DnKernelIdeal.nD) → Buf (Elt Ideal) ((c.tc : Thread Cert.DnKernelIdeal.nD Cert.DnKernelIdeal.τ).loc Cert.DnKernelIdeal.main_v3)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v3) = v0 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
          ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
          ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
          ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v29) = v0 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3)
          ∧ r.2.mem ((c.tc : Thread Cert.DnReferenceIdeal.nD Cert.DnReferenceIdeal.τ).loc Cert.DnReferenceIdeal.main_arg4) = m' ((c.tc : Thread Cert.DnReferenceIdeal.nD Cert.DnReferenceIdeal.τ).loc Cert.DnReferenceIdeal.main_arg4))

def preserves_GuKernel_GuKernelIdeal : Prop :=
  True

def algebraic_GuKernelIdeal_GuReferenceIdeal [hGuKernelIdeal : Cert.GuKernelIdeal.Facts] [hGuReferenceIdeal : Cert.GuReferenceIdeal.Facts] [hPre_in_range_gu : Cert.Pre_in_range_gu.Facts] : Prop :=
  ∀ (m : (ℓ : Loc Cert.GuKernelIdeal.nD Cert.GuKernelIdeal.τ Cert.GuKernelIdeal.sig) → Buf (Elt Ideal) ℓ) (g : Dev Cert.GuKernelIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuKernelIdeal m →
    (∀ c : Dev Cert.GuKernelIdeal.nD,
      m' ((c.tc : Thread Cert.GuReferenceIdeal.nD Cert.GuReferenceIdeal.τ).loc Cert.GuReferenceIdeal.main_arg0) = m ((c.tc : Thread Cert.GuKernelIdeal.nD Cert.GuKernelIdeal.τ).loc Cert.GuKernelIdeal.main_arg0)
      ∧ m' ((c.tc : Thread Cert.GuReferenceIdeal.nD Cert.GuReferenceIdeal.τ).loc Cert.GuReferenceIdeal.main_arg1) = m ((c.tc : Thread Cert.GuKernelIdeal.nD Cert.GuKernelIdeal.τ).loc Cert.GuKernelIdeal.main_arg1)
      ∧ m' ((c.tc : Thread Cert.GuReferenceIdeal.nD Cert.GuReferenceIdeal.τ).loc Cert.GuReferenceIdeal.main_arg2) = m ((c.tc : Thread Cert.GuKernelIdeal.nD Cert.GuKernelIdeal.τ).loc Cert.GuKernelIdeal.main_arg2)
      ∧ m' ((c.tc : Thread Cert.GuReferenceIdeal.nD Cert.GuReferenceIdeal.τ).loc Cert.GuReferenceIdeal.main_arg3) = m ((c.tc : Thread Cert.GuKernelIdeal.nD Cert.GuKernelIdeal.τ).loc Cert.GuKernelIdeal.main_arg3)
      ∧ m' ((c.tc : Thread Cert.GuReferenceIdeal.nD Cert.GuReferenceIdeal.τ).loc Cert.GuReferenceIdeal.main_arg4) = m ((c.tc : Thread Cert.GuKernelIdeal.nD Cert.GuKernelIdeal.τ).loc Cert.GuKernelIdeal.main_arg4)) →
    ∃ (v0 : (c : Dev Cert.GuKernelIdeal.nD) → Buf (Elt Ideal) ((c.tc : Thread Cert.GuKernelIdeal.nD Cert.GuKernelIdeal.τ).loc Cert.GuKernelIdeal.main_v13)),
      θ_run (Cert.GuKernelIdeal.defs (F := Ideal)) (onTc (τ := Cert.GuKernelIdeal.τ) (Cert.GuKernelIdeal.main (F := Ideal))) ⟨m, fun _ => 0, g⟩ (fun r => ∀ c : Dev Cert.GuKernelIdeal.nD,
          r.2.mem ((c.tc : Thread Cert.GuKernelIdeal.nD Cert.GuKernelIdeal.τ).loc Cert.GuKernelIdeal.main_v13) = v0 c
          ∧ r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
          ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1)
          ∧ r.2.mem ((c.tc : Thread Cert.GuKernelIdeal.nD Cert.GuKernelIdeal.τ).loc Cert.GuKernelIdeal.main_arg2) = m ((c.tc : Thread Cert.GuKernelIdeal.nD Cert.GuKernelIdeal.τ).loc Cert.GuKernelIdeal.main_arg2)
          ∧ r.2.mem ((c.tc : Thread Cert.GuKernelIdeal.nD Cert.GuKernelIdeal.τ).loc Cert.GuKernelIdeal.main_arg3) = m ((c.tc : Thread Cert.GuKernelIdeal.nD Cert.GuKernelIdeal.τ).loc Cert.GuKernelIdeal.main_arg3)
          ∧ r.2.mem ((c.tc : Thread Cert.GuKernelIdeal.nD Cert.GuKernelIdeal.τ).loc Cert.GuKernelIdeal.main_arg4) = m ((c.tc : Thread Cert.GuKernelIdeal.nD Cert.GuKernelIdeal.τ).loc Cert.GuKernelIdeal.main_arg4))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v46) = v0 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1)
          ∧ r.2.mem ((c.tc : Thread Cert.GuReferenceIdeal.nD Cert.GuReferenceIdeal.τ).loc Cert.GuReferenceIdeal.main_arg2) = m' ((c.tc : Thread Cert.GuReferenceIdeal.nD Cert.GuReferenceIdeal.τ).loc Cert.GuReferenceIdeal.main_arg2)
          ∧ r.2.mem ((c.tc : Thread Cert.GuReferenceIdeal.nD Cert.GuReferenceIdeal.τ).loc Cert.GuReferenceIdeal.main_arg3) = m' ((c.tc : Thread Cert.GuReferenceIdeal.nD Cert.GuReferenceIdeal.τ).loc Cert.GuReferenceIdeal.main_arg3)
          ∧ r.2.mem ((c.tc : Thread Cert.GuReferenceIdeal.nD Cert.GuReferenceIdeal.τ).loc Cert.GuReferenceIdeal.main_arg4) = m' ((c.tc : Thread Cert.GuReferenceIdeal.nD Cert.GuReferenceIdeal.τ).loc Cert.GuReferenceIdeal.main_arg4))

def preserves_CrossKernel_CrossKernelIdeal : Prop :=
  True

def algebraic_CrossKernelIdeal_CrossReferenceIdeal [hCrossKernelIdeal : Cert.CrossKernelIdeal.Facts] [hCrossReferenceIdeal : Cert.CrossReferenceIdeal.Facts] : Prop :=
  ∀ (m : (ℓ : Loc Cert.CrossKernelIdeal.nD Cert.CrossKernelIdeal.τ Cert.CrossKernelIdeal.sig) → Buf (Elt Ideal) ℓ) (g : Dev Cert.CrossKernelIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossKernelIdeal m →
    (∀ c : Dev Cert.CrossKernelIdeal.nD,
      m' ((c.tc : Thread Cert.CrossReferenceIdeal.nD Cert.CrossReferenceIdeal.τ).loc Cert.CrossReferenceIdeal.main_arg0) = m ((c.tc : Thread Cert.CrossKernelIdeal.nD Cert.CrossKernelIdeal.τ).loc Cert.CrossKernelIdeal.main_arg0)
      ∧ m' ((c.tc : Thread Cert.CrossReferenceIdeal.nD Cert.CrossReferenceIdeal.τ).loc Cert.CrossReferenceIdeal.main_arg1) = m ((c.tc : Thread Cert.CrossKernelIdeal.nD Cert.CrossKernelIdeal.τ).loc Cert.CrossKernelIdeal.main_arg1)
      ∧ m' ((c.tc : Thread Cert.CrossReferenceIdeal.nD Cert.CrossReferenceIdeal.τ).loc Cert.CrossReferenceIdeal.main_arg2) = m ((c.tc : Thread Cert.CrossKernelIdeal.nD Cert.CrossKernelIdeal.τ).loc Cert.CrossKernelIdeal.main_arg2)
      ∧ m' ((c.tc : Thread Cert.CrossReferenceIdeal.nD Cert.CrossReferenceIdeal.τ).loc Cert.CrossReferenceIdeal.main_arg3) = m ((c.tc : Thread Cert.CrossKernelIdeal.nD Cert.CrossKernelIdeal.τ).loc Cert.CrossKernelIdeal.main_arg3)
      ∧ m' ((c.tc : Thread Cert.CrossReferenceIdeal.nD Cert.CrossReferenceIdeal.τ).loc Cert.CrossReferenceIdeal.main_arg4) = m ((c.tc : Thread Cert.CrossKernelIdeal.nD Cert.CrossKernelIdeal.τ).loc Cert.CrossKernelIdeal.main_arg4)) →
    ∃ (v0 : (c : Dev Cert.CrossKernelIdeal.nD) → Buf (Elt Ideal) ((c.tc : Thread Cert.CrossKernelIdeal.nD Cert.CrossKernelIdeal.τ).loc Cert.CrossKernelIdeal.main_v6)),
      θ_run (Cert.CrossKernelIdeal.defs (F := Ideal)) (onTc (τ := Cert.CrossKernelIdeal.τ) (Cert.CrossKernelIdeal.main (F := Ideal))) ⟨m, fun _ => 0, g⟩ (fun r => ∀ c : Dev Cert.CrossKernelIdeal.nD,
          r.2.mem ((c.tc : Thread Cert.CrossKernelIdeal.nD Cert.CrossKernelIdeal.τ).loc Cert.CrossKernelIdeal.main_v6) = v0 c
          ∧ r.2.mem ((c.tc : Thread Cert.CrossKernelIdeal.nD Cert.CrossKernelIdeal.τ).loc Cert.CrossKernelIdeal.main_arg0) = m ((c.tc : Thread Cert.CrossKernelIdeal.nD Cert.CrossKernelIdeal.τ).loc Cert.CrossKernelIdeal.main_arg0)
          ∧ r.2.mem ((c.tc : Thread Cert.CrossKernelIdeal.nD Cert.CrossKernelIdeal.τ).loc Cert.CrossKernelIdeal.main_arg1) = m ((c.tc : Thread Cert.CrossKernelIdeal.nD Cert.CrossKernelIdeal.τ).loc Cert.CrossKernelIdeal.main_arg1)
          ∧ r.2.mem ((c.tc : Thread Cert.CrossKernelIdeal.nD Cert.CrossKernelIdeal.τ).loc Cert.CrossKernelIdeal.main_arg2) = m ((c.tc : Thread Cert.CrossKernelIdeal.nD Cert.CrossKernelIdeal.τ).loc Cert.CrossKernelIdeal.main_arg2)
          ∧ r.2.mem ((c.tc : Thread Cert.CrossKernelIdeal.nD Cert.CrossKernelIdeal.τ).loc Cert.CrossKernelIdeal.main_arg3) = m ((c.tc : Thread Cert.CrossKernelIdeal.nD Cert.CrossKernelIdeal.τ).loc Cert.CrossKernelIdeal.main_arg3)
          ∧ r.2.mem ((c.tc : Thread Cert.CrossKernelIdeal.nD Cert.CrossKernelIdeal.τ).loc Cert.CrossKernelIdeal.main_arg4) = m ((c.tc : Thread Cert.CrossKernelIdeal.nD Cert.CrossKernelIdeal.τ).loc Cert.CrossKernelIdeal.main_arg4))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v41) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4))

def Claim : Prop :=
  ∃ (hStepKernel : Cert.StepKernel.Facts) (hStepKernelIdeal : Cert.StepKernelIdeal.Facts) (hStepReferenceIdeal : Cert.StepReferenceIdeal.Facts) (hProjKernel : Cert.ProjKernel.Facts) (hProjKernelIdeal : Cert.ProjKernelIdeal.Facts) (hProjReferenceIdeal : Cert.ProjReferenceIdeal.Facts) (hSProjKernel : Cert.SProjKernel.Facts) (hSProjKernelIdeal : Cert.SProjKernelIdeal.Facts) (hSProjReferenceIdeal : Cert.SProjReferenceIdeal.Facts) (hMemKernel : Cert.MemKernel.Facts) (hMemKernelIdeal : Cert.MemKernelIdeal.Facts) (hMemReferenceIdeal : Cert.MemReferenceIdeal.Facts) (hMergeKernel : Cert.MergeKernel.Facts) (hMergeKernelIdeal : Cert.MergeKernelIdeal.Facts) (hMergeReferenceIdeal : Cert.MergeReferenceIdeal.Facts) (hDnKernel : Cert.DnKernel.Facts) (hDnKernelIdeal : Cert.DnKernelIdeal.Facts) (hDnReferenceIdeal : Cert.DnReferenceIdeal.Facts) (hGuKernel : Cert.GuKernel.Facts) (hGuKernelIdeal : Cert.GuKernelIdeal.Facts) (hGuReferenceIdeal : Cert.GuReferenceIdeal.Facts) (hCrossKernel : Cert.CrossKernel.Facts) (hCrossKernelIdeal : Cert.CrossKernelIdeal.Facts) (hCrossReferenceIdeal : Cert.CrossReferenceIdeal.Facts) (hPre_finite : Cert.Pre_finite.Facts) (hPre_in_range : Cert.Pre_in_range.Facts) (hPre_in_range_gu : Cert.Pre_in_range_gu.Facts),
    quiescent_StepKernel (hStepKernel := hStepKernel)
    ∧ quiescent_StepKernelIdeal (hStepKernelIdeal := hStepKernelIdeal)
    ∧ quiescent_StepKernelIdeal_pre_finite (hStepKernelIdeal := hStepKernelIdeal) (hPre_finite := hPre_finite)
    ∧ quiescent_StepReferenceIdeal (hStepReferenceIdeal := hStepReferenceIdeal)
    ∧ quiescent_StepReferenceIdeal_pre_finite (hStepReferenceIdeal := hStepReferenceIdeal) (hPre_finite := hPre_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_SProjKernel (hSProjKernel := hSProjKernel)
    ∧ quiescent_SProjKernelIdeal (hSProjKernelIdeal := hSProjKernelIdeal)
    ∧ quiescent_SProjReferenceIdeal (hSProjReferenceIdeal := hSProjReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_DnKernel (hDnKernel := hDnKernel) (hPre_in_range := hPre_in_range)
    ∧ quiescent_DnKernelIdeal (hDnKernelIdeal := hDnKernelIdeal) (hPre_in_range := hPre_in_range)
    ∧ quiescent_DnReferenceIdeal (hDnReferenceIdeal := hDnReferenceIdeal)
    ∧ quiescent_DnReferenceIdeal_pre_in_range (hDnReferenceIdeal := hDnReferenceIdeal) (hPre_in_range := hPre_in_range)
    ∧ quiescent_GuKernel (hGuKernel := hGuKernel) (hPre_in_range_gu := hPre_in_range_gu)
    ∧ quiescent_GuKernelIdeal (hGuKernelIdeal := hGuKernelIdeal) (hPre_in_range_gu := hPre_in_range_gu)
    ∧ quiescent_GuReferenceIdeal (hGuReferenceIdeal := hGuReferenceIdeal)
    ∧ quiescent_GuReferenceIdeal_pre_in_range_gu (hGuReferenceIdeal := hGuReferenceIdeal) (hPre_in_range_gu := hPre_in_range_gu)
    ∧ quiescent_CrossKernel (hCrossKernel := hCrossKernel)
    ∧ quiescent_CrossKernelIdeal (hCrossKernelIdeal := hCrossKernelIdeal)
    ∧ quiescent_CrossReferenceIdeal (hCrossReferenceIdeal := hCrossReferenceIdeal)
    ∧ preserves_StepKernel_StepKernelIdeal
    ∧ algebraic_StepKernelIdeal_StepReferenceIdeal_pre_finite (hStepKernelIdeal := hStepKernelIdeal) (hStepReferenceIdeal := hStepReferenceIdeal) (hPre_finite := hPre_finite)
    ∧ preserves_ProjKernel_ProjKernelIdeal
    ∧ algebraic_ProjKernelIdeal_ProjReferenceIdeal (hProjKernelIdeal := hProjKernelIdeal) (hProjReferenceIdeal := hProjReferenceIdeal)
    ∧ preserves_SProjKernel_SProjKernelIdeal
    ∧ algebraic_SProjKernelIdeal_SProjReferenceIdeal (hSProjKernelIdeal := hSProjKernelIdeal) (hSProjReferenceIdeal := hSProjReferenceIdeal)
    ∧ preserves_MemKernel_MemKernelIdeal
    ∧ algebraic_MemKernelIdeal_MemReferenceIdeal (hMemKernelIdeal := hMemKernelIdeal) (hMemReferenceIdeal := hMemReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_DnKernel_DnKernelIdeal
    ∧ algebraic_DnKernelIdeal_DnReferenceIdeal (hDnKernelIdeal := hDnKernelIdeal) (hDnReferenceIdeal := hDnReferenceIdeal) (hPre_in_range := hPre_in_range)
    ∧ preserves_GuKernel_GuKernelIdeal
    ∧ algebraic_GuKernelIdeal_GuReferenceIdeal (hGuKernelIdeal := hGuKernelIdeal) (hGuReferenceIdeal := hGuReferenceIdeal) (hPre_in_range_gu := hPre_in_range_gu)
    ∧ preserves_CrossKernel_CrossKernelIdeal
    ∧ algebraic_CrossKernelIdeal_CrossReferenceIdeal (hCrossKernelIdeal := hCrossKernelIdeal) (hCrossReferenceIdeal := hCrossReferenceIdeal)
-- ==== Pre_finite.lean ====
abbrev S32x10776 : Shape := ⟨2, ![32, 10776]⟩
abbrev S2x1024 : Shape := ⟨2, ![2, 1024]⟩
abbrev S1x1024 : Shape := ⟨2, ![1, 1024]⟩
abbrev S1x32x8x128x128 : Shape := ⟨5, ![1, 32, 8, 128, 128]⟩
abbrev S_ : Shape := ⟨0, ![]⟩

class Facts : Prop where
  bcast_S_S32x10776 : S_.BroadcastsInDim S32x10776 (![] : Fin 0 → Fin S32x10776.rank)
  reducesTo_S32x10776_S_d0_1 : S32x10776.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x32x8x128x128 : S_.BroadcastsInDim S1x32x8x128x128 (![] : Fin 0 → Fin S1x32x8x128x128.rank)
  reducesTo_S1x32x8x128x128_S_d0_1_2_3_4 : S1x32x8x128x128.ReducesTo [0, 1, 2, 3, 4] S_

variable [Facts]

def fn {F : FTy → Type} [FloatOps F] (main_arg0 : FVec F S32x10776 .f32) (main_arg1 : FVec F S2x1024 .f32) (main_arg2 : FVec F S1x1024 .f32) (main_arg3 : FVec F S1x32x8x128x128 .f32) : IVec S_ 1 :=
  let main_v0 : FVec F S32x10776 .f32 := Host.absf main_arg0
  let main_cst : FVec F S_ .f32 := constant S_ .f32 0x7F800000#32
  let main_v1 : FVec F S32x10776 .f32 := broadcastInDim S32x10776 ![] bcast_S_S32x10776 main_cst
  let main_v2 : IVec S32x10776 1 := cmpf .olt main_v0 main_v1
  let main_c : IVec S_ 1 := constantI S_ 1 1#1
  let main_v3 : IVec S_ 1 := (fun x v => Host.reduce IntOp.andi x v reducesTo_S32x10776_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S1x32x8x128x128 .f32 := Host.absf main_arg3
  let main_cst_2 : FVec F S_ .f32 := constant S_ .f32 0x7F800000#32
  let main_v10 : FVec F S1x32x8x128x128 .f32 := broadcastInDim S1x32x8x128x128 ![] bcast_S_S1x32x8x128x128 main_cst_2
  let main_v11 : IVec S1x32x8x128x128 1 := cmpf .olt main_v9 main_v10
  let main_c_3 : IVec S_ 1 := constantI S_ 1 1#1
  let main_v12 : IVec S_ 1 := (fun x v => Host.reduce IntOp.andi x v reducesTo_S1x32x8x128x128_S_d0_1_2_3_4 h_S_) main_v11 main_c_3
  let main_v13 : IVec S_ 1 := andi main_v8 main_v12
  main_v13
-- ==== Pre_in_range.lean ====
abbrev S73984x2048 : Shape := ⟨2, ![73984, 2048]⟩
abbrev S289 : Shape := ⟨1, ![289]⟩
abbrev S1 : Shape := ⟨1, ![1]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S289 : S_.BroadcastsInDim S289 (![] : Fin 0 → Fin S289.rank)
  reducesTo_S289_S_d0 : S289.ReducesTo [0] S_
  h_S_ : 0 < S_.numel

variable [Facts]

def fn {F : FTy → Type} [FloatOps F] (main_arg0 : FVec F S73984x2048 .bf16) (main_arg1 : IVec S289 32) (main_arg2 : IVec S1 32) (main_arg3 : FVec F S1x32x2048x2048 .f32) (main_arg4 : FVec F S1x32x2048 .f32) : IVec S_ 1 :=
  let main_c : IVec S_ 32 := constantI S_ 32 0#32
  let main_v0 : IVec S289 32 := broadcastInDim S289 ![] bcast_S_S289 main_c
  let main_v1 : IVec S289 1 := cmpi .sge main_arg1 main_v0
  let main_c_0 : IVec S_ 32 := constantI S_ 32 32#32
  let main_v2 : IVec S289 32 := broadcastInDim S289 ![] bcast_S_S289 main_c_0
  let main_v3 : IVec S289 1 := cmpi .slt main_arg1 main_v2
  let main_v4 : IVec S289 1 := andi main_v1 main_v3
  let main_c_1 : IVec S_ 1 := constantI S_ 1 1#1
  let main_v5 : IVec S_ 1 := (fun x v => Host.reduce IntOp.andi x v reducesTo_S289_S_d0 h_S_) main_v4 main_c_1
  main_v5
-- ==== Pre_in_range_gu.lean ====
abbrev S73984x2048 : Shape := ⟨2, ![73984, 2048]⟩
abbrev S289 : Shape := ⟨1, ![289]⟩
abbrev S1 : Shape := ⟨1, ![1]⟩
abbrev S1x32x2048x4096 : Shape := ⟨4, ![1, 32, 2048, 4096]⟩
abbrev S1x32x4096 : Shape := ⟨3, ![1, 32, 4096]⟩
abbrev S_ : Shape := ⟨0, ![]⟩

class Facts : Prop where
  bcast_S_S289 : S_.BroadcastsInDim S289 (![] : Fin 0 → Fin S289.rank)
  reducesTo_S289_S_d0 : S289.ReducesTo [0] S_
  h_S_ : 0 < S_.numel

variable [Facts]

def fn {F : FTy → Type} [FloatOps F] (main_arg0 : FVec F S73984x2048 .bf16) (main_arg1 : IVec S289 32) (main_arg2 : IVec S1 32) (main_arg3 : FVec F S1x32x2048x4096 .f32) (main_arg4 : FVec F S1x32x4096 .f32) : IVec S_ 1 :=
  let main_c : IVec S_ 32 := constantI S_ 32 0#32
  let main_v0 : IVec S289 32 := broadcastInDim S289 ![] bcast_S_S289 main_c
  let main_v1 : IVec S289 1 := cmpi .sge main_arg1 main_v0
  let main_c_0 : IVec S_ 32 := constantI S_ 32 32#32
  let main_v2 : IVec S289 32 := broadcastInDim S289 ![] bcast_S_S289 main_c_0
  let main_v3 : IVec S289 1 := cmpi .slt main_arg1 main_v2
  let main_v4 : IVec S289 1 := andi main_v1 main_v3
  let main_c_1 : IVec S_ 1 := constantI S_ 1 1#1
  let main_v5 : IVec S_ 1 := (fun x v => Host.reduce IntOp.andi x v reducesTo_S289_S_d0 h_S_) main_v4 main_c_1
  main_v5
-- ==== StepKernel.lean ====
abbrev S32x10776 : Shape := ⟨2, ![32, 10776]⟩
abbrev S2x1024 : Shape := ⟨2, ![2, 1024]⟩
abbrev S1x1024 : Shape := ⟨2, ![1, 1024]⟩
abbrev S1x32x8x128x128 : Shape := ⟨5, ![1, 32, 8, 128, 128]⟩
abbrev S_ : Shape := ⟨0, ![]⟩
abbrev S1024 : Shape := ⟨1, ![1024]⟩
abbrev S32x488 : Shape := ⟨2, ![32, 488]⟩
abbrev S32x4096 : Shape := ⟨2, ![32, 4096]⟩
abbrev S32x2560 : Shape := ⟨2, ![32, 2560]⟩
abbrev S32x24 : Shape := ⟨2, ![32, 24]⟩
abbrev S32x11264 : Shape := ⟨2, ![32, 11264]⟩
abbrev S32x8x128x128 : Shape := ⟨4, ![32, 8, 128, 128]⟩
abbrev S8x1x128 : Shape := ⟨3, ![8, 1, 128]⟩
abbrev S32x1024 : Shape := ⟨2, ![32, 1024]⟩
abbrev S32x128 : Shape := ⟨2, ![32, 128]⟩
abbrev S1x1x128 : Shape := ⟨3, ![1, 1, 128]⟩
abbrev S32x1x128x128 : Shape := ⟨4, ![32, 1, 128, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x1x128x128 : Shape := ⟨4, ![1, 1, 128, 128]⟩
abbrev S32 : Shape := ⟨1, ![32]⟩
abbrev S32x1 : Shape := ⟨2, ![32, 1]⟩

abbrev nBuf : Space → Nat
  | .hbm => 36
  | .vmem => 18
  | .smem => 0
  | _ => 0

abbrev bufTy : (tb : Table) → Fin (tcTables nBuf tb) → BufTy
  | .hbm, ⟨0, _⟩ => ⟨S32x10776, .f32⟩
  | .hbm, ⟨1, _⟩ => ⟨S2x1024, .f32⟩
  | .hbm, ⟨2, _⟩ => ⟨S1x1024, .f32⟩
  | .hbm, ⟨3, _⟩ => ⟨S1x32x8x128x128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S_, .f32⟩
  | .hbm, ⟨22, _⟩ => ⟨S32x488, .f32⟩
  | .hbm, ⟨23, _⟩ => ⟨S32x4096, .f32⟩
  | .hbm, ⟨24, _⟩ => ⟨S32x2560, .f32⟩
  | .hbm, ⟨25, _⟩ => ⟨S32x4096, .f32⟩
  | .hbm, ⟨26, _⟩ => ⟨S32x24, .f32⟩
  | .hbm, ⟨27, _⟩ => ⟨S32x11264, .f32⟩
  | .hbm, ⟨28, _⟩ => ⟨S32x8x128x128, .f32⟩
  | .hbm, ⟨29, _⟩ => ⟨S1x1024, .f32⟩
  | .hbm, ⟨30, _⟩ => ⟨S1024, .f32⟩
  | .hbm, ⟨31, _⟩ => ⟨S1024, .f32⟩
  | .hbm, ⟨32, _⟩ => ⟨S8x1x128, .f32⟩
  | .hbm, ⟨33, _⟩ => ⟨S8x1x128, .f32⟩
  | .hbm, ⟨34, _⟩ => ⟨S32x1024, .f32⟩
  | .hbm, ⟨35, _⟩ => ⟨S32x8x128x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S32x1x128x128, .f32⟩
  | .local _ .vmem, ⟨13, _⟩ => ⟨S32x1x128x128, .f32⟩
  | .local _ .vmem, ⟨14, _⟩ => ⟨S32x128, .f32⟩
  | .local _ .vmem, ⟨15, _⟩ => ⟨S32x128, .f32⟩
  | .local _ .vmem, ⟨16, _⟩ => ⟨S32x1x128x128, .f32⟩
  | .local _ .vmem, ⟨17, _⟩ => ⟨S32x1x128x128, .f32⟩
  | _, _ => ⟨S32x10776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c52_i32 : BitVec 32 := 52#32
  let v0 : BitVec 32 := Scalar.addi c52_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c76_i32 : BitVec 32 := 76#32
  let v0 : BitVec 32 := Scalar.addi c76_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepReferenceIdeal.lean ====
abbrev S32x10776 : Shape := ⟨2, ![32, 10776]⟩
abbrev S2x1024 : Shape := ⟨2, ![2, 1024]⟩
abbrev S1x1024 : Shape := ⟨2, ![1, 1024]⟩
abbrev S1x32x8x128x128 : Shape := ⟨5, ![1, 32, 8, 128, 128]⟩
abbrev S32x1024 : Shape := ⟨2, ![32, 1024]⟩
abbrev S_ : Shape := ⟨0, ![]⟩
abbrev S1024 : Shape := ⟨1, ![1024]⟩
abbrev S32x8x128 : Shape := ⟨3, ![32, 8, 128]⟩
abbrev S8x128 : Shape := ⟨2, ![8, 128]⟩
abbrev S1x8x128 : Shape := ⟨3, ![1, 8, 128]⟩
abbrev S32x8x128x128 : Shape := ⟨4, ![32, 8, 128, 128]⟩
abbrev S32x8x1x128 : Shape := ⟨4, ![32, 8, 1, 128]⟩
abbrev S1 : Shape := ⟨1, ![1]⟩
abbrev S1x1 : Shape := ⟨2, ![1, 1]⟩
abbrev S32x8x1x1x128 : Shape := ⟨5, ![32, 8, 1, 1, 128]⟩
abbrev S1x1x1 : Shape := ⟨3, ![1, 1, 1]⟩
abbrev S32x8x1x1 : Shape := ⟨4, ![32, 8, 1, 1]⟩
abbrev S32x8x128x1 : Shape := ⟨4, ![32, 8, 128, 1]⟩
abbrev S32x8 : Shape := ⟨2, ![32, 8]⟩
abbrev S32x8x1 : Shape := ⟨3, ![32, 8, 1]⟩

abbrev nBuf : Space → Nat
  | .hbm => 126
  | .vmem => 0
  | .smem => 0
  | _ => 0

abbrev bufTy : (tb : Table) → Fin (tcTables nBuf tb) → BufTy
  | .hbm, ⟨0, _⟩ => ⟨S32x10776, .f32⟩
  | .hbm, ⟨1, _⟩ => ⟨S2x1024, .f32⟩
  | .hbm, ⟨2, _⟩ => ⟨S1x1024, .f32⟩
  | .hbm, ⟨3, _⟩ => ⟨S1x32x8x128x128, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S_, .f32⟩
  | .hbm, ⟨24, _⟩ => ⟨S2x1024, .f32⟩
  | .hbm, ⟨25, _⟩ => ⟨S32x8x128, .f32⟩
  | .hbm, ⟨26, _⟩ => ⟨S1x1024, .f32⟩
  | .hbm, ⟨27, _⟩ => ⟨S1024, .f32⟩
  | .hbm, ⟨28, _⟩ => ⟨S8x128, .f32⟩
  | .hbm, ⟨29, _⟩ => ⟨S_, .f32⟩
  | .hbm, ⟨30, _⟩ => ⟨S8x128, .f32⟩
  | .hbm, ⟨31, _⟩ => ⟨S8x128, .f32⟩
  | .hbm, ⟨32, _⟩ => ⟨S32x8x128, .f32⟩
  | .hbm, ⟨33, _⟩ => ⟨S32x8x128, .f32⟩
  | .hbm, ⟨34, _⟩ => ⟨S32x8x128, .f32⟩
  | .hbm, ⟨35, _⟩ => ⟨S_, .f32⟩
  | .hbm, ⟨36, _⟩ => ⟨S32x8x128, .f32⟩
  | .hbm, ⟨37, _⟩ => ⟨S32x8x128, .f32⟩
  | .hbm, ⟨38, _⟩ => ⟨S_, .f32⟩
  | .hbm, ⟨39, _⟩ => ⟨S32x8x128, .f32⟩
  | .hbm, ⟨40, _⟩ => ⟨S32x8x128, .f32⟩
  | .hbm, ⟨41, _⟩ => ⟨S1x8x128, .f32⟩
  | .hbm, ⟨42, _⟩ => ⟨S32x8x128, .f32⟩
  | .hbm, ⟨43, _⟩ => ⟨S32x8x128, .f32⟩
  | .hbm, ⟨44, _⟩ => ⟨S1x8x128, .f32⟩
  | .hbm, ⟨45, _⟩ => ⟨S32x8x128, .f32⟩
  | .hbm, ⟨46, _⟩ => ⟨S32x8x128, .f32⟩
  | .hbm, ⟨47, _⟩ => ⟨S32x8x128, .f32⟩
  | .hbm, ⟨48, _⟩ => ⟨S_, .f32⟩
  | .hbm, ⟨49, _⟩ => ⟨S32x8x128, .f32⟩
  | .hbm, ⟨50, _⟩ => ⟨S32x8x128, .f32⟩
  | .hbm, ⟨51, _⟩ => ⟨S32x8x128, .f32⟩
  | .hbm, ⟨52, _⟩ => ⟨S32x8x128x128, .f32⟩
  | .hbm, ⟨53, _⟩ => ⟨S32x8x1x128, .f32⟩
  | .hbm, ⟨54, _⟩ => ⟨S32x8x1x128, .f32⟩
  | .hbm, ⟨55, _⟩ => ⟨S32x8x1x128, .f32⟩
  | .hbm, ⟨56, _⟩ => ⟨S32x8x1x128, .f32⟩
  | .hbm, ⟨57, _⟩ => ⟨S1, .i32⟩
  | .hbm, ⟨58, _⟩ => ⟨S1x1, .i32⟩
  | .hbm, ⟨59, _⟩ => ⟨S1, .i32⟩
  | .hbm, ⟨60, _⟩ => ⟨S1x1, .i32⟩
  | .hbm, ⟨61, _⟩ => ⟨S1x1, .i1⟩
  | .hbm, ⟨62, _⟩ => ⟨S_, .f32⟩
  | .hbm, ⟨63, _⟩ => ⟨S_, .f32⟩
  | .hbm, ⟨64, _⟩ => ⟨S32x8x1x128, .f32⟩
  | .hbm, ⟨65, _⟩ => ⟨S32x8x1x128, .f32⟩
  | .hbm, ⟨66, _⟩ => ⟨S32x8x1x128, .f32⟩
  | .hbm, ⟨67, _⟩ => ⟨S32x8x1x128, .f32⟩
  | .hbm, ⟨68, _⟩ => ⟨S32x8x1x1x128, .f32⟩
  | .hbm, ⟨69, _⟩ => ⟨S32x8x1x1x128, .f32⟩
  | .hbm, ⟨70, _⟩ => ⟨S32x8x1x1x128, .f32⟩
  | .hbm, ⟨71, _⟩ => ⟨S1x1x1, .i1⟩
  | .hbm, ⟨72, _⟩ => ⟨S_, .f32⟩
  | .hbm, ⟨73, _⟩ => ⟨S_, .f32⟩
  | .hbm, ⟨74, _⟩ => ⟨S32x8x1x1x128, .i1⟩
  | .hbm, ⟨75, _⟩ => ⟨S32x8x1x1x128, .f32⟩
  | .hbm, ⟨76, _⟩ => ⟨S32x8x1x1x128, .f32⟩
  | .hbm, ⟨77, _⟩ => ⟨S32x8x1x1x128, .f32⟩
  | .hbm, ⟨78, _⟩ => ⟨S32x8x1x1x128, .f32⟩
  | .hbm, ⟨79, _⟩ => ⟨S32x8x1x1x128, .f32⟩
  | .hbm, ⟨80, _⟩ => ⟨S32x8x1x1x128, .f32⟩
  | .hbm, ⟨81, _⟩ => ⟨S32x8x1x1x128, .f32⟩
  | .hbm, ⟨82, _⟩ => ⟨S_, .f32⟩
  | .hbm, ⟨83, _⟩ => ⟨S32x8x1x1, .f32⟩
  | .hbm, ⟨84, _⟩ => ⟨S32x8x1x128, .f32⟩
  | .hbm, ⟨85, _⟩ => ⟨S32x8x1x128, .f32⟩
  | .hbm, ⟨86, _⟩ => ⟨S32x8x128, .f32⟩
  | .hbm, ⟨87, _⟩ => ⟨S32x8x128, .f32⟩
  | .hbm, ⟨88, _⟩ => ⟨S32x8x128x1, .f32⟩
  | .hbm, ⟨89, _⟩ => ⟨S32x8x128x128, .f32⟩
  | .hbm, ⟨90, _⟩ => ⟨S32x8x128x128, .f32⟩
  | .hbm, ⟨91, _⟩ => ⟨S32x8x1x128, .f32⟩
  | .hbm, ⟨92, _⟩ => ⟨S32x8x1x128, .f32⟩
  | .hbm, ⟨93, _⟩ => ⟨S32x8x1x128, .f32⟩
  | .hbm, ⟨94, _⟩ => ⟨S32x8x128x128, .f32⟩
  | .hbm, ⟨95, _⟩ => ⟨S32x8x128x128, .f32⟩
  | .hbm, ⟨96, _⟩ => ⟨S32x8x128, .f32⟩
  | .hbm, ⟨97, _⟩ => ⟨S32x8x128, .f32⟩
  | .hbm, ⟨98, _⟩ => ⟨S_, .f32⟩
  | .hbm, ⟨99, _⟩ => ⟨S32x8, .f32⟩
  | .hbm, ⟨100, _⟩ => ⟨S32x8x1, .f32⟩
  | .hbm, ⟨101, _⟩ => ⟨S_, .f32⟩
  | .hbm, ⟨102, _⟩ => ⟨S32x8x1, .f32⟩
  | .hbm, ⟨103, _⟩ => ⟨S32x8x1, .f32⟩
  | .hbm, ⟨104, _⟩ => ⟨S_, .f32⟩
  | .hbm, ⟨105, _⟩ => ⟨S32x8x1, .f32⟩
  | .hbm, ⟨106, _⟩ => ⟨S32x8x1, .f32⟩
  | .hbm, ⟨107, _⟩ => ⟨S32x8x1, .f32⟩
  | .hbm, ⟨108, _⟩ => ⟨S32x8x128, .f32⟩
  | .hbm, ⟨109, _⟩ => ⟨S32x8x128, .f32⟩
  | .hbm, ⟨110, _⟩ => ⟨S1024, .f32⟩
  | .hbm, ⟨111, _⟩ => ⟨S8x128, .f32⟩
  | .hbm, ⟨112, _⟩ => ⟨S1x8x128, .f32⟩
  | .hbm, ⟨113, _⟩ => ⟨S32x8x128, .f32⟩
  | .hbm, ⟨114, _⟩ => ⟨S32x8x128, .f32⟩
  | .hbm, ⟨115, _⟩ => ⟨S32x1024, .f32⟩
  | .hbm, ⟨116, _⟩ => ⟨S32x1024, .f32⟩
  | .hbm, ⟨117, _⟩ => ⟨S32x1024, .f32⟩
  | .hbm, ⟨118, _⟩ => ⟨S_, .f32⟩
  | .hbm, ⟨119, _⟩ => ⟨S32x1024, .f32⟩
  | .hbm, ⟨120, _⟩ => ⟨S32x1024, .f32⟩
  | .hbm, ⟨121, _⟩ => ⟨S_, .f32⟩
  | .hbm, ⟨122, _⟩ => ⟨S32x1024, .f32⟩
  | .hbm, ⟨123, _⟩ => ⟨S32x1024, .f32⟩
  | .hbm, ⟨124, _⟩ => ⟨S32x1024, .f32⟩
  | .hbm, ⟨125, _⟩ => ⟨S32x1024, .f32⟩
  | _, _ => ⟨S32x10776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_call0_cst : Ref sig .tc := ⟨.hbm, 62, rfl⟩
abbrev main_call1_call0_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== ProjKernel.lean ====
abbrev S2x8192x2048 : Shape := ⟨3, ![2, 8192, 2048]⟩
abbrev S1x2048 : Shape := ⟨2, ![1, 2048]⟩
abbrev S1x2048x10776 : Shape := ⟨3, ![1, 2048, 10776]⟩
abbrev S16384x2048 : Shape := ⟨2, ![16384, 2048]⟩
abbrev S2048 : Shape := ⟨1, ![2048]⟩
abbrev S2048x10776 : Shape := ⟨2, ![2048, 10776]⟩
abbrev S_ : Shape := ⟨0, ![]⟩
abbrev S2048x488 : Shape := ⟨2, ![2048, 488]⟩
abbrev S2048x4096 : Shape := ⟨2, ![2048, 4096]⟩
abbrev S2048x2560 : Shape := ⟨2, ![2048, 2560]⟩
abbrev S2048x24 : Shape := ⟨2, ![2048, 24]⟩
abbrev S2048x11264 : Shape := ⟨2, ![2048, 11264]⟩
abbrev S16384x11264 : Shape := ⟨2, ![16384, 11264]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x10776, .f32⟩
  | .hbm, ⟨3, _⟩ => ⟨S16384x2048, .f32⟩
  | .hbm, ⟨4, _⟩ => ⟨S2048, .f32⟩
  | .hbm, ⟨5, _⟩ => ⟨S2048x10776, .f32⟩
  | .hbm, ⟨6, _⟩ => ⟨S_, .f32⟩
  | .hbm, ⟨7, _⟩ => ⟨S2048x488, .f32⟩
  | .hbm, ⟨8, _⟩ => ⟨S2048x4096, .f32⟩
  | .hbm, ⟨9, _⟩ => ⟨S2048x2560, .f32⟩
  | .hbm, ⟨10, _⟩ => ⟨S2048x4096, .f32⟩
  | .hbm, ⟨11, _⟩ => ⟨S2048x24, .f32⟩
  | .hbm, ⟨12, _⟩ => ⟨S2048x11264, .f32⟩
  | .hbm, ⟨13, _⟩ => ⟨S2048x11264, .bf16⟩
  | .hbm, ⟨14, _⟩ => ⟨S1x2048, .f32⟩
  | .hbm, ⟨15, _⟩ => ⟨S16384x11264, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S2x8192x2048 : Shape := ⟨3, ![2, 8192, 2048]⟩
abbrev S1x2048 : Shape := ⟨2, ![1, 2048]⟩
abbrev S1x2048x10776 : Shape := ⟨3, ![1, 2048, 10776]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x10776 : Shape := ⟨2, ![2048, 10776]⟩
abbrev S2x8192x10776 : Shape := ⟨3, ![2, 8192, 10776]⟩
abbrev S2x8192x1024 : Shape := ⟨3, ![2, 8192, 1024]⟩
abbrev S2x8192x1536 : Shape := ⟨3, ![2, 8192, 1536]⟩
abbrev S2x8192x24 : Shape := ⟨3, ![2, 8192, 24]⟩
abbrev S2x8192x488 : Shape := ⟨3, ![2, 8192, 488]⟩
abbrev S2x8192x11264 : Shape := ⟨3, ![2, 8192, 11264]⟩
abbrev S16384x11264 : Shape := ⟨2, ![16384, 11264]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x10776, .f32⟩
  | .hbm, ⟨3, _⟩ => ⟨S2048, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2048x10776, .f32⟩
  | .hbm, ⟨21, _⟩ => ⟨S2x8192x10776, .f32⟩
  | .hbm, ⟨22, _⟩ => ⟨S2x8192x1024, .f32⟩
  | .hbm, ⟨23, _⟩ => ⟨S2x8192x1536, .f32⟩
  | .hbm, ⟨24, _⟩ => ⟨S2x8192x24, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x2048, .f32⟩
  | .hbm, ⟨30, _⟩ => ⟨S2x8192x2048, .f32⟩
  | .hbm, ⟨31, _⟩ => ⟨S_, .f32⟩
  | .hbm, ⟨32, _⟩ => ⟨S2x8192x488, .f32⟩
  | .hbm, ⟨33, _⟩ => ⟨S2x8192x11264, .f32⟩
  | .hbm, ⟨34, _⟩ => ⟨S16384x11264, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== SProjKernel.lean ====
abbrev S32x1x2048 : Shape := ⟨3, ![32, 1, 2048]⟩
abbrev S1x2048 : Shape := ⟨2, ![1, 2048]⟩
abbrev S1x2048x10776 : Shape := ⟨3, ![1, 2048, 10776]⟩
abbrev S32x2048 : Shape := ⟨2, ![32, 2048]⟩
abbrev S2048 : Shape := ⟨1, ![2048]⟩
abbrev S2048x10776 : Shape := ⟨2, ![2048, 10776]⟩
abbrev S_ : Shape := ⟨0, ![]⟩
abbrev S2048x488 : Shape := ⟨2, ![2048, 488]⟩
abbrev S2048x4096 : Shape := ⟨2, ![2048, 4096]⟩
abbrev S2048x2560 : Shape := ⟨2, ![2048, 2560]⟩
abbrev S2048x24 : Shape := ⟨2, ![2048, 24]⟩
abbrev S2048x11264 : Shape := ⟨2, ![2048, 11264]⟩
abbrev S32x11264 : Shape := ⟨2, ![32, 11264]⟩
abbrev S2048x512 : Shape := ⟨2, ![2048, 512]⟩
abbrev S32x512 : Shape := ⟨2, ![32, 512]⟩
abbrev S32 : Shape := ⟨1, ![32]⟩
abbrev S32x1 : Shape := ⟨2, ![32, 1]⟩

abbrev nBuf : Space → Nat
  | .hbm => 15
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x10776, .f32⟩
  | .hbm, ⟨3, _⟩ => ⟨S32x2048, .f32⟩
  | .hbm, ⟨4, _⟩ => ⟨S2048, .f32⟩
  | .hbm, ⟨5, _⟩ => ⟨S2048x10776, .f32⟩
  | .hbm, ⟨6, _⟩ => ⟨S_, .f32⟩
  | .hbm, ⟨7, _⟩ => ⟨S2048x488, .f32⟩
  | .hbm, ⟨8, _⟩ => ⟨S2048x4096, .f32⟩
  | .hbm, ⟨9, _⟩ => ⟨S2048x2560, .f32⟩
  | .hbm, ⟨10, _⟩ => ⟨S2048x4096, .f32⟩
  | .hbm, ⟨11, _⟩ => ⟨S2048x24, .f32⟩
  | .hbm, ⟨12, _⟩ => ⟨S2048x11264, .f32⟩
  | .hbm, ⟨13, _⟩ => ⟨S1x2048, .f32⟩
  | .hbm, ⟨14, _⟩ => ⟨S32x11264, .f32⟩
  | .local _ .vmem, ⟨0, _⟩ => ⟨S32x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S32x512, .f32⟩
  | .local _ .vmem, ⟨5, _⟩ => ⟨S32x512, .f32⟩
  | .local _ .vmem, ⟨6, _⟩ => ⟨S32x2048, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SProjReferenceIdeal.lean ====
abbrev S32x1x2048 : Shape := ⟨3, ![32, 1, 2048]⟩
abbrev S1x2048 : Shape := ⟨2, ![1, 2048]⟩
abbrev S1x2048x10776 : Shape := ⟨3, ![1, 2048, 10776]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x10776 : Shape := ⟨2, ![2048, 10776]⟩
abbrev S32x1x10776 : Shape := ⟨3, ![32, 1, 10776]⟩
abbrev S32x1x1024 : Shape := ⟨3, ![32, 1, 1024]⟩
abbrev S32x1x1536 : Shape := ⟨3, ![32, 1, 1536]⟩
abbrev S32x1x24 : Shape := ⟨3, ![32, 1, 24]⟩
abbrev S32x1x488 : Shape := ⟨3, ![32, 1, 488]⟩
abbrev S32x1x11264 : Shape := ⟨3, ![32, 1, 11264]⟩
abbrev S32x11264 : Shape := ⟨2, ![32, 11264]⟩

abbrev nBuf : Space → Nat
  | .hbm => 35
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x10776, .f32⟩
  | .hbm, ⟨3, _⟩ => ⟨S2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x10776, .f32⟩
  | .hbm, ⟨21, _⟩ => ⟨S32x1x10776, .f32⟩
  | .hbm, ⟨22, _⟩ => ⟨S32x1x1024, .f32⟩
  | .hbm, ⟨23, _⟩ => ⟨S32x1x1536, .f32⟩
  | .hbm, ⟨24, _⟩ => ⟨S32x1x24, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x2048, .f32⟩
  | .hbm, ⟨30, _⟩ => ⟨S32x1x2048, .f32⟩
  | .hbm, ⟨31, _⟩ => ⟨S_, .f32⟩
  | .hbm, ⟨32, _⟩ => ⟨S32x1x488, .f32⟩
  | .hbm, ⟨33, _⟩ => ⟨S32x1x11264, .f32⟩
  | .hbm, ⟨34, _⟩ => ⟨S32x11264, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MemKernel.lean ====
abbrev S2x256x2048 : Shape := ⟨3, ![2, 256, 2048]⟩
abbrev S1x2048 : Shape := ⟨2, ![1, 2048]⟩
abbrev S1x2048x512 : Shape := ⟨3, ![1, 2048, 512]⟩
abbrev S2048x512 : Shape := ⟨2, ![2048, 512]⟩
abbrev S2048x1024 : Shape := ⟨2, ![2048, 1024]⟩
abbrev S512x2048 : Shape := ⟨2, ![512, 2048]⟩
abbrev S2048 : Shape := ⟨1, ![2048]⟩
abbrev S512x1024 : Shape := ⟨2, ![512, 1024]⟩
abbrev S512x512 : Shape := ⟨2, ![512, 512]⟩

abbrev nBuf : Space → Nat
  | .hbm => 12
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x1024, .bf16⟩
  | .hbm, ⟨8, _⟩ => ⟨S512x2048, .f32⟩
  | .hbm, ⟨9, _⟩ => ⟨S2048, .f32⟩
  | .hbm, ⟨10, _⟩ => ⟨S1x2048, .f32⟩
  | .hbm, ⟨11, _⟩ => ⟨S512x1024, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S2x256x2048 : Shape := ⟨3, ![2, 256, 2048]⟩
abbrev S1x2048 : Shape := ⟨2, ![1, 2048]⟩
abbrev S1x2048x512 : Shape := ⟨3, ![1, 2048, 512]⟩
abbrev S2048x512 : Shape := ⟨2, ![2048, 512]⟩
abbrev S2x256x512 : Shape := ⟨3, ![2, 256, 512]⟩
abbrev S2x256x4x128 : Shape := ⟨4, ![2, 256, 4, 128]⟩
abbrev S2x256x1x4x128 : Shape := ⟨5, ![2, 256, 1, 4, 128]⟩
abbrev S2x256x2x4x128 : Shape := ⟨5, ![2, 256, 2, 4, 128]⟩
abbrev S512x1024 : Shape := ⟨2, ![512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S2x256x512, .f32⟩
  | .hbm, ⟨6, _⟩ => ⟨S2x256x4x128, .f32⟩
  | .hbm, ⟨7, _⟩ => ⟨S2048x512, .f32⟩
  | .hbm, ⟨8, _⟩ => ⟨S2x256x512, .f32⟩
  | .hbm, ⟨9, _⟩ => ⟨S2x256x4x128, .f32⟩
  | .hbm, ⟨10, _⟩ => ⟨S2x256x1x4x128, .f32⟩
  | .hbm, ⟨11, _⟩ => ⟨S2x256x1x4x128, .f32⟩
  | .hbm, ⟨12, _⟩ => ⟨S2x256x2x4x128, .f32⟩
  | .hbm, ⟨13, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MergeKernel.lean ====
abbrev S16384x2048 : Shape := ⟨2, ![16384, 2048]⟩
abbrev S16384x1024 : Shape := ⟨2, ![16384, 1024]⟩
abbrev S16384x11264 : Shape := ⟨2, ![16384, 11264]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x11264, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S2048x2048, .f32⟩
  | .hbm, ⟨12, _⟩ => ⟨S2048x2048, .bf16⟩
  | .hbm, ⟨13, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x2048 : Shape := ⟨2, ![16384, 2048]⟩
abbrev S16384x1024 : Shape := ⟨2, ![16384, 1024]⟩
abbrev S16384x11264 : Shape := ⟨2, ![16384, 11264]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S_ : Shape := ⟨0, ![]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x11264, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S16384x2048, .f32⟩
  | .hbm, ⟨8, _⟩ => ⟨S16384x2048, .f32⟩
  | .hbm, ⟨9, _⟩ => ⟨S16384x1024, .f32⟩
  | .hbm, ⟨10, _⟩ => ⟨S1024x2048, .f32⟩
  | .hbm, ⟨11, _⟩ => ⟨S16384x2048, .f32⟩
  | .hbm, ⟨12, _⟩ => ⟨S16384x1024, .f32⟩
  | .hbm, ⟨13, _⟩ => ⟨S1024x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S2048x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== DnKernel.lean ====
abbrev S73984x2048 : Shape := ⟨2, ![73984, 2048]⟩
abbrev S289 : Shape := ⟨1, ![289]⟩
abbrev S1 : Shape := ⟨1, ![1]⟩
abbrev S1x32x2048x2048 : Shape := ⟨4, ![1, 32, 2048, 2048]⟩
abbrev S1x32x2048 : Shape := ⟨3, ![1, 32, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S256x2048 : Shape := ⟨2, ![256, 2048]⟩
abbrev S1x2048x1024 : Shape := ⟨3, ![1, 2048, 1024]⟩
abbrev S1x1x1024 : Shape := ⟨3, ![1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 7
  | .vmem => 9
  | .smem => 2
  | _ => 0

abbrev bufTy : (tb : Table) → Fin (tcTables nBuf tb) → BufTy
  | .hbm, ⟨0, _⟩ => ⟨S73984x2048, .bf16⟩
  | .hbm, ⟨1, _⟩ => ⟨S1x32x2048x2048, .f32⟩
  | .hbm, ⟨2, _⟩ => ⟨S1x32x2048, .f32⟩
  | .hbm, ⟨3, _⟩ => ⟨S32x2048x2048, .f32⟩
  | .hbm, ⟨4, _⟩ => ⟨S32x2048, .f32⟩
  | .hbm, ⟨5, _⟩ => ⟨S32x1x2048, .f32⟩
  | .hbm, ⟨6, _⟩ => ⟨S73984x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .smem, ⟨0, _⟩ => ⟨S289, .i32⟩
  | .local _ .smem, ⟨1, _⟩ => ⟨S1, .i32⟩
  | _, _ => ⟨S73984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 289], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnReferenceIdeal.lean ====
abbrev S73984x2048 : Shape := ⟨2, ![73984, 2048]⟩
abbrev S289 : Shape := ⟨1, ![289]⟩
abbrev S1 : Shape := ⟨1, ![1]⟩
abbrev S1x32x2048x2048 : Shape := ⟨4, ![1, 32, 2048, 2048]⟩
abbrev S1x32x2048 : Shape := ⟨3, ![1, 32, 2048]⟩
abbrev S289x256x2048 : Shape := ⟨3, ![289, 256, 2048]⟩
abbrev S32x2048x2048 : Shape := ⟨3, ![32, 2048, 2048]⟩
abbrev S_ : Shape := ⟨0, ![]⟩
abbrev S289x1 : Shape := ⟨2, ![289, 1]⟩
abbrev S289x2048x2048 : Shape := ⟨3, ![289, 2048, 2048]⟩
abbrev S32x2048 : Shape := ⟨2, ![32, 2048]⟩
abbrev S289x2048 : Shape := ⟨2, ![289, 2048]⟩
abbrev S289x1x2048 : Shape := ⟨3, ![289, 1, 2048]⟩
abbrev S289x1x1 : Shape := ⟨3, ![289, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S73984x2048, .bf16⟩
  | .hbm, ⟨1, _⟩ => ⟨S289, .i32⟩
  | .hbm, ⟨2, _⟩ => ⟨S1, .i32⟩
  | .hbm, ⟨3, _⟩ => ⟨S1x32x2048x2048, .f32⟩
  | .hbm, ⟨4, _⟩ => ⟨S1x32x2048, .f32⟩
  | .hbm, ⟨5, _⟩ => ⟨S73984x2048, .f32⟩
  | .hbm, ⟨6, _⟩ => ⟨S289x256x2048, .f32⟩
  | .hbm, ⟨7, _⟩ => ⟨S32x2048x2048, .f32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S289x2048x2048, .f32⟩
  | .hbm, ⟨17, _⟩ => ⟨S289x256x2048, .f32⟩
  | .hbm, ⟨18, _⟩ => ⟨S32x2048, .f32⟩
  | .hbm, ⟨19, _⟩ => ⟨S_, .i32⟩
  | .hbm, ⟨20, _⟩ => ⟨S289, .i32⟩
  | .hbm, ⟨21, _⟩ => ⟨S289, .i1⟩
  | .hbm, ⟨22, _⟩ => ⟨S_, .i32⟩
  | .hbm, ⟨23, _⟩ => ⟨S289, .i32⟩
  | .hbm, ⟨24, _⟩ => ⟨S289, .i32⟩
  | .hbm, ⟨25, _⟩ => ⟨S289, .i32⟩
  | .hbm, ⟨26, _⟩ => ⟨S289x1, .i32⟩
  | .hbm, ⟨27, _⟩ => ⟨S289x2048, .f32⟩
  | .hbm, ⟨28, _⟩ => ⟨S289x1x2048, .f32⟩
  | .hbm, ⟨29, _⟩ => ⟨S289x256x2048, .f32⟩
  | .hbm, ⟨30, _⟩ => ⟨S289x256x2048, .f32⟩
  | .hbm, ⟨31, _⟩ => ⟨S289, .i32⟩
  | .hbm, ⟨32, _⟩ => ⟨S_, .i32⟩
  | .hbm, ⟨33, _⟩ => ⟨S289, .i32⟩
  | .hbm, ⟨34, _⟩ => ⟨S289, .i1⟩
  | .hbm, ⟨35, _⟩ => ⟨S289x1x1, .i1⟩
  | .hbm, ⟨36, _⟩ => ⟨S_, .f32⟩
  | .hbm, ⟨37, _⟩ => ⟨S_, .f32⟩
  | .hbm, ⟨38, _⟩ => ⟨S289x256x2048, .i1⟩
  | .hbm, ⟨39, _⟩ => ⟨S289x256x2048, .f32⟩
  | .hbm, ⟨40, _⟩ => ⟨S289x256x2048, .f32⟩
  | .hbm, ⟨41, _⟩ => ⟨S73984x2048, .f32⟩
  | .hbm, ⟨42, _⟩ => ⟨S73984x2048, .bf16⟩
  | _, _ => ⟨S73984x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== GuKernel.lean ====
abbrev S73984x2048 : Shape := ⟨2, ![73984, 2048]⟩
abbrev S289 : Shape := ⟨1, ![289]⟩
abbrev S1 : Shape := ⟨1, ![1]⟩
abbrev S1x32x2048x4096 : Shape := ⟨4, ![1, 32, 2048, 4096]⟩
abbrev S1x32x4096 : Shape := ⟨3, ![1, 32, 4096]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S32x2048x4096 : Shape := ⟨3, ![32, 2048, 4096]⟩
abbrev S32x4096 : Shape := ⟨2, ![32, 4096]⟩
abbrev S32x1x4096 : Shape := ⟨3, ![32, 1, 4096]⟩
abbrev S256x2048 : Shape := ⟨2, ![256, 2048]⟩
abbrev S1x2048x1024 : Shape := ⟨3, ![1, 2048, 1024]⟩
abbrev S1x1x1024 : Shape := ⟨3, ![1, 1, 1024]⟩
abbrev S256x512 : Shape := ⟨2, ![256, 512]⟩
abbrev S2048x1024 : Shape := ⟨2, ![2048, 1024]⟩
abbrev S256x1024 : Shape := ⟨2, ![256, 1024]⟩
abbrev S1x1024 : Shape := ⟨2, ![1, 1024]⟩
abbrev S256x256 : Shape := ⟨2, ![256, 256]⟩

abbrev nBuf : Space → Nat
  | .hbm => 18
  | .vmem => 10
  | .smem => 2
  | _ => 0

abbrev bufTy : (tb : Table) → Fin (tcTables nBuf tb) → BufTy
  | .hbm, ⟨0, _⟩ => ⟨S73984x2048, .bf16⟩
  | .hbm, ⟨1, _⟩ => ⟨S1x32x2048x4096, .f32⟩
  | .hbm, ⟨2, _⟩ => ⟨S1x32x4096, .f32⟩
  | .hbm, ⟨3, _⟩ => ⟨S256, .i32⟩
  | .hbm, ⟨4, _⟩ => ⟨S256x1, .i32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S1x128, .i32⟩
  | .hbm, ⟨9, _⟩ => ⟨S1x128, .i32⟩
  | .hbm, ⟨10, _⟩ => ⟨S256x128, .i32⟩
  | .hbm, ⟨11, _⟩ => ⟨S256x128, .i32⟩
  | .hbm, ⟨12, _⟩ => ⟨S256x128, .i1⟩
  | .hbm, ⟨13, _⟩ => ⟨S256x128, .bf16⟩
  | .hbm, ⟨14, _⟩ => ⟨S32x2048x4096, .f32⟩
  | .hbm, ⟨15, _⟩ => ⟨S32x4096, .f32⟩
  | .hbm, ⟨16, _⟩ => ⟨S32x1x4096, .f32⟩
  | .hbm, ⟨17, _⟩ => ⟨S73984x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x128, .bf16⟩
  | .local _ .vmem, ⟨7, _⟩ => ⟨S256x512, .bf16⟩
  | .local _ .vmem, ⟨8, _⟩ => ⟨S256x512, .bf16⟩
  | .local _ .vmem, ⟨9, _⟩ => ⟨S2048x1024, .bf16⟩
  | .local _ .smem, ⟨0, _⟩ => ⟨S289, .i32⟩
  | .local _ .smem, ⟨1, _⟩ => ⟨S1, .i32⟩
  | _, _ => ⟨S73984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 289], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GuReferenceIdeal.lean ====
abbrev S73984x2048 : Shape := ⟨2, ![73984, 2048]⟩
abbrev S289 : Shape := ⟨1, ![289]⟩
abbrev S1 : Shape := ⟨1, ![1]⟩
abbrev S1x32x2048x4096 : Shape := ⟨4, ![1, 32, 2048, 4096]⟩
abbrev S1x32x4096 : Shape := ⟨3, ![1, 32, 4096]⟩
abbrev S289x256x2048 : Shape := ⟨3, ![289, 256, 2048]⟩
abbrev S32x2048x4096 : Shape := ⟨3, ![32, 2048, 4096]⟩
abbrev S_ : Shape := ⟨0, ![]⟩
abbrev S289x1 : Shape := ⟨2, ![289, 1]⟩
abbrev S289x2048x4096 : Shape := ⟨3, ![289, 2048, 4096]⟩
abbrev S289x256x4096 : Shape := ⟨3, ![289, 256, 4096]⟩
abbrev S32x4096 : Shape := ⟨2, ![32, 4096]⟩
abbrev S289x4096 : Shape := ⟨2, ![289, 4096]⟩
abbrev S289x1x4096 : Shape := ⟨3, ![289, 1, 4096]⟩
abbrev S289x1x1 : Shape := ⟨3, ![289, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S73984x2048, .bf16⟩
  | .hbm, ⟨1, _⟩ => ⟨S289, .i32⟩
  | .hbm, ⟨2, _⟩ => ⟨S1, .i32⟩
  | .hbm, ⟨3, _⟩ => ⟨S1x32x2048x4096, .f32⟩
  | .hbm, ⟨4, _⟩ => ⟨S1x32x4096, .f32⟩
  | .hbm, ⟨5, _⟩ => ⟨S73984x2048, .f32⟩
  | .hbm, ⟨6, _⟩ => ⟨S289x256x2048, .f32⟩
  | .hbm, ⟨7, _⟩ => ⟨S32x2048x4096, .f32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S289x2048x4096, .f32⟩
  | .hbm, ⟨17, _⟩ => ⟨S289x256x4096, .f32⟩
  | .hbm, ⟨18, _⟩ => ⟨S32x4096, .f32⟩
  | .hbm, ⟨19, _⟩ => ⟨S_, .i32⟩
  | .hbm, ⟨20, _⟩ => ⟨S289, .i32⟩
  | .hbm, ⟨21, _⟩ => ⟨S289, .i1⟩
  | .hbm, ⟨22, _⟩ => ⟨S_, .i32⟩
  | .hbm, ⟨23, _⟩ => ⟨S289, .i32⟩
  | .hbm, ⟨24, _⟩ => ⟨S289, .i32⟩
  | .hbm, ⟨25, _⟩ => ⟨S289, .i32⟩
  | .hbm, ⟨26, _⟩ => ⟨S289x1, .i32⟩
  | .hbm, ⟨27, _⟩ => ⟨S289x4096, .f32⟩
  | .hbm, ⟨28, _⟩ => ⟨S289x1x4096, .f32⟩
  | .hbm, ⟨29, _⟩ => ⟨S289x256x4096, .f32⟩
  | .hbm, ⟨30, _⟩ => ⟨S289x256x4096, .f32⟩
  | .hbm, ⟨31, _⟩ => ⟨S289x256x2048, .f32⟩
  | .hbm, ⟨32, _⟩ => ⟨S_, .f32⟩
  | .hbm, ⟨33, _⟩ => ⟨S289x256x2048, .f32⟩
  | .hbm, ⟨34, _⟩ => ⟨S289x256x2048, .f32⟩
  | .hbm, ⟨35, _⟩ => ⟨S289x256x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S289x256x2048, .f32⟩
  | .hbm, ⟨40, _⟩ => ⟨S289x256x2048, .f32⟩
  | .hbm, ⟨41, _⟩ => ⟨S_, .f32⟩
  | .hbm, ⟨42, _⟩ => ⟨S289x256x2048, .f32⟩
  | .hbm, ⟨43, _⟩ => ⟨S289x256x2048, .f32⟩
  | .hbm, ⟨44, _⟩ => ⟨S_, .f32⟩
  | .hbm, ⟨45, _⟩ => ⟨S289x256x2048, .f32⟩
  | .hbm, ⟨46, _⟩ => ⟨S289x256x2048, .f32⟩
  | .hbm, ⟨47, _⟩ => ⟨S289x256x2048, .f32⟩
  | .hbm, ⟨48, _⟩ => ⟨S_, .f32⟩
  | .hbm, ⟨49, _⟩ => ⟨S289x256x2048, .f32⟩
  | .hbm, ⟨50, _⟩ => ⟨S289x256x2048, .f32⟩
  | .hbm, ⟨51, _⟩ => ⟨S289x256x2048, .f32⟩
  | .hbm, ⟨52, _⟩ => ⟨S289x256x2048, .f32⟩
  | .hbm, ⟨53, _⟩ => ⟨S_, .f32⟩
  | .hbm, ⟨54, _⟩ => ⟨S289x256x2048, .f32⟩
  | .hbm, ⟨55, _⟩ => ⟨S289x256x2048, .f32⟩
  | .hbm, ⟨56, _⟩ => ⟨S_, .f32⟩
  | .hbm, ⟨57, _⟩ => ⟨S289x256x2048, .f32⟩
  | .hbm, ⟨58, _⟩ => ⟨S289x256x2048, .f32⟩
  | .hbm, ⟨59, _⟩ => ⟨S289x256x2048, .f32⟩
  | .hbm, ⟨60, _⟩ => ⟨S289, .i32⟩
  | .hbm, ⟨61, _⟩ => ⟨S_, .i32⟩
  | .hbm, ⟨62, _⟩ => ⟨S289, .i32⟩
  | .hbm, ⟨63, _⟩ => ⟨S289, .i1⟩
  | .hbm, ⟨64, _⟩ => ⟨S289x1x1, .i1⟩
  | .hbm, ⟨65, _⟩ => ⟨S_, .f32⟩
  | .hbm, ⟨66, _⟩ => ⟨S_, .f32⟩
  | .hbm, ⟨67, _⟩ => ⟨S289x256x2048, .i1⟩
  | .hbm, ⟨68, _⟩ => ⟨S289x256x2048, .f32⟩
  | .hbm, ⟨69, _⟩ => ⟨S289x256x2048, .f32⟩
  | .hbm, ⟨70, _⟩ => ⟨S73984x2048, .f32⟩
  | .hbm, ⟨71, _⟩ => ⟨S73984x2048, .bf16⟩
  | _, _ => ⟨S73984x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== CrossKernel.lean ====
abbrev S2x8192x2048 : Shape := ⟨3, ![2, 8192, 2048]⟩
abbrev S1x2048 : Shape := ⟨2, ![1, 2048]⟩
abbrev S2x256x1024 : Shape := ⟨3, ![2, 256, 1024]⟩
abbrev S1x2048x512 : Shape := ⟨3, ![1, 2048, 512]⟩
abbrev S1x512x2048 : Shape := ⟨3, ![1, 512, 2048]⟩
abbrev S2048 : Shape := ⟨1, ![2048]⟩
abbrev S2048x512 : Shape := ⟨2, ![2048, 512]⟩
abbrev S512x2048 : Shape := ⟨2, ![512, 2048]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x256x1024, .f32⟩
  | .hbm, ⟨3, _⟩ => ⟨S1x2048x512, .f32⟩
  | .hbm, ⟨4, _⟩ => ⟨S1x512x2048, .f32⟩
  | .hbm, ⟨5, _⟩ => ⟨S2048, .f32⟩
  | .hbm, ⟨6, _⟩ => ⟨S2048x512, .f32⟩
  | .hbm, ⟨7, _⟩ => ⟨S2048x512, .bf16⟩
  | .hbm, ⟨8, _⟩ => ⟨S512x2048, .f32⟩
  | .hbm, ⟨9, _⟩ => ⟨S512x2048, .bf16⟩
  | .hbm, ⟨10, _⟩ => ⟨S1x2048, .f32⟩
  | .hbm, ⟨11, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S2048x512, .bf16⟩
  | .local _ .vmem, ⟨8, _⟩ => ⟨S512x2048, .bf16⟩
  | .local _ .vmem, ⟨9, _⟩ => ⟨S1x512x2048, .f32⟩
  | .local _ .vmem, ⟨10, _⟩ => ⟨S1x512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossReferenceIdeal.lean ====
abbrev S2x8192x2048 : Shape := ⟨3, ![2, 8192, 2048]⟩
abbrev S1x2048 : Shape := ⟨2, ![1, 2048]⟩
abbrev S2x256x1024 : Shape := ⟨3, ![2, 256, 1024]⟩
abbrev S1x2048x512 : Shape := ⟨3, ![1, 2048, 512]⟩
abbrev S1x512x2048 : Shape := ⟨3, ![1, 512, 2048]⟩
abbrev S2x256x2x4x128 : Shape := ⟨5, ![2, 256, 2, 4, 128]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x512 : Shape := ⟨2, ![2048, 512]⟩
abbrev S2x8192x512 : Shape := ⟨3, ![2, 8192, 512]⟩
abbrev S2x8192x4x128 : Shape := ⟨4, ![2, 8192, 4, 128]⟩
abbrev S2x256x1x4x128 : Shape := ⟨5, ![2, 256, 1, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S512x2048 : Shape := ⟨2, ![512, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x256x1024, .f32⟩
  | .hbm, ⟨3, _⟩ => ⟨S1x2048x512, .f32⟩
  | .hbm, ⟨4, _⟩ => ⟨S1x512x2048, .f32⟩
  | .hbm, ⟨5, _⟩ => ⟨S2x256x2x4x128, .f32⟩
  | .hbm, ⟨6, _⟩ => ⟨S2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2048x512, .f32⟩
  | .hbm, ⟨24, _⟩ => ⟨S2x8192x512, .f32⟩
  | .hbm, ⟨25, _⟩ => ⟨S2x8192x4x128, .f32⟩
  | .hbm, ⟨26, _⟩ => ⟨S2x256x1x4x128, .f32⟩
  | .hbm, ⟨27, _⟩ => ⟨S2x256x4x128, .f32⟩
  | .hbm, ⟨28, _⟩ => ⟨S2x4x8192x256, .f32⟩
  | .hbm, ⟨29, _⟩ => ⟨S_, .f32⟩
  | .hbm, ⟨30, _⟩ => ⟨S2x4x8192x256, .f32⟩
  | .hbm, ⟨31, _⟩ => ⟨S2x4x8192x256, .f32⟩
  | .hbm, ⟨32, _⟩ => ⟨S_, .f32⟩
  | .hbm, ⟨33, _⟩ => ⟨S2x4x8192, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x256, .f32⟩
  | .hbm, ⟨39, _⟩ => ⟨S2x4x8192x256, .f32⟩
  | .hbm, ⟨40, _⟩ => ⟨S2x4x8192x256, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x256, .f32⟩
  | .hbm, ⟨45, _⟩ => ⟨S2x4x8192x256, .f32⟩
  | .hbm, ⟨46, _⟩ => ⟨S2x256x1x4x128, .f32⟩
  | .hbm, ⟨47, _⟩ => ⟨S2x256x4x128, .f32⟩
  | .hbm, ⟨48, _⟩ => ⟨S2x4x128x8192, .f32⟩
  | .hbm, ⟨49, _⟩ => ⟨S2x8192x4x128, .f32⟩
  | .hbm, ⟨50, _⟩ => ⟨S2x8192x512, .f32⟩
  | .hbm, ⟨51, _⟩ => ⟨S512x2048, .f32⟩
  | .hbm, ⟨52, _⟩ => ⟨S2x8192x2048, .f32⟩
  | .hbm, ⟨53, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.StepRows.lean ====
/- What the body of the decode-step kernel leaves in its two output blocks: the 32 decode rows, which it treats one after another, read
   as one formula over the row. -/
module

public import proofs.«01_k».proof.Proof.Gen.StepKernelIdeal.Value
public import Idealize.ShloMosaic.Lib.Pipeline.ValueKit
public import Idealize.ShloMosaic.Lib.Pointwise

@[expose] public section

set_option maxRecDepth 16384

noncomputable section

namespace Cert.StepKernelIdeal.RowValue

open Cert.StepKernelIdeal Cert.StepKernelIdeal.Gen Idealize.ShloMosaic Idealize.ShloMosaic.TcCoe Idealize.SL.Sem
open Idealize.ShloMosaic.Pipeline (Dat)

/-- A row of 128 as a column, as the body turns it: the diagonal of its broadcast, summed along each row. -/
def col (r : FVec Ideal S1x128 .f32) : FVec Ideal S128x1 .f32 :=
  shapeCast S128x1 (multiReduction .add [1] S128 (select k0_pay3 (broadcastTo S128x128 (shapeCast S1x128 r shapeCasts_S1x128_S1x128)
    broadcasts_S1x128_S128x128) (broadcast S128x128 (Scalar.ofBits .f32 0x00000000#32 : Ideal .f32))) 0x00000000#32
    reduces_S128x128_S128 (.inl rfl) rfl) shapeCasts_S128_S128x1

/-- The new state of one decode row: its forget gates (row `k` of `f`) times the old state, plus the rest times the value row. -/
def rowState (f : FVec Ideal S32x128 .f32) (k : ℕ) (h : S32x128.Slices ![k, 0] S1x128) (s : Vec Ideal S1x1x128x128 .f32)
    (v : Vec Ideal S1x128 .f32) : FVec Ideal S128x128 .f32 :=
  addf (mulf (broadcastTo S128x128 (col (extractStridedSlice S1x128 ![k, 0] f h)) broadcasts_S128x1_S128x128)
      (shapeCast S128x128 s shapeCasts_S1x1x128x128_S128x128))
    (mulf (broadcastTo S128x128 (col (subf (broadcast S1x128 (Scalar.ofBits .f32 0x3F800000#32 : Ideal .f32))
        (extractStridedSlice S1x128 ![k, 0] f h))) broadcasts_S128x1_S128x128)
      (broadcastTo S128x128 (shapeCast S1x128 v shapeCasts_S1x128_S1x128) broadcasts_S1x128_S128x128))

/-- The row read off a new state: the state times the query column, summed down each column. -/
def rowOut (s : FVec Ideal S128x128 .f32) (q : Vec Ideal S1x128 .f32) : FVec Ideal S1x128 .f32 :=
  shapeCast S1x128 (multiReduction .add [0] S128 (mulf s (broadcastTo S128x128 (col (shapeCast S1x128 q shapeCasts_S1x128_S1x128))
    broadcasts_S128x1_S128x128)) 0x00000000#32 reduces_S128x128_S128_2 (.inl rfl) rfl) shapeCasts_S128_S1x128

theorem select_diag (d x : Fin 128) (a b : EReal) :
    Scalar.select (IntOp.cmpi CmpIPredicate.eq (BitVec.ofNat 32 d.val) (BitVec.ofNat 32 x.val)) a b = if d = x then a else b := by
  have h : (BitVec.ofNat 32 d.val = BitVec.ofNat 32 x.val) ↔ d = x := by
    constructor
    · intro h
      have := congrArg BitVec.toNat h
      simp only [BitVec.toNat_ofNat] at this
      omega
    · rintro rfl; rfl
  by_cases e : d = x <;> simp [Scalar.select, IntOp.cmpi, beq_eq_decide, h, e]

/-- The column of a row, at row `d`: the row's lane `d`. -/
theorem col_apply (r : FVec Ideal S1x128 .f32) (d : Fin 128) : col r (ix2 d 0) = r (ix2 0 d) := by
  pointwise [col, k0_pay3]
  simp only [select_diag]
  simp

/-- The forget gate of decode row `b` and lane `d`, from the gate row and the lower bound row. -/
def gate (x1 : Vec Ideal S32x128 .f32) (x4 : Vec Ideal S1x1x128 .f32) (b : Fin 32) (d : Fin 128) : EReal :=
  x4 (ix3 0 0 d) + (1 - x4 (ix3 0 0 d)) * Ideal.logistic (x1 (ix2 b d))

/-- The new state of decode row `b` at its lanes `d`, `e`. -/
def newState (x1 x2 : Vec Ideal S32x128 .f32) (x4 : Vec Ideal S1x1x128 .f32) (x6 : Vec Ideal S32x1x128x128 .f32) (b : Fin 32)
    (d e : Fin 128) : EReal :=
  gate x1 x4 b d * x6 (ix4 b 0 d e) + (1 - gate x1 x4 b d) * x2 (ix2 b e)

/-- The row that decode row `b` reads off its new state, at lane `e`. -/
def readRow (x0 x1 x2 : Vec Ideal S32x128 .f32) (x4 : Vec Ideal S1x1x128 .f32) (x6 : Vec Ideal S32x1x128x128 .f32) (b : Fin 32)
    (e : Fin 128) : EReal :=
  ∑ d : Fin 128, newState x1 x2 x4 x6 b d e * x0 (ix2 b d)

/-- The output of decode row `b` at lane `e`: its row over the row's root mean square, scaled, times the SiLU gate. -/
def outRow (x0 x1 x2 x3 : Vec Ideal S32x128 .f32) (x4 x5 : Vec Ideal S1x1x128 .f32) (x6 : Vec Ideal S32x1x128x128 .f32) (b : Fin 32)
    (e : Fin 128) : EReal :=
  readRow x0 x1 x2 x4 x6 b e
    * Ideal.rsqrt (Ideal.div (∑ l : Fin 128, readRow x0 x1 x2 x4 x6 b l * readRow x0 x1 x2 x4 x6 b l) (Ideal.ofBits .f32 0x43000000#32)
        + Ideal.ofBits .f32 0x3727C5AC#32)
    * x5 (ix3 0 0 e) * (x3 (ix2 b e) * Ideal.logistic (x3 (ix2 b e)))

theorem gate_apply (x1 : Vec Ideal S32x128 .f32) (x4 : Vec Ideal S1x1x128 .f32) (b : Fin 32) (d : Fin 128) :
    k0_pay2 x4 x1 (ix2 b d) = gate x1 x4 b d := by
  pointwise [k0_pay2, gate]

theorem rowState_apply (x1 x2 : Vec Ideal S32x128 .f32) (x4 : Vec Ideal S1x1x128 .f32) (x6 : Vec Ideal S32x1x128x128 .f32) (k : ℕ)
    (h : S32x128.Slices ![k, 0] S1x128) (h6 : ∀ a, (![k, 0, 0, 0] : Fin 4 → Nat) a + S1x1x128x128.size a ≤ S32x1x128x128.size a)
    (h2 : ∀ a, (![k, 0] : Fin 2 → Nat) a + S1x128.size a ≤ S32x128.size a) (b : Fin 32) (hb : (b : ℕ) = k) (d e : Fin 128) :
    rowState (k0_pay2 x4 x1) k h (View.ld x6 (Rect.unit ![k, 0, 0, 0] ![1, 1, 128, 128] h6))
        (View.ld x2 (Rect.unit ![k, 0] ![1, 128] h2)) (ix2 d e) = newState x1 x2 x4 x6 b d e := by
  subst hb
  pointwise [rowState, col_apply, newState, gate_apply]

theorem state_piece (x1 x2 : Vec Ideal S32x128 .f32) (x4 : Vec Ideal S1x1x128 .f32) (x6 : Vec Ideal S32x1x128x128 .f32) (k : ℕ)
    (h : S32x128.Slices ![k, 0] S1x128) (h6 : ∀ a, (![k, 0, 0, 0] : Fin 4 → Nat) a + S1x1x128x128.size a ≤ S32x1x128x128.size a)
    (h2 : ∀ a, (![k, 0] : Fin 2 → Nat) a + S1x128.size a ≤ S32x128.size a) (x : S1x1x128x128.Idx)
    (y : S32x1x128x128.Idx) (h0 : (y 0 : ℕ) = k) (e2 : (y 2 : ℕ) = x 2) (e3 : (y 3 : ℕ) = x 3) :
    shapeCast S1x1x128x128 (rowState (k0_pay2 x4 x1) k h (View.ld x6 (Rect.unit ![k, 0, 0, 0] ![1, 1, 128, 128] h6))
        (View.ld x2 (Rect.unit ![k, 0] ![1, 128] h2))) shapeCasts_S128x128_S1x1x128x128 x
      = newState x1 x2 x4 x6 (y 0) (y 2) (y 3) := by
  have e2 : y 2 = x 2 := Fin.ext e2
  have e3 : y 3 = x 3 := Fin.ext e3
  rw [e2, e3]
  rw [← rowState_apply x1 x2 x4 x6 k h h6 h2 (y 0) h0 (x 2) (x 3)]
  pointwise

theorem out_piece (x0 x1 x2 : Vec Ideal S32x128 .f32) (x4 : Vec Ideal S1x1x128 .f32) (x6 : Vec Ideal S32x1x128x128 .f32) (k : ℕ)
    (h : S32x128.Slices ![k, 0] S1x128) (h6 : ∀ a, (![k, 0, 0, 0] : Fin 4 → Nat) a + S1x1x128x128.size a ≤ S32x1x128x128.size a)
    (h2 : ∀ a, (![k, 0] : Fin 2 → Nat) a + S1x128.size a ≤ S32x128.size a)
    (b : Fin 32) (e : Fin 128) (h0 : (b : ℕ) = k) (x : S1x128.Idx) (e1 : (e : ℕ) = x 1) :
    rowOut (rowState (k0_pay2 x4 x1) k h (View.ld x6 (Rect.unit ![k, 0, 0, 0] ![1, 1, 128, 128] h6))
        (View.ld x2 (Rect.unit ![k, 0] ![1, 128] h2))) (View.ld x0 (Rect.unit ![k, 0] ![1, 128] h2)) x
      = readRow x0 x1 x2 x4 x6 b e := by
  obtain rfl : e = x 1 := Fin.ext e1
  subst h0
  unfold readRow
  have hs := fun d => rowState_apply x1 x2 x4 x6 b h h6 h2 b rfl d (x 1)
  generalize rowState (k0_pay2 x4 x1) b h (View.ld x6 (Rect.unit ![b, 0, 0, 0] ![1, 1, 128, 128] h6))
        (View.ld x2 (Rect.unit ![b, 0] ![1, 128] h2)) = s at hs
  simp only [← hs]
  pointwise [rowOut, col_apply]

set_option maxHeartbeats 4000000 in
/-- WHAT THE BODY LEAVES IN THE STATE'S BLOCK: the new state of every decode row. -/
theorem out_state (c : Dev nD) (i : grid0.Coords) (arg1 : Memref sig .tc .vmem S32x128 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S32x1x128x128 .f32) (harg7 : arg7.IsWhole) (arg8 : Memref sig .tc .vmem S32x128 .f32) (harg8 : arg8.IsWhole) (arg9 : Memref sig .tc .vmem S32x1x128x128 .f32) (harg9 : arg9.IsWhole)
    (x0 x1 x2 x3 : Vec Ideal S32x128 .f32) (x4 x5 : Vec Ideal S1x1x128 .f32) (x6 : Vec Ideal S32x1x128x128 .f32) (y : S32x1x128x128.Idx) :
    out0_A_8 c i arg1 harg1 arg2 harg2 arg3 harg3 arg4 harg4 arg5 harg5 arg6 harg6 arg7 harg7 arg8 harg8 arg9 harg9 x0 x1 x2 x3 x4 x5 x6 y = newState x1 x2 x4 x6 (y 0) (y 2) (y 3) := by
  frame_open
  frame_out
  canon_tiles x h
  · exact state_piece x1 x2 x4 x6 31 slices_S32x128_o31_0_S1x128 inb_S32x1x128x128_S1x1x128x128_31_0_0_0 inb_S32x128_S1x128_31_0 x y (by omega) h2 h3
  · exact state_piece x1 x2 x4 x6 30 slices_S32x128_o30_0_S1x128 inb_S32x1x128x128_S1x1x128x128_30_0_0_0 inb_S32x128_S1x128_30_0 x y (by omega) h2 h3
  · exact state_piece x1 x2 x4 x6 29 slices_S32x128_o29_0_S1x128 inb_S32x1x128x128_S1x1x128x128_29_0_0_0 inb_S32x128_S1x128_29_0 x y (by omega) h2 h3
  · exact state_piece x1 x2 x4 x6 28 slices_S32x128_o28_0_S1x128 inb_S32x1x128x128_S1x1x128x128_28_0_0_0 inb_S32x128_S1x128_28_0 x y (by omega) h2 h3
  · exact state_piece x1 x2 x4 x6 27 slices_S32x128_o27_0_S1x128 inb_S32x1x128x128_S1x1x128x128_27_0_0_0 inb_S32x128_S1x128_27_0 x y (by omega) h2 h3
  · exact state_piece x1 x2 x4 x6 26 slices_S32x128_o26_0_S1x128 inb_S32x1x128x128_S1x1x128x128_26_0_0_0 inb_S32x128_S1x128_26_0 x y (by omega) h2 h3
  · exact state_piece x1 x2 x4 x6 25 slices_S32x128_o25_0_S1x128 inb_S32x1x128x128_S1x1x128x128_25_0_0_0 inb_S32x128_S1x128_25_0 x y (by omega) h2 h3
  · exact state_piece x1 x2 x4 x6 24 slices_S32x128_o24_0_S1x128 inb_S32x1x128x128_S1x1x128x128_24_0_0_0 inb_S32x128_S1x128_24_0 x y (by omega) h2 h3
  · exact state_piece x1 x2 x4 x6 23 slices_S32x128_o23_0_S1x128 inb_S32x1x128x128_S1x1x128x128_23_0_0_0 inb_S32x128_S1x128_23_0 x y (by omega) h2 h3
  · exact state_piece x1 x2 x4 x6 22 slices_S32x128_o22_0_S1x128 inb_S32x1x128x128_S1x1x128x128_22_0_0_0 inb_S32x128_S1x128_22_0 x y (by omega) h2 h3
  · exact state_piece x1 x2 x4 x6 21 slices_S32x128_o21_0_S1x128 inb_S32x1x128x128_S1x1x128x128_21_0_0_0 inb_S32x128_S1x128_21_0 x y (by omega) h2 h3
  · exact state_piece x1 x2 x4 x6 20 slices_S32x128_o20_0_S1x128 inb_S32x1x128x128_S1x1x128x128_20_0_0_0 inb_S32x128_S1x128_20_0 x y (by omega) h2 h3
  · exact state_piece x1 x2 x4 x6 19 slices_S32x128_o19_0_S1x128 inb_S32x1x128x128_S1x1x128x128_19_0_0_0 inb_S32x128_S1x128_19_0 x y (by omega) h2 h3
  · exact state_piece x1 x2 x4 x6 18 slices_S32x128_o18_0_S1x128 inb_S32x1x128x128_S1x1x128x128_18_0_0_0 inb_S32x128_S1x128_18_0 x y (by omega) h2 h3
  · exact state_piece x1 x2 x4 x6 17 slices_S32x128_o17_0_S1x128 inb_S32x1x128x128_S1x1x128x128_17_0_0_0 inb_S32x128_S1x128_17_0 x y (by omega) h2 h3
  · exact state_piece x1 x2 x4 x6 16 slices_S32x128_o16_0_S1x128 inb_S32x1x128x128_S1x1x128x128_16_0_0_0 inb_S32x128_S1x128_16_0 x y (by omega) h2 h3
  · exact state_piece x1 x2 x4 x6 15 slices_S32x128_o15_0_S1x128 inb_S32x1x128x128_S1x1x128x128_15_0_0_0 inb_S32x128_S1x128_15_0 x y (by omega) h2 h3
  · exact state_piece x1 x2 x4 x6 14 slices_S32x128_o14_0_S1x128 inb_S32x1x128x128_S1x1x128x128_14_0_0_0 inb_S32x128_S1x128_14_0 x y (by omega) h2 h3
  · exact state_piece x1 x2 x4 x6 13 slices_S32x128_o13_0_S1x128 inb_S32x1x128x128_S1x1x128x128_13_0_0_0 inb_S32x128_S1x128_13_0 x y (by omega) h2 h3
  · exact state_piece x1 x2 x4 x6 12 slices_S32x128_o12_0_S1x128 inb_S32x1x128x128_S1x1x128x128_12_0_0_0 inb_S32x128_S1x128_12_0 x y (by omega) h2 h3
  · exact state_piece x1 x2 x4 x6 11 slices_S32x128_o11_0_S1x128 inb_S32x1x128x128_S1x1x128x128_11_0_0_0 inb_S32x128_S1x128_11_0 x y (by omega) h2 h3
  · exact state_piece x1 x2 x4 x6 10 slices_S32x128_o10_0_S1x128 inb_S32x1x128x128_S1x1x128x128_10_0_0_0 inb_S32x128_S1x128_10_0 x y (by omega) h2 h3
  · exact state_piece x1 x2 x4 x6 9 slices_S32x128_o9_0_S1x128 inb_S32x1x128x128_S1x1x128x128_9_0_0_0 inb_S32x128_S1x128_9_0 x y (by omega) h2 h3
  · exact state_piece x1 x2 x4 x6 8 slices_S32x128_o8_0_S1x128 inb_S32x1x128x128_S1x1x128x128_8_0_0_0 inb_S32x128_S1x128_8_0 x y (by omega) h2 h3
  · exact state_piece x1 x2 x4 x6 7 slices_S32x128_o7_0_S1x128 inb_S32x1x128x128_S1x1x128x128_7_0_0_0 inb_S32x128_S1x128_7_0 x y (by omega) h2 h3
  · exact state_piece x1 x2 x4 x6 6 slices_S32x128_o6_0_S1x128 inb_S32x1x128x128_S1x1x128x128_6_0_0_0 inb_S32x128_S1x128_6_0 x y (by omega) h2 h3
  · exact state_piece x1 x2 x4 x6 5 slices_S32x128_o5_0_S1x128 inb_S32x1x128x128_S1x1x128x128_5_0_0_0 inb_S32x128_S1x128_5_0 x y (by omega) h2 h3
  · exact state_piece x1 x2 x4 x6 4 slices_S32x128_o4_0_S1x128 inb_S32x1x128x128_S1x1x128x128_4_0_0_0 inb_S32x128_S1x128_4_0 x y (by omega) h2 h3
  · exact state_piece x1 x2 x4 x6 3 slices_S32x128_o3_0_S1x128 inb_S32x1x128x128_S1x1x128x128_3_0_0_0 inb_S32x128_S1x128_3_0 x y (by omega) h2 h3
  · exact state_piece x1 x2 x4 x6 2 slices_S32x128_o2_0_S1x128 inb_S32x1x128x128_S1x1x128x128_2_0_0_0 inb_S32x128_S1x128_2_0 x y (by omega) h2 h3
  · exact state_piece x1 x2 x4 x6 1 slices_S32x128_o1_0_S1x128 inb_S32x1x128x128_S1x1x128x128_1_0_0_0 inb_S32x128_S1x128_1_0 x y (by omega) h2 h3
  · exact state_piece x1 x2 x4 x6 0 slices_S32x128_o0_0_S1x128 inb_S32x1x128x128_S1x1x128x128_0_0_0_0 inb_S32x128_S1x128_0_0 x y (by omega) h2 h3

set_option maxHeartbeats 4000000 in
/-- WHAT THE BODY LEAVES IN THE OUTPUT'S BLOCK, over the rows it wrote there and read back. -/
theorem out_row (c : Dev nD) (i : grid0.Coords) (arg1 : Memref sig .tc .vmem S32x128 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S32x1x128x128 .f32) (harg7 : arg7.IsWhole) (arg8 : Memref sig .tc .vmem S32x128 .f32) (harg8 : arg8.IsWhole) (arg9 : Memref sig .tc .vmem S32x1x128x128 .f32) (harg9 : arg9.IsWhole)
    (x0 x1 x2 x3 : Vec Ideal S32x128 .f32) (x4 x5 : Vec Ideal S1x1x128 .f32) (x6 : Vec Ideal S32x1x128x128 .f32) (y : S32x128.Idx) :
    out0_A_7 c i arg1 harg1 arg2 harg2 arg3 harg3 arg4 harg4 arg5 harg5 arg6 harg6 arg7 harg7 arg8 harg8 arg9 harg9 x0 x1 x2 x3 x4 x5 x6 y = outRow x0 x1 x2 x3 x4 x5 x6 (y 0) (y 1) := by
  frame_open
  frame_out
  rw [View.readCov_eq_canon']
  generalize hC : View.canon (Val := Elt Ideal) (s := S32x128) (e := .f32) _ = C
  have key : ∀ (b : Fin 32) (e : Fin 128), C (ix2 b e) = readRow x0 x1 x2 x4 x6 b e := by
    intro b e
    subst hC
    generalize hy : (ix2 b e : S32x128.Idx) = y
    obtain rfl : b = y 0 := by rw [← hy]; rfl
    obtain rfl : e = y 1 := by rw [← hy]; rfl
    clear hy
    canon_tiles x h
    · exact out_piece x0 x1 x2 x4 x6 31 slices_S32x128_o31_0_S1x128 inb_S32x1x128x128_S1x1x128x128_31_0_0_0 inb_S32x128_S1x128_31_0 (y 0) (y 1) (by omega) x h1
    · exact out_piece x0 x1 x2 x4 x6 30 slices_S32x128_o30_0_S1x128 inb_S32x1x128x128_S1x1x128x128_30_0_0_0 inb_S32x128_S1x128_30_0 (y 0) (y 1) (by omega) x h1
    · exact out_piece x0 x1 x2 x4 x6 29 slices_S32x128_o29_0_S1x128 inb_S32x1x128x128_S1x1x128x128_29_0_0_0 inb_S32x128_S1x128_29_0 (y 0) (y 1) (by omega) x h1
    · exact out_piece x0 x1 x2 x4 x6 28 slices_S32x128_o28_0_S1x128 inb_S32x1x128x128_S1x1x128x128_28_0_0_0 inb_S32x128_S1x128_28_0 (y 0) (y 1) (by omega) x h1
    · exact out_piece x0 x1 x2 x4 x6 27 slices_S32x128_o27_0_S1x128 inb_S32x1x128x128_S1x1x128x128_27_0_0_0 inb_S32x128_S1x128_27_0 (y 0) (y 1) (by omega) x h1
    · exact out_piece x0 x1 x2 x4 x6 26 slices_S32x128_o26_0_S1x128 inb_S32x1x128x128_S1x1x128x128_26_0_0_0 inb_S32x128_S1x128_26_0 (y 0) (y 1) (by omega) x h1
    · exact out_piece x0 x1 x2 x4 x6 25 slices_S32x128_o25_0_S1x128 inb_S32x1x128x128_S1x1x128x128_25_0_0_0 inb_S32x128_S1x128_25_0 (y 0) (y 1) (by omega) x h1
    · exact out_piece x0 x1 x2 x4 x6 24 slices_S32x128_o24_0_S1x128 inb_S32x1x128x128_S1x1x128x128_24_0_0_0 inb_S32x128_S1x128_24_0 (y 0) (y 1) (by omega) x h1
    · exact out_piece x0 x1 x2 x4 x6 23 slices_S32x128_o23_0_S1x128 inb_S32x1x128x128_S1x1x128x128_23_0_0_0 inb_S32x128_S1x128_23_0 (y 0) (y 1) (by omega) x h1
    · exact out_piece x0 x1 x2 x4 x6 22 slices_S32x128_o22_0_S1x128 inb_S32x1x128x128_S1x1x128x128_22_0_0_0 inb_S32x128_S1x128_22_0 (y 0) (y 1) (by omega) x h1
    · exact out_piece x0 x1 x2 x4 x6 21 slices_S32x128_o21_0_S1x128 inb_S32x1x128x128_S1x1x128x128_21_0_0_0 inb_S32x128_S1x128_21_0 (y 0) (y 1) (by omega) x h1
    · exact out_piece x0 x1 x2 x4 x6 20 slices_S32x128_o20_0_S1x128 inb_S32x1x128x128_S1x1x128x128_20_0_0_0 inb_S32x128_S1x128_20_0 (y 0) (y 1) (by omega) x h1
    · exact out_piece x0 x1 x2 x4 x6 19 slices_S32x128_o19_0_S1x128 inb_S32x1x128x128_S1x1x128x128_19_0_0_0 inb_S32x128_S1x128_19_0 (y 0) (y 1) (by omega) x h1
    · exact out_piece x0 x1 x2 x4 x6 18 slices_S32x128_o18_0_S1x128 inb_S32x1x128x128_S1x1x128x128_18_0_0_0 inb_S32x128_S1x128_18_0 (y 0) (y 1) (by omega) x h1
    · exact out_piece x0 x1 x2 x4 x6 17 slices_S32x128_o17_0_S1x128 inb_S32x1x128x128_S1x1x128x128_17_0_0_0 inb_S32x128_S1x128_17_0 (y 0) (y 1) (by omega) x h1
    · exact out_piece x0 x1 x2 x4 x6 16 slices_S32x128_o16_0_S1x128 inb_S32x1x128x128_S1x1x128x128_16_0_0_0 inb_S32x128_S1x128_16_0 (y 0) (y 1) (by omega) x h1
    · exact out_piece x0 x1 x2 x4 x6 15 slices_S32x128_o15_0_S1x128 inb_S32x1x128x128_S1x1x128x128_15_0_0_0 inb_S32x128_S1x128_15_0 (y 0) (y 1) (by omega) x h1
    · exact out_piece x0 x1 x2 x4 x6 14 slices_S32x128_o14_0_S1x128 inb_S32x1x128x128_S1x1x128x128_14_0_0_0 inb_S32x128_S1x128_14_0 (y 0) (y 1) (by omega) x h1
    · exact out_piece x0 x1 x2 x4 x6 13 slices_S32x128_o13_0_S1x128 inb_S32x1x128x128_S1x1x128x128_13_0_0_0 inb_S32x128_S1x128_13_0 (y 0) (y 1) (by omega) x h1
    · exact out_piece x0 x1 x2 x4 x6 12 slices_S32x128_o12_0_S1x128 inb_S32x1x128x128_S1x1x128x128_12_0_0_0 inb_S32x128_S1x128_12_0 (y 0) (y 1) (by omega) x h1
    · exact out_piece x0 x1 x2 x4 x6 11 slices_S32x128_o11_0_S1x128 inb_S32x1x128x128_S1x1x128x128_11_0_0_0 inb_S32x128_S1x128_11_0 (y 0) (y 1) (by omega) x h1
    · exact out_piece x0 x1 x2 x4 x6 10 slices_S32x128_o10_0_S1x128 inb_S32x1x128x128_S1x1x128x128_10_0_0_0 inb_S32x128_S1x128_10_0 (y 0) (y 1) (by omega) x h1
    · exact out_piece x0 x1 x2 x4 x6 9 slices_S32x128_o9_0_S1x128 inb_S32x1x128x128_S1x1x128x128_9_0_0_0 inb_S32x128_S1x128_9_0 (y 0) (y 1) (by omega) x h1
    · exact out_piece x0 x1 x2 x4 x6 8 slices_S32x128_o8_0_S1x128 inb_S32x1x128x128_S1x1x128x128_8_0_0_0 inb_S32x128_S1x128_8_0 (y 0) (y 1) (by omega) x h1
    · exact out_piece x0 x1 x2 x4 x6 7 slices_S32x128_o7_0_S1x128 inb_S32x1x128x128_S1x1x128x128_7_0_0_0 inb_S32x128_S1x128_7_0 (y 0) (y 1) (by omega) x h1
    · exact out_piece x0 x1 x2 x4 x6 6 slices_S32x128_o6_0_S1x128 inb_S32x1x128x128_S1x1x128x128_6_0_0_0 inb_S32x128_S1x128_6_0 (y 0) (y 1) (by omega) x h1
    · exact out_piece x0 x1 x2 x4 x6 5 slices_S32x128_o5_0_S1x128 inb_S32x1x128x128_S1x1x128x128_5_0_0_0 inb_S32x128_S1x128_5_0 (y 0) (y 1) (by omega) x h1
    · exact out_piece x0 x1 x2 x4 x6 4 slices_S32x128_o4_0_S1x128 inb_S32x1x128x128_S1x1x128x128_4_0_0_0 inb_S32x128_S1x128_4_0 (y 0) (y 1) (by omega) x h1
    · exact out_piece x0 x1 x2 x4 x6 3 slices_S32x128_o3_0_S1x128 inb_S32x1x128x128_S1x1x128x128_3_0_0_0 inb_S32x128_S1x128_3_0 (y 0) (y 1) (by omega) x h1
    · exact out_piece x0 x1 x2 x4 x6 2 slices_S32x128_o2_0_S1x128 inb_S32x1x128x128_S1x1x128x128_2_0_0_0 inb_S32x128_S1x128_2_0 (y 0) (y 1) (by omega) x h1
    · exact out_piece x0 x1 x2 x4 x6 1 slices_S32x128_o1_0_S1x128 inb_S32x1x128x128_S1x1x128x128_1_0_0_0 inb_S32x128_S1x128_1_0 (y 0) (y 1) (by omega) x h1
    · exact out_piece x0 x1 x2 x4 x6 0 slices_S32x128_o0_0_S1x128 inb_S32x1x128x128_S1x1x128x128_0_0_0_0 inb_S32x128_S1x128_0_0 (y 0) (y 1) (by omega) x h1
  clear hC
  have hC' : ∀ j : S32x128.Idx, C ((Rect.unit (s := S32x128) ![0, 0] S32x128.size inb_S32x128_S32x128_0_0).idx j)
      = readRow x0 x1 x2 x4 x6 (j 0) (j 1) := by
    intro j
    refine Eq.trans ?_ (key (j 0) (j 1))
    pointwise
  rw [show (fun j => C ((Rect.unit (s := S32x128) ![0, 0] S32x128.size inb_S32x128_S32x128_0_0).idx j))
      = fun j : S32x128.Idx => readRow x0 x1 x2 x4 x6 (j 0) (j 1) from funext hC']
  pointwise [k0_pay1, k0_pay166, outRow]

end Cert.StepKernelIdeal.RowValue
-- ==== Proof.StepReference.lean ====
/- The decode-step reference read at an index, as a formula over its arguments' elements. -/
module

public import proofs.«01_k».proof.Proof.Gen.StepReferenceIdeal.Read
public import Idealize.ShloMosaic.Lib.Pointwise

@[expose] public section

set_option maxRecDepth 16384

noncomputable section

namespace Cert.StepReferenceIdeal.StepRead

open Cert.StepReferenceIdeal Cert.StepReferenceIdeal.Read Idealize.ShloMosaic Idealize.ShloMosaic.TcCoe Idealize.SL.Sem

variable (x0 : FVec Ideal S32x10776 .f32) (x1 : FVec Ideal S2x1024 .f32) (x2 : FVec Ideal S1x1024 .f32) (x3 : FVec Ideal S1x32x8x128x128 .f32)

/-- Lane `d` of head `h` in a row of 1024. -/
def lane (h : Fin 8) (d : Fin 128) : Fin 1024 := ⟨h.val * 128 + d.val, by omega⟩

/-- A column of the projections: lane `l` of the part that begins at `o`. -/
def at_ (o : ℕ) (ho : o + 1024 ≤ 10776) (b : Fin 32) (l : Fin 1024) : EReal := x0 (ix2 b ⟨o + l.val, by omega⟩)

/-- The lower bound of the gate. -/
def low (l : Fin 1024) : EReal := val_main_v18 (F := Ideal) x1 (ix1 l)

/-- The forget gate. -/
def gate (b : Fin 32) (h : Fin 8) (d : Fin 128) : EReal :=
  low x1 (lane h d) + (1 - low x1 (lane h d)) * Ideal.logistic (at_ x0 3608 (by decide) b (lane h d))

theorem gate_eq (b : Fin 32) (h : Fin 8) (d : Fin 128) : val_main_v34 (F := Ideal) x0 x1 (ix3 b h d) = gate x0 x1 b h d := by
  unfold val_main_v34 val_main_v33 val_main_v32 val_main_v31 val_main_v30 val_main_v29 val_main_v28 val_main_v27 val_main_v26 val_main_v25 val_main_v24 val_main_v23 val_main_v22 val_main_v21 val_main_v20 val_main_v19 val_main_v1 val_main_cst_2 val_main_cst_3 val_main_cst_4 gate low lane at_
  generalize val_main_v18 (F := Ideal) x1 = y
  pointwise [Ideal.logistic]

theorem foldl_one {α : Type} (n : ℕ) (hn : n = 1) (f : α → Fin n → α) (v : α) :
    (List.finRange n).foldl f v = f v ⟨0, by omega⟩ := by
  subst hn; rfl

theorem foldl_two {α : Type} (n : ℕ) (hn : n = 2) (f : α → Fin n → α) (v : α) :
    (List.finRange n).foldl f v = f (f v ⟨0, by omega⟩) ⟨1, by omega⟩ := by
  subst hn; rfl

/-- A running sum along an axis of length one is the element itself. -/
theorem window_one (x : S32x8x1x128.Idx → EReal) (z : S_.Idx → EReal) (h1 : S32x8x1x128.ReduceWindows ![1, 1, 1, 1] ![1, 1, 1, 1] ![0, 0, 0, 0] ![0, 0, 0, 0] S32x8x1x128)
    (hu : 0 < S_.numel) (i : S32x8x1x128.Idx) :
    Host.reduceWindow (· + ·) ![1, 1, 1, 1] ![1, 1, 1, 1] ![0, 0, 0, 0] ![0, 0, 0, 0] x z h1 hu i = z (Shape.Idx.first hu) + x i := by
  unfold Host.reduceWindow
  simp only []
  rw [foldl_one _ (by decide)]
  have hz : ∀ a, ((⟨4, ![1, 1, 1, 1]⟩ : Shape).rowMajor.symm ⟨0, by decide⟩ a).val = 0 := by decide
  have hp : ∀ a : Fin 4, (i (a.cast rfl)).val * (![1, 1, 1, 1] : Fin 4 → ℕ) a + ((⟨4, ![1, 1, 1, 1]⟩ : Shape).rowMajor.symm ⟨0, by decide⟩ a).val = (i a).val := by
    intro a; rw [hz]; fin_cases a <;> simp
  have hq : ∀ a : Fin 4, (![0, 0, 0, 0] : Fin 4 → ℕ) a = 0 := by decide
  rw [dif_pos (by intro a; rw [hp, hq]; exact ⟨Nat.zero_le _, (i a).isLt⟩)]
  congr 2
  funext a
  apply Fin.ext
  simp only [hp, hq, Nat.sub_zero]

/-- The first row of a running sum along an axis of length two is the first row. -/
theorem window_two (x : S2x1024.Idx → EReal) (z : S_.Idx → EReal) (h1 : S2x1024.ReduceWindows ![2, 1] ![1, 1] ![1, 0] ![0, 0] S2x1024)
    (hu : 0 < S_.numel) (l : Fin 1024) :
    Host.reduceWindow (· + ·) ![2, 1] ![1, 1] ![1, 0] ![0, 0] x z h1 hu (ix2 0 l) = z (Shape.Idx.first hu) + z (Shape.Idx.first hu) + x (ix2 0 l) := by
  unfold Host.reduceWindow
  simp only []
  rw [foldl_two _ (by decide)]
  have h0 : ((⟨2, ![2, 1]⟩ : Shape).rowMajor.symm ⟨0, by decide⟩ 0).val = 0 := by decide
  have h1 : ∀ a, ((⟨2, ![2, 1]⟩ : Shape).rowMajor.symm ⟨1, by decide⟩ a).val = (![1, 0] : Fin 2 → ℕ) a := by decide
  have hp : ∀ a : Fin 2, (ix2 (0 : Fin 2) l (a.cast rfl)).val * (![1, 1] : Fin 2 → ℕ) a + ((⟨2, ![2, 1]⟩ : Shape).rowMajor.symm ⟨1, by decide⟩ a).val
      = (ix2 (0 : Fin 2) l a).val + (![1, 0] : Fin 2 → ℕ) a := by
    intro a; rw [h1]; fin_cases a <;> simp
  rw [dif_neg (by
    intro h
    have := (h 0).1
    rw [h0] at this
    simp at this), dif_pos (by
    intro a
    rw [hp]
    exact ⟨Nat.le_add_left _ _, by rw [Nat.add_sub_cancel]; exact (ix2 (0 : Fin 2) l a).isLt⟩)]
  congr 2
  funext a
  apply Fin.ext
  simp only [hp, Nat.add_sub_cancel]

theorem v49_eq (b : Fin 32) (h : Fin 8) (d : Fin 128) :
    val_main_v49 (F := Ideal) x0 x1 (ix4 b h 0 d) = 0 + Ideal.log (gate x0 x1 b h d) := by
  have hx : val_main_call1_call0_v0 (F := Ideal) (Shape.Idx.first Gen.h_S_) = 0 := by
    pointwise [val_main_call1_call0_v0, val_main_call1_call0_cst]
  unfold val_main_v49 Host.reduceWindowAdd
  rw [Ideal.hostReduceWindowAdd_def]
  unfold Ideal.hostReduceWindowAdd
  rw [window_one, hx, ← gate_eq]
  unfold val_main_v43 val_main_v35
  generalize val_main_v34 (F := Ideal) x0 x1 = y
  pointwise

theorem low_eq (l : Fin 1024) : low x1 l = 0 + 0 + val_main_v14 (F := Ideal) x1 (ix2 0 l) := by
  have hx : val_main_call0_call0_v0 (F := Ideal) (Shape.Idx.first Gen.h_S_) = 0 := by
    pointwise [val_main_call0_call0_v0, val_main_call0_call0_cst]
  have hw : val_main_v15 (F := Ideal) x1 (ix2 0 l) = 0 + 0 + val_main_v14 (F := Ideal) x1 (ix2 0 l) := by
    unfold val_main_v15 Host.reduceWindowAdd
    rw [Ideal.hostReduceWindowAdd_def]
    unfold Ideal.hostReduceWindowAdd
    rw [window_two, hx]
  rw [← hw]
  unfold low val_main_v18 val_main_v17
  generalize val_main_v15 (F := Ideal) x1 = y
  pointwise

theorem v6_eq (l : Fin 1024) : val_main_v6 (F := Ideal) x1 (ix1 l) = max ⊥ (max (x1 (ix2 0 l)) (x1 (ix2 1 l))) := by
  pointwise [val_main_v6, val_main_v5, val_main_v4, val_main_cst_0, val_main_cst]
  have hb : Ideal.ofBits FTy.f32 4286578688#32 = ⊥ := by simp [Ideal.ofBits, Ideal.ieee]
  rw [hb, show (Finset.univ : Finset (Fin 2)) = {0, 1} by decide]
  simp

theorem v14_eq (l : Fin 1024) : val_main_v14 (F := Ideal) x1 (ix2 0 l)
    = Ideal.div (Ideal.exp (x1 (ix2 0 l) - val_main_v6 (F := Ideal) x1 (ix1 l)))
        (Ideal.exp (x1 (ix2 0 l) - val_main_v6 (F := Ideal) x1 (ix1 l)) + Ideal.exp (x1 (ix2 1 l) - val_main_v6 (F := Ideal) x1 (ix1 l))) := by
  unfold val_main_v14 val_main_v13 val_main_v12 val_main_v11 val_main_v10 val_main_v9 val_main_v8 val_main_v7 val_main_cst_1
  generalize val_main_v6 (F := Ideal) x1 = y
  pointwise
  rw [Fin.sum_univ_two]

theorem v75_eq (b : Fin 32) (h : Fin 8) (d e : Fin 128) : val_main_v75 (F := Ideal) x0 x1 x3 (ix4 b h d e)
    = Ideal.exp (val_main_v49 (F := Ideal) x0 x1 (ix4 b h 0 d)) * x3 (ix5 0 b h d e)
      + (1 - gate x0 x1 b h d) * Ideal.exp (val_main_v49 (F := Ideal) x0 x1 (ix4 b h 0 d) - val_main_v49 (F := Ideal) x0 x1 (ix4 b h 0 d))
        * at_ x0 4632 (by decide) b (lane h e) := by
  rw [← gate_eq]
  unfold val_main_v75 val_main_v74 val_main_v73 val_main_v72 val_main_v71 val_main_v70 val_main_v69 val_main_v68 val_main_v67 val_main_v66 val_main_v42 val_main_v41 val_main_v39 val_main_v38 val_main_v37 val_main_v36 val_main_cst_5 val_main_v2 at_ lane
  generalize val_main_v34 (F := Ideal) x0 x1 = y
  generalize val_main_v49 (F := Ideal) x0 x1 = z
  pointwise
  simp only [Finset.univ_unique, Finset.sum_singleton]
  rfl

theorem v65_eq (b : Fin 32) (h : Fin 8) (e : Fin 128) : val_main_v65 (F := Ideal) x0 x1 x3 (ix4 b h 0 e)
    = ∑ d : Fin 128, at_ x0 2584 (by decide) b (lane h d) * Ideal.exp (val_main_v49 (F := Ideal) x0 x1 (ix4 b h 0 d)) * x3 (ix5 0 b h d e)
      + (∑ d : Fin 128, at_ x0 2584 (by decide) b (lane h d) * (1 - gate x0 x1 b h d)
          * Ideal.exp (val_main_v49 (F := Ideal) x0 x1 (ix4 b h 0 d) - val_main_v49 (F := Ideal) x0 x1 (ix4 b h 0 d)))
        * at_ x0 4632 (by decide) b (lane h e) := by
  simp only [← gate_eq]
  unfold val_main_v65 val_main_v64 val_main_v63 val_main_v62 val_main_v61 val_main_v60 val_main_v59 val_main_v58 val_main_v57 val_main_call2_v2 val_main_call2_v1 val_main_call2_v0 val_main_v55 val_main_v54 val_main_v53 val_main_v52 val_main_v51 val_main_v50 val_main_v56 val_main_v48 val_main_v47 val_main_v46 val_main_v45 val_main_v44 val_main_cst_6 val_main_cst_7 val_main_v42 val_main_v41 val_main_v40 val_main_v39 val_main_v38 val_main_v37 val_main_v36 val_main_v16 val_main_cst_5 val_main_v2 val_main_v0 at_ lane
  generalize val_main_v34 (F := Ideal) x0 x1 = y
  generalize val_main_v49 (F := Ideal) x0 x1 = z
  pointwise
  simp only [Finset.univ_unique, Finset.sum_singleton]
  rfl

theorem v94_eq (b : Fin 32) (h : Fin 8) (e : Fin 128) : val_main_v94 (F := Ideal) x0 x1 x2 x3 (ix2 b (lane h e)) =
   val_main_v65 (F := Ideal) x0 x1 x3 (ix4 b h 0 e)
    * Ideal.rsqrt (Ideal.div (∑ l : Fin 128, val_main_v65 (F := Ideal) x0 x1 x3 (ix4 b h 0 l) * val_main_v65 (F := Ideal) x0 x1 x3 (ix4 b h 0 l)) (Ideal.ofBits .f32 0x43000000#32)
        + Ideal.ofBits .f32 0x3727C5AC#32)
    * x2 (ix2 0 (lane h e)) * (at_ x0 5656 (by decide) b (lane h e) * Ideal.logistic (at_ x0 5656 (by decide) b (lane h e))) := by
  unfold val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_cst_8 val_main_cst_9 val_main_cst_10 val_main_v3 val_main_call3_v5 val_main_call3_v4 val_main_call3_v3 val_main_call3_v2 val_main_call3_v1 val_main_call3_v0 val_main_call3_cst val_main_call3_cst_0 val_main_v3 at_ lane
  generalize val_main_v65 (F := Ideal) x0 x1 x3 = y
  pointwise [Ideal.logistic]

end Cert.StepReferenceIdeal.StepRead
-- ==== Proof.StepBlocks.lean ====
/- The blocks that the decode-step kernel stages at each head, as elements of its arguments. -/
module

public import proofs.«01_k».proof.Proof.Gen.StepKernelIdeal.Value
public import Idealize.ShloMosaic.Lib.Pipeline.ValueKit
public import Idealize.ShloMosaic.Lib.Pointwise
public import Idealize.ShloMosaic.Lib.Claim
public import proofs.«01_k».proof.Proof.StepReference
public import Idealize.ShloMosaic.Lib.StableHlo.ReadAt

@[expose] public section

set_option maxRecDepth 16384

noncomputable section

namespace Cert.StepKernelIdeal.RowValue

open Cert.StepReferenceIdeal.StepRead (lane)
open Cert.StepKernelIdeal Cert.StepKernelIdeal.Gen Idealize.ShloMosaic Idealize.ShloMosaic.TcCoe Idealize.SL.Sem
open Idealize.ShloMosaic.Pipeline (Dat)

variable (m : (ℓ : Loc nD τ sig) → Buf (Elt Ideal) ℓ)

/-- The arguments on core `c`: the projections, the lower-bound logits, the norm's scale, the state. -/
abbrev proj (c : Dev nD) : FVec Ideal S32x10776 .f32 := m ((c : Thread nD τ).loc main_arg0)
@[inherit_doc proj] abbrev logits (c : Dev nD) : FVec Ideal S2x1024 .f32 := m ((c : Thread nD τ).loc main_arg1)
@[inherit_doc proj] abbrev scale (c : Dev nD) : FVec Ideal S1x1024 .f32 := m ((c : Thread nD τ).loc main_arg2)
@[inherit_doc proj] abbrev state (c : Dev nD) : FVec Ideal S1x32x8x128x128 .f32 := m ((c : Thread nD τ).loc main_arg3)

/-- Two concatenations of five arrays whose parts agree. -/
theorem concat_congr {a a' : FVec Ideal S32x4096 .f32} {b b' : FVec Ideal S32x2560 .f32} {d d' : FVec Ideal S32x4096 .f32}
    {e e' : FVec Ideal S32x24 .f32} {f f' : FVec Ideal S32x488 .f32} (ha : a = a') (hb : b = b') (hd : d = d') (he : e = e') (hf : f = f')
    {h : Shape.Concatenates [S32x4096, S32x2560, S32x4096, S32x24, S32x488] S32x11264 1} :
    concatenate S32x11264 1 [⟨S32x4096, a⟩, ⟨S32x2560, b⟩, ⟨S32x4096, d⟩, ⟨S32x24, e⟩, ⟨S32x488, f⟩] h
      = concatenate S32x11264 1 [⟨S32x4096, a'⟩, ⟨S32x2560, b'⟩, ⟨S32x4096, d'⟩, ⟨S32x24, e'⟩, ⟨S32x488, f'⟩] h := by
  subst ha hb hd he hf; rfl

theorem V_v17 (c : Dev nD) : (V m c main_v17 : FVec Ideal S32x11264 .f32) = concatenate S32x11264 1
      [⟨S32x4096, extractStridedSlice S32x4096 ![0, 6680] (proj m c) slices_S32x10776_S32x4096_0_6680⟩,
       ⟨S32x2560, extractStridedSlice S32x2560 ![0, 0] (proj m c) slices_S32x10776_S32x2560_0_0⟩,
       ⟨S32x4096, extractStridedSlice S32x4096 ![0, 2584] (proj m c) slices_S32x10776_S32x4096_0_2584⟩,
       ⟨S32x24, extractStridedSlice S32x24 ![0, 2560] (proj m c) slices_S32x10776_S32x24_0_2560⟩,
       ⟨S32x488, (broadcastInDim S32x488 ![] bcast_S_S32x488 (constant S_ FTy.f32 0#32) : FVec Ideal S32x488 .f32)⟩]
      concatenates_S32x4096_S32x2560_S32x4096_S32x24_S32x488_S32x11264_d1 := by
  unfold V
  simp only [hostOps0, hostOps0_1, hostOps0_2, List.flatten_cons, List.flatten_nil, List.append_nil, List.cons_append, List.nil_append]
  after_reads_simp
  refine concat_congr ?_ ?_ ?_ ?_ ?_
  · show StableHlo.upto _ _ _ (Proc.devRef .tc main_v13) = _
    after_reads_simp
  · show StableHlo.upto _ _ _ (Proc.devRef .tc main_v14) = _
    after_reads_simp
  · show StableHlo.upto _ _ _ (Proc.devRef .tc main_v15) = _
    after_reads_simp
  · show StableHlo.upto _ _ _ (Proc.devRef .tc main_v16) = _
    after_reads_simp
  · show StableHlo.upto _ _ _ (Proc.devRef .tc main_v12) = _
    after_reads_simp

theorem V_v22 (c : Dev nD) : (V m c main_v22 : FVec Ideal S8x1x128 .f32)
    = shapeCast S8x1x128 (Cert.StepReferenceIdeal.Read.val_main_v18 (F := Ideal) (logits m c)) shapeCasts_S1024_S8x1x128 := by
  unfold V
  simp only [hostOps0, hostOps0_1, hostOps0_2, List.flatten_cons, List.flatten_nil, List.append_nil, List.cons_append, List.nil_append]
  after_reads_simp
  rfl

theorem V_v23 (c : Dev nD) : (V m c main_v23 : FVec Ideal S8x1x128 .f32)
    = shapeCast S8x1x128 (shapeCast S1024 (scale m c) shapeCasts_S1x1024_S1024) shapeCasts_S1024_S8x1x128 := by
  unfold V
  simp only [hostOps0, hostOps0_1, hostOps0_2, List.flatten_cons, List.flatten_nil, List.append_nil, List.cons_append, List.nil_append]
  after_reads_simp
  rfl

theorem V_v18 (c : Dev nD) : (V m c main_v18 : FVec Ideal S32x8x128x128 .f32)
    = shapeCast S32x8x128x128 (state m c) shapeCasts_S1x32x8x128x128_S32x8x128x128 := by
  unfold V
  simp only [hostOps0, hostOps0_1, hostOps0_2, List.flatten_cons, List.flatten_nil, List.append_nil, List.cons_append, List.nil_append]
  after_reads_simp
  rfl

theorem pt_lt (t : Fin cfg0.N) : t.val < 8 := t.isLt

/-- The head that grid point `t` treats, and lane `d` of a head in a row of 1024. -/
def head (t : Fin cfg0.N) : Fin 8 := ⟨t.val, pt_lt t⟩

theorem idx0 : ∀ t : Fin cfg0.N, win0_0.index t = ![0, 52 + t.val] := (by decide +kernel : ∀ t : Fin grid0.N, win0_0.index t = ![0, 52 + t.val])

theorem iblk0 (c : Dev nD) (t : Fin cfg0.N) (b : Fin 32) (d : Fin 128) :
    iblk m c 0 t (ix2 b d) = proj m c (ix2 b ⟨2584 + (lane (head t) d).val, by have := (lane (head t) d).isLt; omega⟩) := by
  have hi : (win0_0.blk t).view.emb (ix2 b d) = (ix2 b ⟨6656 + (t.val * 128 + d.val), by have := pt_lt t; omega⟩ : S32x11264.Idx) := by
    have e := idx0 t
    funext a
    fin_cases a
    · apply Fin.ext
      blk_simp [e]
      try rfl
    · apply Fin.ext
      blk_simp [e]
      show (52 + t.val) * 128 + d.val = 6656 + (t.val * 128 + d.val)
      omega
  unfold iblk
  blk_simp
  rw [hi, show V m c main_v17 = _ from V_v17 m c]
  pointwise [lane, head]
  have := pt_lt t
  rw [dif_neg (by omega), dif_neg (by omega), dif_pos (by omega)]
  exact congrArg (fun k => proj m c (ix2 b k)) (Fin.ext (by simp only []; omega))

theorem idx1 : ∀ t : Fin cfg0.N, win0_1.index t = ![0, 60 + t.val] := (by decide +kernel : ∀ t : Fin grid0.N, win0_1.index t = ![0, 60 + t.val])

theorem iblk1 (c : Dev nD) (t : Fin cfg0.N) (b : Fin 32) (d : Fin 128) :
    iblk m c 1 t (ix2 b d) = proj m c (ix2 b ⟨3608 + (lane (head t) d).val, by have := (lane (head t) d).isLt; omega⟩) := by
  have hi : (win0_1.blk t).view.emb (ix2 b d) = (ix2 b ⟨7680 + (t.val * 128 + d.val), by have := pt_lt t; omega⟩ : S32x11264.Idx) := by
    have e := idx1 t
    funext a
    fin_cases a
    · apply Fin.ext
      blk_simp [e]
      try rfl
    · apply Fin.ext
      blk_simp [e]
      show (60 + t.val) * 128 + d.val = 7680 + (t.val * 128 + d.val)
      omega
  unfold iblk
  blk_simp
  rw [hi, show V m c main_v17 = _ from V_v17 m c]
  pointwise [lane, head]
  have := pt_lt t
  rw [dif_neg (by omega), dif_neg (by omega), dif_pos (by omega)]
  exact congrArg (fun k => proj m c (ix2 b k)) (Fin.ext (by simp only []; omega))

theorem idx2 : ∀ t : Fin cfg0.N, win0_2.index t = ![0, 68 + t.val] := (by decide +kernel : ∀ t : Fin grid0.N, win0_2.index t = ![0, 68 + t.val])

theorem iblk2 (c : Dev nD) (t : Fin cfg0.N) (b : Fin 32) (d : Fin 128) :
    iblk m c 2 t (ix2 b d) = proj m c (ix2 b ⟨4632 + (lane (head t) d).val, by have := (lane (head t) d).isLt; omega⟩) := by
  have hi : (win0_2.blk t).view.emb (ix2 b d) = (ix2 b ⟨8704 + (t.val * 128 + d.val), by have := pt_lt t; omega⟩ : S32x11264.Idx) := by
    have e := idx2 t
    funext a
    fin_cases a
    · apply Fin.ext
      blk_simp [e]
      try rfl
    · apply Fin.ext
      blk_simp [e]
      show (68 + t.val) * 128 + d.val = 8704 + (t.val * 128 + d.val)
      omega
  unfold iblk
  blk_simp
  rw [hi, show V m c main_v17 = _ from V_v17 m c]
  pointwise [lane, head]
  have := pt_lt t
  rw [dif_neg (by omega), dif_neg (by omega), dif_pos (by omega)]
  exact congrArg (fun k => proj m c (ix2 b k)) (Fin.ext (by simp only []; omega))

theorem idx3 : ∀ t : Fin cfg0.N, win0_3.index t = ![0, 76 + t.val] := (by decide +kernel : ∀ t : Fin grid0.N, win0_3.index t = ![0, 76 + t.val])

theorem iblk3 (c : Dev nD) (t : Fin cfg0.N) (b : Fin 32) (d : Fin 128) :
    iblk m c 3 t (ix2 b d) = proj m c (ix2 b ⟨5656 + (lane (head t) d).val, by have := (lane (head t) d).isLt; omega⟩) := by
  have hi : (win0_3.blk t).view.emb (ix2 b d) = (ix2 b ⟨9728 + (t.val * 128 + d.val), by have := pt_lt t; omega⟩ : S32x11264.Idx) := by
    have e := idx3 t
    funext a
    fin_cases a
    · apply Fin.ext
      blk_simp [e]
      try rfl
    · apply Fin.ext
      blk_simp [e]
      show (76 + t.val) * 128 + d.val = 9728 + (t.val * 128 + d.val)
      omega
  unfold iblk
  blk_simp
  rw [hi, show V m c main_v17 = _ from V_v17 m c]
  pointwise [lane, head]
  have := pt_lt t
  rw [dif_neg (by omega), dif_neg (by omega), dif_pos (by omega)]
  exact congrArg (fun k => proj m c (ix2 b k)) (Fin.ext (by simp only []; omega))

theorem idx4 : ∀ t : Fin cfg0.N, win0_4.index t = ![t.val, 0, 0] := (by decide +kernel : ∀ t : Fin grid0.N, win0_4.index t = ![t.val, 0, 0])

theorem iblk4 (c : Dev nD) (t : Fin cfg0.N) (d : Fin 128) : iblk m c 4 t (ix3 0 0 d) = Cert.StepReferenceIdeal.Read.val_main_v18 (F := Ideal) (logits m c) (ix1 (lane (head t) d)) := by
  have hi : (win0_4.blk t).view.emb (ix3 0 0 d) = (ix3 (head t) 0 d : S8x1x128.Idx) := by
    have e := idx4 t
    funext a
    fin_cases a
    · apply Fin.ext
      blk_simp [e]
      try rfl
    · apply Fin.ext
      blk_simp [e]
      try rfl
    · apply Fin.ext
      blk_simp [e]
      try rfl
  unfold iblk
  blk_simp
  rw [hi, show V m c main_v22 = _ from V_v22 m c]
  pointwise [lane, head]

theorem idx5 : ∀ t : Fin cfg0.N, win0_5.index t = ![t.val, 0, 0] := (by decide +kernel : ∀ t : Fin grid0.N, win0_5.index t = ![t.val, 0, 0])

theorem iblk5 (c : Dev nD) (t : Fin cfg0.N) (d : Fin 128) : iblk m c 5 t (ix3 0 0 d) = scale m c (ix2 0 (lane (head t) d)) := by
  have hi : (win0_5.blk t).view.emb (ix3 0 0 d) = (ix3 (head t) 0 d : S8x1x128.Idx) := by
    have e := idx5 t
    funext a
    fin_cases a
    · apply Fin.ext
      blk_simp [e]
      try rfl
    · apply Fin.ext
      blk_simp [e]
      try rfl
    · apply Fin.ext
      blk_simp [e]
      try rfl
  unfold iblk
  blk_simp
  rw [hi, show V m c main_v23 = _ from V_v23 m c]
  pointwise [lane, head]

theorem idx6 : ∀ t : Fin cfg0.N, win0_6.index t = ![0, t.val, 0, 0] := (by decide +kernel : ∀ t : Fin grid0.N, win0_6.index t = ![0, t.val, 0, 0])

theorem iblk6 (c : Dev nD) (t : Fin cfg0.N) (b : Fin 32) (d e : Fin 128) :
    iblk m c 6 t (ix4 b 0 d e) = state m c (ix5 0 b (head t) d e) := by
  have hi : (win0_6.blk t).view.emb (ix4 b 0 d e) = (ix4 b (head t) d e : S32x8x128x128.Idx) := by
    have e := idx6 t
    funext a
    fin_cases a
    · apply Fin.ext
      blk_simp [e]
      try rfl
    · apply Fin.ext
      blk_simp [e]
      try rfl
    · apply Fin.ext
      blk_simp [e]
      try rfl
    · apply Fin.ext
      blk_simp [e]
      try rfl
  unfold iblk
  blk_simp
  rw [hi, show V m c main_v18 = _ from V_v18 m c]
  pointwise

end Cert.StepKernelIdeal.RowValue
-- ==== Proof.StepReal.lean ====
/- For finite arguments the decode-step reference is the plain recurrence: its exponential of a logarithm, its difference of
equal running sums and its split of the read-out into two products all drop out over the reals. -/
module

public import proofs.«01_k».proof.Proof.StepReference

@[expose] public section

noncomputable section

namespace Cert.StepReferenceIdeal.StepRead

open Cert.StepReferenceIdeal Cert.StepReferenceIdeal.Read Idealize.ShloMosaic Idealize.ShloMosaic.TcCoe Idealize.SL.Sem

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_coe (x : ℝ) : Ideal.exp (x : EReal) = ((Real.exp x : ℝ) : EReal) := rfl

theorem logistic_coe (x : ℝ) : Ideal.logistic (x : EReal) = ((1 / (1 + Real.exp (-x)) : ℝ) : EReal) := by
  unfold Ideal.logistic
  rw [← EReal.coe_neg, exp_coe, ← EReal.coe_one, ← EReal.coe_add, div_coe _ _ (by positivity)]

theorem log_coe (x : ℝ) (hx : 0 < x) : Ideal.log (x : EReal) = ((Real.log x : ℝ) : EReal) := by
  show (if x ≤ 0 then ⊥ else ((Real.log x : ℝ) : EReal)) = _
  rw [if_neg (not_le.mpr hx)]

theorem max_coe (x y : ℝ) : max (x : EReal) (y : EReal) = ((max x y : ℝ) : EReal) := (EReal.coe_strictMono.monotone.map_max).symm

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable (x0 : FVec Ideal S32x10776 .f32) (x1 : FVec Ideal S2x1024 .f32) (x2 : FVec Ideal S1x1024 .f32) (x3 : FVec Ideal S1x32x8x128x128 .f32)

/-- Every element of an array is a real number. -/
def Finite {s : Shape} (x : s.Idx → EReal) : Prop := ∀ i, ∃ r : ℝ, x i = (r : EReal)

variable (h0 : Finite x0) (h1 : Finite x1) (h3 : Finite x3)

include h1 in
/-- The lower bound is a positive real number, at most one. -/
theorem low_real (l : Fin 1024) : ∃ r : ℝ, low x1 l = (r : EReal) ∧ 0 < r ∧ r ≤ 1 := by
  obtain ⟨a, ha⟩ := h1 (ix2 0 l)
  obtain ⟨b, hb⟩ := h1 (ix2 1 l)
  refine ⟨Real.exp (a - max a b) / (Real.exp (a - max a b) + Real.exp (b - max a b)), ?_, by positivity, ?_⟩
  · rw [low_eq, v14_eq, v6_eq, ha, hb, max_bot_left, max_coe, ← EReal.coe_sub, ← EReal.coe_sub, exp_coe, exp_coe,
      ← EReal.coe_add, div_coe _ _ (by positivity), zero_add, zero_add]
  · rw [div_le_one (by positivity)]
    linarith [Real.exp_pos (b - max a b)]

include h0 h1 in
/-- The gate is a positive real number. -/
theorem gate_real (b : Fin 32) (h : Fin 8) (d : Fin 128) : ∃ r : ℝ, gate x0 x1 b h d = (r : EReal) ∧ 0 < r := by
  obtain ⟨w, hw, hw0, hw1⟩ := low_real x1 h1 (lane h d)
  obtain ⟨g, hg⟩ := h0 (ix2 b ⟨3608 + (lane h d).val, by have := (lane h d).isLt; omega⟩)
  have hs : 0 < 1 / (1 + Real.exp (-g)) := by positivity
  refine ⟨w + (1 - w) * (1 / (1 + Real.exp (-g))), ?_, by nlinarith⟩
  unfold gate at_
  rw [hw, hg, logistic_coe]
  push_cast
  rfl

include h0 h1 in
theorem exp_v49 (b : Fin 32) (h : Fin 8) (d : Fin 128) :
    Ideal.exp (val_main_v49 (F := Ideal) x0 x1 (ix4 b h 0 d)) = gate x0 x1 b h d
      ∧ Ideal.exp (val_main_v49 (F := Ideal) x0 x1 (ix4 b h 0 d) - val_main_v49 (F := Ideal) x0 x1 (ix4 b h 0 d)) = 1 := by
  obtain ⟨r, hr, hp⟩ := gate_real x0 x1 h0 h1 b h d
  rw [v49_eq, hr, log_coe r hp, zero_add, exp_coe, Real.exp_log hp, ← EReal.coe_sub, sub_self, exp_coe, Real.exp_zero]
  exact ⟨rfl, rfl⟩

/-- The state after the step. -/
def newState (b : Fin 32) (h : Fin 8) (d e : Fin 128) : EReal :=
  gate x0 x1 b h d * x3 (ix5 0 b h d e) + (1 - gate x0 x1 b h d) * at_ x0 4632 (by decide) b (lane h e)

/-- The read-out of the new state along the query. -/
def readRow (b : Fin 32) (h : Fin 8) (e : Fin 128) : EReal :=
  ∑ d, newState x0 x1 x3 b h d e * at_ x0 2584 (by decide) b (lane h d)

include h0 h1 in
theorem v75_newState (b : Fin 32) (h : Fin 8) (d e : Fin 128) :
    val_main_v75 (F := Ideal) x0 x1 x3 (ix4 b h d e) = newState x0 x1 x3 b h d e := by
  obtain ⟨ha, hb⟩ := exp_v49 x0 x1 h0 h1 b h d
  rw [v75_eq, hb, ha, mul_one]
  rfl

include h0 h1 h3 in
theorem v65_readRow (b : Fin 32) (h : Fin 8) (e : Fin 128) :
    val_main_v65 (F := Ideal) x0 x1 x3 (ix4 b h 0 e) = readRow x0 x1 x3 b h e := by
  rw [v65_eq]
  simp only [(exp_v49 x0 x1 h0 h1 b h _).1, (exp_v49 x0 x1 h0 h1 b h _).2, mul_one]
  unfold readRow newState
  choose g hg _ using fun d => gate_real x0 x1 h0 h1 b h d
  choose s hs using fun d => h3 (ix5 0 b h d e)
  choose p hp using h0
  simp only [hg, hs, at_, hp]
  simp only [← EReal.coe_one, ← EReal.coe_sub, ← EReal.coe_mul, ← EReal.coe_add, sum_coe]
  congr 1
  rw [Finset.sum_mul, ← Finset.sum_add_distrib]
  exact Finset.sum_congr rfl fun d _ => by ring

end Cert.StepReferenceIdeal.StepRead
-- ==== Proof.StepValue.lean ====
/- The two arrays that the decode-step kernel leaves, as the reference's values of the same arguments. -/
module

public import proofs.«01_k».proof.Proof.StepRows
public import proofs.«01_k».proof.Proof.StepBlocks
public import proofs.«01_k».proof.Proof.StepReal

@[expose] public section

noncomputable section

namespace Cert.StepKernelIdeal.RowValue

open Cert.StepReferenceIdeal.StepRead (lane Finite)
open Cert.StepKernelIdeal Cert.StepKernelIdeal.Gen Idealize.ShloMosaic Idealize.ShloMosaic.TcCoe Idealize.SL.Sem

variable (m : (ℓ : Loc nD τ sig) → Buf (Elt Ideal) ℓ)

theorem gate_blk (c : Dev nD) (t : Fin cfg0.N) (b : Fin 32) (d : Fin 128) :
    gate (iblk m c 1 t) (iblk m c 4 t) b d = Cert.StepReferenceIdeal.StepRead.gate (proj m c) (logits m c) b (head t) d := by
  unfold gate Cert.StepReferenceIdeal.StepRead.gate
  rw [iblk1, iblk4]
  rfl

theorem newState_blk (c : Dev nD) (t : Fin cfg0.N) (b : Fin 32) (d e : Fin 128) :
    newState (iblk m c 1 t) (iblk m c 2 t) (iblk m c 4 t) (iblk m c 6 t) b d e
      = Cert.StepReferenceIdeal.StepRead.newState (proj m c) (logits m c) (state m c) b (head t) d e := by
  unfold newState Cert.StepReferenceIdeal.StepRead.newState
  rw [gate_blk, iblk2, iblk6]
  rfl

theorem readRow_blk (c : Dev nD) (t : Fin cfg0.N) (b : Fin 32) (e : Fin 128) :
    readRow (iblk m c 0 t) (iblk m c 1 t) (iblk m c 2 t) (iblk m c 4 t) (iblk m c 6 t) b e
      = Cert.StepReferenceIdeal.StepRead.readRow (proj m c) (logits m c) (state m c) b (head t) e := by
  unfold readRow Cert.StepReferenceIdeal.StepRead.readRow
  refine Finset.sum_congr rfl fun d _ => ?_
  rw [newState_blk, iblk0]
  rfl

theorem idx7 : ∀ t : Fin cfg0.N, win0_7.index t = ![0, t.val] := (by decide +kernel : ∀ t : Fin grid0.N, win0_7.index t = ![0, t.val])
theorem idx8 : ∀ t : Fin cfg0.N, win0_8.index t = ![0, t.val, 0, 0] := (by decide +kernel : ∀ t : Fin grid0.N, win0_8.index t = ![0, t.val, 0, 0])

theorem emb7 (t : Fin cfg0.N) (b : Fin 32) (e : Fin 128) : (win0_7.blk t).view.emb (ix2 b e) = (ix2 b (lane (head t) e) : S32x1024.Idx) := by
  have e := idx7 t
  funext a
  fin_cases a
  · apply Fin.ext
    blk_simp [e]
    try rfl
  · apply Fin.ext
    blk_simp [e]
    try rfl

theorem emb8 (t : Fin cfg0.N) (b : Fin 32) (d e : Fin 128) : (win0_8.blk t).view.emb (ix4 b 0 d e) = (ix4 b (head t) d e : S32x8x128x128.Idx) := by
  have e := idx8 t
  funext a
  fin_cases a
  · apply Fin.ext
    blk_simp [e]
    try rfl
  · apply Fin.ext
    blk_simp [e]
    try rfl
  · apply Fin.ext
    blk_simp [e]
    try rfl
  · apply Fin.ext
    blk_simp [e]
    try rfl

variable (c : Dev nD) (h0 : Finite (proj m c)) (h1 : Finite (logits m c)) (h3 : Finite (state m c))

theorem outs_state (t : Fin cfg0.N) (b : Fin 32) (d e : Fin 128) : (outsAt0 m c t).2 (ix4 b 0 d e)
    = newState (iblk m c 1 t) (iblk m c 2 t) (iblk m c 4 t) (iblk m c 6 t) b d e := by
  unfold outsAt0
  dsimp only
  exact out_state ..

theorem outs_row (t : Fin cfg0.N) (b : Fin 32) (e : Fin 128) : (outsAt0 m c t).1 (ix2 b e)
    = outRow (iblk m c 0 t) (iblk m c 1 t) (iblk m c 2 t) (iblk m c 3 t) (iblk m c 4 t) (iblk m c 5 t) (iblk m c 6 t) b e := by
  unfold outsAt0
  dsimp only
  exact out_row ..

include h0 h1 in
theorem point_state (t : Fin cfg0.N) (y : S32x1x128x128.Idx) : (outsAt0 m c t).2 y
    = Cert.StepReferenceIdeal.Read.val_main_v75 (F := Ideal) (proj m c) (logits m c) (state m c) ((win0_8.blk t).view.emb y) := by
  obtain ⟨b, z, d, e, rfl⟩ : ∃ (b : Fin 32) (z : Fin 1) (d e : Fin 128), y = ix4 b z d e := ⟨y 0, y 1, y 2, y 3, by funext a; fin_cases a <;> rfl⟩
  obtain rfl : z = 0 := Subsingleton.elim _ _
  rw [emb8, Cert.StepReferenceIdeal.StepRead.v75_newState _ _ _ h0 h1, ← newState_blk, outs_state]

include h0 h1 h3 in
theorem point_row (t : Fin cfg0.N) (y : S32x128.Idx) : (outsAt0 m c t).1 y
    = Cert.StepReferenceIdeal.Read.val_main_v94 (F := Ideal) (proj m c) (logits m c) (scale m c) (state m c) ((win0_7.blk t).view.emb y) := by
  obtain ⟨b, e, rfl⟩ : ∃ (b : Fin 32) (e : Fin 128), y = ix2 b e := ⟨y 0, y 1, by funext a; fin_cases a <;> rfl⟩
  rw [emb7, Cert.StepReferenceIdeal.StepRead.v94_eq, outs_row]
  simp only [Cert.StepReferenceIdeal.StepRead.v65_readRow _ _ _ h0 h1 h3]
  unfold outRow
  simp only [readRow_blk]
  rw [iblk3, iblk5]
  rfl

include h0 h1 in
/-- The new states. -/
theorem final_state : (dats m 0 c).arrAt 8 cfg0.N = Cert.StepReferenceIdeal.Read.val_main_v75 (F := Ideal) (proj m c) (logits m c) (state m c) := by
  refine (dats m 0 c).arrAt_eq_of_covers 8 _ (by decide +kernel) fun t hf y => ?_
  blk_simp
  rw [after0_8]
  exact point_state m c h0 h1 t y

include h0 h1 h3 in
/-- The rows of the output. -/
theorem final_row : (dats m 0 c).arrAt 7 cfg0.N = Cert.StepReferenceIdeal.Read.val_main_v94 (F := Ideal) (proj m c) (logits m c) (scale m c) (state m c) := by
  refine (dats m 0 c).arrAt_eq_of_covers 7 _ (by decide +kernel) fun t hf y => ?_
  blk_simp
  rw [after0_7]
  exact point_row m c h0 h1 h3 t y

end Cert.StepKernelIdeal.RowValue
-- ==== Proof.StepClaims.lean ====
/- The claims of the decode step: the frames, and the kernel's two results as the reference's for finite arguments. -/
module

public import proofs.«01_k».proof.Defs
public import proofs.«01_k».proof.Proof.Gen.StepKernel.Frame
public import proofs.«01_k».proof.Proof.Gen.StepReferenceIdeal.Run
public import proofs.«01_k».proof.Proof.StepValue
public import Idealize.ShloMosaic.Lib.ReduceAll
public import Idealize.ShloMosaic.Lib.Quiescent

@[expose] public section

set_option maxRecDepth 16384

noncomputable section

namespace Cert.Proof.StepClaims

open Cert.StepReferenceIdeal.StepRead (Finite)
open Idealize.ShloMosaic Idealize.ShloMosaic.TcCoe Idealize.SL.Sem

/-- The shape relations of the precondition's text. -/
theorem pre_facts : Cert.Pre_finite.Facts where
  bcast_S_S32x10776 := by decide
  reducesTo_S32x10776_S_d0_1 := by decide
  h_S_ := by decide
  bcast_S_S2x1024 := by decide
  reducesTo_S2x1024_S_d0_1 := by decide
  bcast_S_S1x32x8x128x128 := by decide
  reducesTo_S1x32x8x128x128_S_d0_1_2_3_4 := by decide

theorem inf_word : Ideal.ofBits FTy.f32 0x7F800000#32 = ⊤ := by simp [Ideal.ofBits, Ideal.ieee]

/-- A number whose absolute value lies below infinity is real. -/
theorem real_of_lt (x : EReal) (h : Ideal.cmp .olt (max x (-x)) (Ideal.ofBits FTy.f32 0x7F800000#32) = 1#1) : ∃ r : ℝ, x = (r : EReal) := by
  rw [inf_word] at h
  induction x with
  | bot => simp [Ideal.cmp] at h
  | top => simp [Ideal.cmp] at h
  | coe r => exact ⟨r, rfl⟩

theorem finite_of [Cert.Pre_finite.Facts] (x0 : FVec Ideal Cert.Pre_finite.S32x10776 .f32) (x1 : FVec Ideal Cert.Pre_finite.S2x1024 .f32)
    (x2 : FVec Ideal Cert.Pre_finite.S1x1024 .f32) (x3 : FVec Ideal Cert.Pre_finite.S1x32x8x128x128 .f32)
    (h : Cert.Pre_finite.fn (F := Ideal) x0 x1 x2 x3 = fun _ => 1#1) : Finite x0 ∧ Finite x1 ∧ Finite x3 := by
  have h' := congrFun h ix0
  dsimp only [Cert.Pre_finite.fn] at h'
  rw [andi_apply, IntOp.andi_eq_one, andi_apply, IntOp.andi_eq_one] at h'
  obtain ⟨⟨a, b⟩, d⟩ := h'
  exact ⟨fun i => real_of_lt _ (Host.reduce_andi_all _ _ _ _ _ a i), fun i => real_of_lt _ (Host.reduce_andi_all _ _ _ _ _ b i),
    fun i => real_of_lt _ (Host.reduce_andi_all _ _ _ _ _ d i)⟩

/-- The reference's frame, from its host run; it declares no semaphore. -/
theorem frame_reference : Cert.quiescent_StepReferenceIdeal := fun m ρ _ =>
  (θ_run Cert.StepReferenceIdeal.defs _ _).mono (fun r h => ⟨fun c => (h c).2.2, sem_eq_zero_of_no_sems (by decide) r.2⟩)
    (Cert.StepReferenceIdeal.Value.run (F := Ideal) m ρ)

theorem algebraic [Cert.Pre_finite.Facts] : Cert.algebraic_StepKernelIdeal_StepReferenceIdeal_pre_finite := by
  intro m ρ m' ρ' hpre hagree
  refine ⟨fun c => Cert.StepReferenceIdeal.Read.val_main_v94 (F := Ideal) (Cert.StepKernelIdeal.RowValue.proj m c) (Cert.StepKernelIdeal.RowValue.logits m c)
      (Cert.StepKernelIdeal.RowValue.scale m c) (Cert.StepKernelIdeal.RowValue.state m c),
    fun c => Cert.StepReferenceIdeal.Read.val_main_v75 (F := Ideal) (Cert.StepKernelIdeal.RowValue.proj m c) (Cert.StepKernelIdeal.RowValue.logits m c)
      (Cert.StepKernelIdeal.RowValue.state m c), ?_, ?_⟩
  · refine (θ_run Cert.StepKernelIdeal.defs _ _).mono (fun _ h c => ?_) (Cert.StepKernelIdeal.Value.run_blocks (F := Ideal) m ρ)
    obtain ⟨a, b, d⟩ := finite_of _ _ _ _ (hpre c)
    exact ⟨(h c).1.trans (Cert.StepKernelIdeal.RowValue.final_row m c a b d), (h c).2.1.trans (Cert.StepKernelIdeal.RowValue.final_state m c a b), (h c).2.2⟩
  · refine (θ_run Cert.StepReferenceIdeal.defs _ _).mono (fun _ h c => ⟨(h c).1.trans ?_, (h c).2.1.trans ?_, (h c).2.2⟩)
      (Cert.StepReferenceIdeal.Value.run (F := Ideal) m' ρ')
    · rw [Cert.StepReferenceIdeal.Read.val_main_v94_eq, (hagree c).1, (hagree c).2.1, (hagree c).2.2.1, (hagree c).2.2.2]
    · rw [Cert.StepReferenceIdeal.Read.val_main_v75_eq, (hagree c).1, (hagree c).2.1, (hagree c).2.2.2]

end Cert.Proof.StepClaims
-- ==== Proof.NormRows.lean ====
/- The rows of the normed matrix products: a row's root-mean-square norm, and the column order in which the calls hold the projections. -/
module

public import Idealize.ShloMosaic.Lib.Pipeline.ValueKit
public import Idealize.ShloMosaic.Lib.Pointwise
public import Idealize.ShloMosaic.Lib.Claim

@[expose] public section

noncomputable section

namespace Cert.NormRows

open Idealize.ShloMosaic Idealize.ShloMosaic.TcCoe Idealize.SL.Sem

/-- A row divided by its root mean square, times the norm's scale. -/
def normed (x g : Fin 2048 → EReal) (k : Fin 2048) : EReal :=
  x k * Ideal.rsqrt (Ideal.div (∑ k, x k * x k) (Ideal.ofBits FTy.f32 0x45000000#32) + Ideal.ofBits FTy.f32 0x3727C5AC#32) * g k

/-- Column `j` of the calls' order, from a function of the columns of the layer's order: the merge gates first, then the first mixer's
    queries, keys and values, the second mixer's parts, the first mixer's gates, and zeros. -/
def reorder (f : Fin 10776 → EReal) (j : Fin 11264) : EReal :=
  if h : j.val < 4096 then f ⟨6680 + j.val, by omega⟩
  else if h : j.val - 4096 < 2560 then f ⟨j.val - 4096, by omega⟩
  else if h : j.val - 4096 - 2560 < 4096 then f ⟨2584 + (j.val - 4096 - 2560), by omega⟩
  else if h : j.val - 4096 - 2560 - 4096 < 24 then f ⟨2560 + (j.val - 4096 - 2560 - 4096), by omega⟩
  else 0

/-- A product with reordered columns is the reordered product. -/
theorem sum_reorder (h : Fin 2048 → EReal) (w : Fin 2048 → Fin 10776 → EReal) (j : Fin 11264) :
    ∑ k, h k * reorder (w k) j = reorder (fun i => ∑ k, h k * w k i) j := by
  unfold reorder
  split_ifs <;> simp

/-- The calls' order put together from the parts of the layer's order. -/
theorem reorder_parts (f : Fin 10776 → EReal) (j : Fin 11264) :
    (if h : j.val < 2048 then f ⟨6680 + j.val, by omega⟩
    else if h : j.val - 2048 < 2048 then f ⟨8728 + (j.val - 2048), by omega⟩
    else if h : j.val - 2048 - 2048 < 1024 then f ⟨j.val - 2048 - 2048, by omega⟩
    else if h : j.val - 2048 - 2048 - 1024 < 1536 then f ⟨1024 + (j.val - 2048 - 2048 - 1024), by omega⟩
    else if h : j.val - 2048 - 2048 - 1024 - 1536 < 1024 then f ⟨2584 + (j.val - 2048 - 2048 - 1024 - 1536), by omega⟩
    else if h : j.val - 2048 - 2048 - 1024 - 1536 - 1024 < 1024 then f ⟨3608 + (j.val - 2048 - 2048 - 1024 - 1536 - 1024), by omega⟩
    else if h : j.val - 2048 - 2048 - 1024 - 1536 - 1024 - 1024 < 1024 then f ⟨4632 + (j.val - 2048 - 2048 - 1024 - 1536 - 1024 - 1024), by omega⟩
    else if h : j.val - 2048 - 2048 - 1024 - 1536 - 1024 - 1024 - 1024 < 1024 then f ⟨5656 + (j.val - 2048 - 2048 - 1024 - 1536 - 1024 - 1024 - 1024), by omega⟩
    else if h : j.val - 2048 - 2048 - 1024 - 1536 - 1024 - 1024 - 1024 - 1024 < 24 then f ⟨2560 + (j.val - 2048 - 2048 - 1024 - 1536 - 1024 - 1024 - 1024 - 1024), by omega⟩
    else 0) = reorder f j := by
  have hc : ∀ (i k : Fin 10776), i.val = k.val → f i = f k := fun i k e => congrArg f (Fin.ext e)
  unfold reorder
  rcases lt_or_ge j.val 2048 with h | h
  · rw [dif_pos h, dif_pos (by omega)]
  rw [dif_neg (by omega)]
  rcases lt_or_ge j.val 4096 with h | h
  · rw [dif_pos (by omega), dif_pos (by omega)]; apply hc; dsimp only; omega
  rw [dif_neg (by omega)]
  rcases lt_or_ge j.val 5120 with h | h
  · rw [dif_pos (by omega), dif_neg (by omega), dif_pos (by omega)]; apply hc; dsimp only; omega
  rw [dif_neg (by omega)]
  rcases lt_or_ge j.val 6656 with h | h
  · rw [dif_pos (by omega), dif_neg (by omega), dif_pos (by omega)]; apply hc; dsimp only; omega
  rw [dif_neg (by omega)]
  rcases lt_or_ge j.val 7680 with h | h
  · rw [dif_pos (by omega), dif_neg (by omega), dif_neg (by omega), dif_pos (by omega)]; apply hc; dsimp only; omega
  rw [dif_neg (by omega)]
  rcases lt_or_ge j.val 8704 with h | h
  · rw [dif_pos (by omega), dif_neg (by omega), dif_neg (by omega), dif_pos (by omega)]; apply hc; dsimp only; omega
  rw [dif_neg (by omega)]
  rcases lt_or_ge j.val 9728 with h | h
  · rw [dif_pos (by omega), dif_neg (by omega), dif_neg (by omega), dif_pos (by omega)]; apply hc; dsimp only; omega
  rw [dif_neg (by omega)]
  rcases lt_or_ge j.val 10752 with h | h
  · rw [dif_pos (by omega), dif_neg (by omega), dif_neg (by omega), dif_pos (by omega)]; apply hc; dsimp only; omega
  rw [dif_neg (by omega)]
  rcases lt_or_ge j.val 10776 with h | h
  · rw [dif_pos (by omega), dif_neg (by omega), dif_neg (by omega), dif_neg (by omega), dif_pos (by omega)]; apply hc; dsimp only; omega
  rw [dif_neg (by omega), dif_neg (by omega), dif_neg (by omega), dif_neg (by omega), dif_neg (by omega)]

end Cert.NormRows
-- ==== Proof.ProjBlocks.lean ====
/- The prompt's projections: what the kernel's body leaves at a point, and the blocks it stages. -/
module

public import proofs.«01_k».proof.Proof.Gen.ProjKernelIdeal.Value
public import Idealize.ShloMosaic.Lib.Pipeline.ReadBack
public import Idealize.ShloMosaic.Lib.StableHlo.ReadAt
public import proofs.«01_k».proof.Proof.NormRows

@[expose] public section

set_option maxRecDepth 16384

noncomputable section

namespace Cert.ProjKernelIdeal.RowValue

open Cert.NormRows
open Cert.ProjKernelIdeal Cert.ProjKernelIdeal.Gen Idealize.ShloMosaic Idealize.ShloMosaic.TcCoe Idealize.SL.Sem
open Idealize.ShloMosaic.Pipeline (Dat)

theorem pay1_apply (x : Vec Ideal S1024x2048 .f32) (g : Vec Ideal S1x2048 .f32) (p : Fin 1024) (k : Fin 2048) :
    k0_pay1 x g (ix2 p k) = normed (fun k => x (ix2 p k)) (fun k => g (ix2 0 k)) k := by
  pointwise [k0_pay1, normed]

theorem pay2_apply (h : Vec Ideal S1024x2048 .bf16) (w : Vec Ideal S2048x512 .bf16) (p : Fin 1024) (q : Fin 512) :
    k0_pay2 h w (ix2 p q) = ∑ k : Fin 2048, h (ix2 p k) * w (ix2 k q) := by
  pointwise [k0_pay2]

variable (m : (ℓ : Loc nD τ sig) → Buf (Elt Ideal) ℓ)

theorem out_A (c : Dev nD) (t : Fin cfg0.N) (h0 : t.val % 22 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  refine Prod.ext ?_ ?_
  · funext y
    frame_open
    frame_out
  · funext y
    frame_open
    frame_out

theorem out_B (c : Dev nD) (t : Fin cfg0.N) (h0 : ¬t.val % 22 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  refine Prod.ext ?_ rfl
  funext y
  frame_open
  frame_out
  rw [read_unread_whole]

/-- The arguments on core `c`: the prompt's rows, the norm's scale, the projections' matrix. -/
abbrev rows (c : Dev nD) : FVec Ideal S2x8192x2048 .f32 := m ((c : Thread nD τ).loc main_arg0)
@[inherit_doc rows] abbrev scale (c : Dev nD) : FVec Ideal S1x2048 .f32 := m ((c : Thread nD τ).loc main_arg1)
@[inherit_doc rows] abbrev mat (c : Dev nD) : FVec Ideal S1x2048x10776 .f32 := m ((c : Thread nD τ).loc main_arg2)

theorem V_v0 (c : Dev nD) : (V m c main_v0 : FVec Ideal S16384x2048 .f32) = shapeCast S16384x2048 (rows m c) shapeCasts_S2x8192x2048_S16384x2048 := by
  unfold V
  simp only [hostOps0]
  after_reads_simp
  try rfl

theorem V_v10 (c : Dev nD) : (V m c main_v10 : FVec Ideal S1x2048 .f32) = shapeCast S1x2048 (shapeCast S2048 (scale m c) shapeCasts_S1x2048_S2048) shapeCasts_S2048_S1x2048 := by
  unfold V
  simp only [hostOps0]
  after_reads_simp
  try rfl

/-- The matrix with its columns in the calls' order. -/
def matR (c : Dev nD) : FVec Ideal S2048x11264 .bf16 :=
  let w : FVec Ideal S2048x10776 .f32 := shapeCast S2048x10776 (mat m c) shapeCasts_S1x2048x10776_S2048x10776
  truncf .bf16 (concatenate S2048x11264 1
      [⟨S2048x4096, extractStridedSlice S2048x4096 ![0, 6680] w slices_S2048x10776_S2048x4096_0_6680⟩,
       ⟨S2048x2560, extractStridedSlice S2048x2560 ![0, 0] w slices_S2048x10776_S2048x2560_0_0⟩,
       ⟨S2048x4096, extractStridedSlice S2048x4096 ![0, 2584] w slices_S2048x10776_S2048x4096_0_2584⟩,
       ⟨S2048x24, extractStridedSlice S2048x24 ![0, 2560] w slices_S2048x10776_S2048x24_0_2560⟩,
       ⟨S2048x488, (broadcastInDim S2048x488 ![] bcast_S_S2048x488 (constant S_ FTy.f32 0#32) : FVec Ideal S2048x488 .f32)⟩]
      concatenates_S2048x4096_S2048x2560_S2048x4096_S2048x24_S2048x488_S2048x11264_d1) bitsLt_bf16_f32

theorem V_v9 (c : Dev nD) : (V m c main_v9 : FVec Ideal S2048x11264 .bf16) = matR m c := by
  unfold V
  simp only [hostOps0]
  after_reads_simp
  rfl

theorem matR_apply (c : Dev nD) (k : Fin 2048) (j : Fin 11264) : matR m c (ix2 k j) = reorder (fun i => mat m c (ix3 0 k i)) j := by
  pointwise [matR, reorder]

theorem pt_lt (t : Fin cfg0.N) : t.val < 352 := lt_of_lt_of_eq t.isLt N_0

theorem idx0 : ∀ t : Fin cfg0.N, win0_0.index t = ![t.val / 22, 0] := (by decide +kernel : ∀ t : Fin grid0.N, win0_0.index t = ![t.val / 22, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 22] := (by decide +kernel : ∀ t : Fin grid0.N, win0_2.index t = ![0, t.val % 22])
theorem idx3 : ∀ t : Fin cfg0.N, win0_3.index t = ![t.val / 22, t.val % 22] := (by decide +kernel : ∀ t : Fin grid0.N, win0_3.index t = ![t.val / 22, t.val % 22])

/-- Row `r` of the prompt, of all 16384. -/
def row (c : Dev nD) (r : Fin 16384) (k : Fin 2048) : EReal := rows m c (ix3 ⟨r.val / 8192, by omega⟩ ⟨r.val % 8192, by omega⟩ k)

theorem iblk0 (c : Dev nD) (t : Fin cfg0.N) (p : Fin 1024) (k : Fin 2048) :
    iblk m c 0 t (ix2 p k) = row m c ⟨t.val / 22 * 1024 + p.val, by have := pt_lt t; omega⟩ k := by
  have hi : (win0_0.blk t).view.emb (ix2 p k) = (ix2 ⟨t.val / 22 * 1024 + p.val, by have := pt_lt t; omega⟩ k : S16384x2048.Idx) := by
    have e := idx0 t
    funext a
    fin_cases a
    · apply Fin.ext
      blk_simp [e]
      try rfl
    · apply Fin.ext
      blk_simp [e]
      try rfl
  unfold iblk
  blk_simp
  rw [hi, show V m c main_v0 = _ from V_v0 m c]
  pointwise [row]

theorem iblk1 (c : Dev nD) (t : Fin cfg0.N) (k : Fin 2048) : iblk m c 1 t (ix2 0 k) = scale m c (ix2 0 k) := by
  have hi : (win0_1.blk t).view.emb (ix2 0 k) = (ix2 0 k : S1x2048.Idx) := by
    have e := idx1 t
    funext a
    fin_cases a
    · apply Fin.ext
      blk_simp [e]
      try rfl
    · apply Fin.ext
      blk_simp [e]
      try rfl
  unfold iblk
  blk_simp
  rw [hi, show V m c main_v10 = _ from V_v10 m c]
  pointwise

theorem iblk2 (c : Dev nD) (t : Fin cfg0.N) (k : Fin 2048) (q : Fin 512) :
    iblk m c 2 t (ix2 k q) = reorder (fun i => mat m c (ix3 0 k i)) ⟨t.val % 22 * 512 + q.val, by have := pt_lt t; omega⟩ := by
  have hi : (win0_2.blk t).view.emb (ix2 k q) = (ix2 k ⟨t.val % 22 * 512 + q.val, by have := pt_lt t; omega⟩ : S2048x11264.Idx) := by
    have e := idx2 t
    funext a
    fin_cases a
    · apply Fin.ext
      blk_simp [e]
      try rfl
    · apply Fin.ext
      blk_simp [e]
      try rfl
  unfold iblk
  blk_simp
  rw [hi, show V m c main_v9 = _ from V_v9 m c, matR_apply]

theorem emb3 (t : Fin cfg0.N) (p : Fin 1024) (q : Fin 512) : (win0_3.blk t).view.emb (ix2 p q)
    = (ix2 ⟨t.val / 22 * 1024 + p.val, by have := pt_lt t; omega⟩ ⟨t.val % 22 * 512 + q.val, by have := pt_lt t; omega⟩ : S16384x11264.Idx) := by
  have e := idx3 t
  funext a
  fin_cases a
  · apply Fin.ext
    blk_simp [e]
    try rfl
  · apply Fin.ext
    blk_simp [e]
    try rfl

/-- The normed rows that the scratch holds after point `n`: those of the point's block of rows. -/
theorem scratch (c : Dev nD) : ∀ (n : ℕ) (hn : n < cfg0.N) (p : Fin 1024) (k : Fin 2048),
    (outsAt0 m c n hn).2 (ix2 p k)
      = normed (row m c ⟨n / 22 * 1024 + p.val, by have := pt_lt ⟨n, hn⟩; dsimp only at this; omega⟩) (fun k => scale m c (ix2 0 k)) k := by
  intro n
  induction n with
  | zero =>
    intro hn p k
    rw [out_A m c ⟨0, hn⟩ rfl]
    dsimp only
    rw [pay1_apply]
    simp only [iblk0, iblk1]
  | succ n ih =>
    intro hn p k
    by_cases h0 : (n + 1) % 22 = 0
    · rw [out_A m c ⟨n + 1, hn⟩ h0]
      dsimp only
      rw [pay1_apply]
      simp only [iblk0, iblk1]
    · rw [out_B m c ⟨n + 1, hn⟩ h0]
      dsimp only
      refine (ih _ p k).trans ?_
      have e : n / 22 = (n + 1) / 22 := by omega
      simp only [e]

/-- WHAT THE KERNEL LEAVES: at row `r` and column `j` of the calls' order, the normed row times that column of the matrix. -/
def out (c : Dev nD) (r : Fin 16384) (j : Fin 11264) : EReal :=
  reorder (fun i => ∑ k, normed (row m c r) (fun k => scale m c (ix2 0 k)) k * mat m c (ix3 0 k i)) j

theorem point (c : Dev nD) (t : Fin cfg0.N) (p : Fin 1024) (q : Fin 512) : (outsAt0 m c t.val t.isLt).1 (ix2 p q)
    = out m c ⟨t.val / 22 * 1024 + p.val, by have := pt_lt t; omega⟩ ⟨t.val % 22 * 512 + q.val, by have := pt_lt t; omega⟩ := by
  have hs : (outsAt0 m c t.val t.isLt).1 = k0_pay2 (outsAt0 m c t.val t.isLt).2 (iblk m c 2 t) := by
    by_cases h0 : t.val % 22 = 0
    · rw [out_A m c t h0]
    · rw [out_B m c t h0]
  rw [hs, pay2_apply]
  unfold out
  rw [← sum_reorder]
  refine Finset.sum_congr rfl fun k _ => ?_
  rw [scratch, iblk2]

end Cert.ProjKernelIdeal.RowValue
-- ==== Proof.ProjClaims.lean ====
/- The claims of the prompt's projections. -/
module

public import proofs.«01_k».proof.Defs
public import proofs.«01_k».proof.Proof.Gen.ProjReferenceIdeal.Read
public import proofs.«01_k».proof.Proof.ProjBlocks
public import Idealize.ShloMosaic.Lib.Quiescent

@[expose] public section

set_option maxRecDepth 16384

noncomputable section

namespace Cert.ProjReferenceIdeal.RowRead

open Cert.NormRows Cert.ProjReferenceIdeal.Read
open Cert.ProjReferenceIdeal Cert.ProjReferenceIdeal.Gen Idealize.ShloMosaic Idealize.ShloMosaic.TcCoe Idealize.SL.Sem

variable (x : FVec Ideal S2x8192x2048 .f32) (g : FVec Ideal S1x2048 .f32) (w : FVec Ideal S1x2048x10776 .f32)

theorem v13_apply (b : Fin 2) (t : Fin 8192) (k : Fin 2048) :
    val_main_v13 (F := Ideal) x g (ix3 b t k) = normed (fun k => x (ix3 b t k)) (fun k => g (ix2 0 k)) k := by
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1
  pointwise [normed]

theorem v15_apply (b : Fin 2) (t : Fin 8192) (i : Fin 10776) :
    val_main_v15 (F := Ideal) x g w (ix3 b t i) = ∑ k, normed (fun k => x (ix3 b t k)) (fun k => g (ix2 0 k)) k * w (ix3 0 k i) := by
  simp only [← v13_apply]
  unfold val_main_v15 val_main_v14
  generalize val_main_v13 (F := Ideal) x g = h
  pointwise

theorem v26_apply (b : Fin 2) (t : Fin 8192) (j : Fin 11264) : val_main_v26 (F := Ideal) x g w (ix3 b t j)
    = reorder (fun i => val_main_v15 (F := Ideal) x g w (ix3 b t i)) j := by
  unfold val_main_v26 val_main_v25 val_main_v24 val_main_v23 val_main_v22 val_main_v21 val_main_v20 val_main_v19 val_main_v18 val_main_v17
    val_main_v16 val_main_cst_2
  generalize val_main_v15 (F := Ideal) x g w = y
  pointwise
  exact reorder_parts (fun i => y (ix3 b t i)) j

theorem v27_apply (r : Fin 16384) (j : Fin 11264) : val_main_v27 (F := Ideal) x g w (ix2 r j)
    = reorder (fun i => ∑ k, normed (fun k => x (ix3 ⟨r.val / 8192, by omega⟩ ⟨r.val % 8192, by omega⟩ k)) (fun k => g (ix2 0 k)) k * w (ix3 0 k i)) j := by
  simp only [← v15_apply, ← v26_apply]
  unfold val_main_v27
  generalize val_main_v26 (F := Ideal) x g w = y
  pointwise

end Cert.ProjReferenceIdeal.RowRead

namespace Cert.Proof.ProjClaims

open Cert.ProjReferenceIdeal.Read Cert.ProjReferenceIdeal.RowRead
open Cert.ProjKernelIdeal Cert.ProjKernelIdeal.Gen Cert.ProjKernelIdeal.RowValue Idealize.ShloMosaic Idealize.ShloMosaic.TcCoe Idealize.SL.Sem

theorem point_value (m : (ℓ : Loc nD τ sig) → Buf (Elt Ideal) ℓ) (c : Dev nD) (t : Fin cfg0.N) (y : S1024x512.Idx) : (outsAt0 m c t.val t.isLt).1 y
    = val_main_v27 (F := Ideal) (rows m c) (scale m c) (mat m c) ((win0_3.blk t).view.emb y) := by
  obtain ⟨p, q, rfl⟩ : ∃ (p : Fin 1024) (q : Fin 512), y = ix2 p q := ⟨y 0, y 1, by funext a; fin_cases a <;> rfl⟩
  rw [emb3, v27_apply, point]
  rfl

/-- The projections. -/
theorem final (m : (ℓ : Loc nD τ sig) → Buf (Elt Ideal) ℓ) (c : Dev nD) :
    (dats m 0 c).arrAt 3 cfg0.N = val_main_v27 (F := Ideal) (rows m c) (scale m c) (mat m c) := by
  refine (dats m 0 c).arrAt_eq_of_covers 3 _ (by decide +kernel) fun t hf y => ?_
  blk_simp
  rw [after0_3]
  exact point_value m c t y

/-- The reference's frame, from its host run; it declares no semaphore. -/
theorem frame_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem algebraic : Cert.algebraic_ProjKernelIdeal_ProjReferenceIdeal := by
  intro m ρ m' ρ' _ hagree
  refine ⟨fun c => val_main_v27 (F := Ideal) (rows m c) (scale m c) (mat m c), ?_, ?_⟩
  · exact (θ_run Cert.ProjKernelIdeal.defs _ _).mono (fun _ h c => ⟨(h c).1.trans (final m c), (h c).2⟩) (Cert.ProjKernelIdeal.Value.run_blocks (F := Ideal) m ρ)
  · refine (θ_run Cert.ProjReferenceIdeal.defs _ _).mono (fun _ h c => ⟨(h c).1.trans ?_, (h c).2⟩) (Cert.ProjReferenceIdeal.Value.run (F := Ideal) m' ρ')
    rw [val_main_v27_eq, (hagree c).1, (hagree c).2.1, (hagree c).2.2]

end Cert.Proof.ProjClaims
-- ==== Proof.SProjBlocks.lean ====
/- The samples' projections: what the kernel's body leaves at a point, and the blocks it stages. -/
module

public import proofs.«01_k».proof.Proof.Gen.SProjKernelIdeal.Value
public import Idealize.ShloMosaic.Lib.Pipeline.ReadBack
public import Idealize.ShloMosaic.Lib.StableHlo.ReadAt
public import proofs.«01_k».proof.Proof.NormRows

@[expose] public section

set_option maxRecDepth 16384

noncomputable section

namespace Cert.SProjKernelIdeal.RowValue

open Cert.NormRows
open Cert.SProjKernelIdeal Cert.SProjKernelIdeal.Gen Idealize.ShloMosaic Idealize.ShloMosaic.TcCoe Idealize.SL.Sem
open Idealize.ShloMosaic.Pipeline (Dat)

theorem pay1_apply (x : Vec Ideal S32x2048 .f32) (g : Vec Ideal S1x2048 .f32) (p : Fin 32) (k : Fin 2048) :
    k0_pay1 x g (ix2 p k) = normed (fun k => x (ix2 p k)) (fun k => g (ix2 0 k)) k := by
  pointwise [k0_pay1, normed]

theorem pay2_apply (h : Vec Ideal S32x2048 .f32) (w : Vec Ideal S2048x512 .f32) (p : Fin 32) (q : Fin 512) :
    k0_pay2 h w (ix2 p q) = ∑ k : Fin 2048, h (ix2 p k) * w (ix2 k q) := by
  pointwise [k0_pay2]

variable (m : (ℓ : Loc nD τ sig) → Buf (Elt Ideal) ℓ)

theorem out_A (c : Dev nD) (t : Fin cfg0.N) (h0 : t.val % 22 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  refine Prod.ext ?_ ?_
  · funext y
    frame_open
    frame_out
  · funext y
    frame_open
    frame_out

theorem out_B (c : Dev nD) (t : Fin cfg0.N) (h0 : ¬t.val % 22 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  refine Prod.ext ?_ rfl
  funext y
  frame_open
  frame_out
  rw [read_unread_whole]

/-- The arguments on core `c`: the samples' rows, the norm's scale, the projections' matrix. -/
abbrev rows (c : Dev nD) : FVec Ideal S32x1x2048 .f32 := m ((c : Thread nD τ).loc main_arg0)
@[inherit_doc rows] abbrev scale (c : Dev nD) : FVec Ideal S1x2048 .f32 := m ((c : Thread nD τ).loc main_arg1)
@[inherit_doc rows] abbrev mat (c : Dev nD) : FVec Ideal S1x2048x10776 .f32 := m ((c : Thread nD τ).loc main_arg2)

theorem V_v0 (c : Dev nD) : (V m c main_v0 : FVec Ideal S32x2048 .f32) = shapeCast S32x2048 (rows m c) shapeCasts_S32x1x2048_S32x2048 := by
  unfold V
  simp only [hostOps0]
  after_reads_simp
  try rfl

theorem V_v9 (c : Dev nD) : (V m c main_v9 : FVec Ideal S1x2048 .f32) = shapeCast S1x2048 (shapeCast S2048 (scale m c) shapeCasts_S1x2048_S2048) shapeCasts_S2048_S1x2048 := by
  unfold V
  simp only [hostOps0]
  after_reads_simp
  try rfl

/-- The matrix with its columns in the calls' order. -/
def matR (c : Dev nD) : FVec Ideal S2048x11264 .f32 :=
  let w : FVec Ideal S2048x10776 .f32 := shapeCast S2048x10776 (mat m c) shapeCasts_S1x2048x10776_S2048x10776
  (concatenate S2048x11264 1
      [⟨S2048x4096, extractStridedSlice S2048x4096 ![0, 6680] w slices_S2048x10776_S2048x4096_0_6680⟩,
       ⟨S2048x2560, extractStridedSlice S2048x2560 ![0, 0] w slices_S2048x10776_S2048x2560_0_0⟩,
       ⟨S2048x4096, extractStridedSlice S2048x4096 ![0, 2584] w slices_S2048x10776_S2048x4096_0_2584⟩,
       ⟨S2048x24, extractStridedSlice S2048x24 ![0, 2560] w slices_S2048x10776_S2048x24_0_2560⟩,
       ⟨S2048x488, (broadcastInDim S2048x488 ![] bcast_S_S2048x488 (constant S_ FTy.f32 0#32) : FVec Ideal S2048x488 .f32)⟩]
      concatenates_S2048x4096_S2048x2560_S2048x4096_S2048x24_S2048x488_S2048x11264_d1)

theorem V_v8 (c : Dev nD) : (V m c main_v8 : FVec Ideal S2048x11264 .f32) = matR m c := by
  unfold V
  simp only [hostOps0]
  after_reads_simp
  rfl

theorem matR_apply (c : Dev nD) (k : Fin 2048) (j : Fin 11264) : matR m c (ix2 k j) = reorder (fun i => mat m c (ix3 0 k i)) j := by
  pointwise [matR, reorder]

theorem pt_lt (t : Fin cfg0.N) : t.val < 22 := lt_of_lt_of_eq t.isLt N_0

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 22] := (by decide +kernel : ∀ t : Fin grid0.N, win0_2.index t = ![0, t.val % 22])
theorem idx3 : ∀ t : Fin cfg0.N, win0_3.index t = ![0, t.val % 22] := (by decide +kernel : ∀ t : Fin grid0.N, win0_3.index t = ![0, t.val % 22])

/-- Row `r` of the samples. -/
def row (c : Dev nD) (r : Fin 32) (k : Fin 2048) : EReal := rows m c (ix3 r 0 k)

theorem iblk0 (c : Dev nD) (t : Fin cfg0.N) (p : Fin 32) (k : Fin 2048) :
    iblk m c 0 t (ix2 p k) = row m c p k := by
  have hi : (win0_0.blk t).view.emb (ix2 p k) = (ix2 p k : S32x2048.Idx) := by
    have e := idx0 t
    funext a
    fin_cases a
    · apply Fin.ext
      blk_simp [e]
      try rfl
    · apply Fin.ext
      blk_simp [e]
      try rfl
  unfold iblk
  blk_simp
  rw [hi, show V m c main_v0 = _ from V_v0 m c]
  pointwise [row]

theorem iblk1 (c : Dev nD) (t : Fin cfg0.N) (k : Fin 2048) : iblk m c 1 t (ix2 0 k) = scale m c (ix2 0 k) := by
  have hi : (win0_1.blk t).view.emb (ix2 0 k) = (ix2 0 k : S1x2048.Idx) := by
    have e := idx1 t
    funext a
    fin_cases a
    · apply Fin.ext
      blk_simp [e]
      try rfl
    · apply Fin.ext
      blk_simp [e]
      try rfl
  unfold iblk
  blk_simp
  rw [hi, show V m c main_v9 = _ from V_v9 m c]
  pointwise

theorem iblk2 (c : Dev nD) (t : Fin cfg0.N) (k : Fin 2048) (q : Fin 512) :
    iblk m c 2 t (ix2 k q) = reorder (fun i => mat m c (ix3 0 k i)) ⟨t.val % 22 * 512 + q.val, by have := pt_lt t; omega⟩ := by
  have hi : (win0_2.blk t).view.emb (ix2 k q) = (ix2 k ⟨t.val % 22 * 512 + q.val, by have := pt_lt t; omega⟩ : S2048x11264.Idx) := by
    have e := idx2 t
    funext a
    fin_cases a
    · apply Fin.ext
      blk_simp [e]
      try rfl
    · apply Fin.ext
      blk_simp [e]
      try rfl
  unfold iblk
  blk_simp
  rw [hi, show V m c main_v8 = _ from V_v8 m c, matR_apply]

theorem emb3 (t : Fin cfg0.N) (p : Fin 32) (q : Fin 512) : (win0_3.blk t).view.emb (ix2 p q)
    = (ix2 p ⟨t.val % 22 * 512 + q.val, by have := pt_lt t; omega⟩ : S32x11264.Idx) := by
  have e := idx3 t
  funext a
  fin_cases a
  · apply Fin.ext
    blk_simp [e]
    try rfl
  · apply Fin.ext
    blk_simp [e]
    try rfl

/-- The normed rows that the scratch holds after point `n`: those of the point's block of rows. -/
theorem scratch (c : Dev nD) : ∀ (n : ℕ) (hn : n < cfg0.N) (p : Fin 32) (k : Fin 2048),
    (outsAt0 m c n hn).2 (ix2 p k)
      = normed (row m c p) (fun k => scale m c (ix2 0 k)) k := by
  intro n
  induction n with
  | zero =>
    intro hn p k
    rw [out_A m c ⟨0, hn⟩ rfl]
    dsimp only
    rw [pay1_apply]
    simp only [iblk0, iblk1]
  | succ n ih =>
    intro hn p k
    by_cases h0 : (n + 1) % 22 = 0
    · rw [out_A m c ⟨n + 1, hn⟩ h0]
      dsimp only
      rw [pay1_apply]
      simp only [iblk0, iblk1]
    · rw [out_B m c ⟨n + 1, hn⟩ h0]
      dsimp only
      exact ih _ p k

/-- WHAT THE KERNEL LEAVES: at row `r` and column `j` of the calls' order, the normed row times that column of the matrix. -/
def out (c : Dev nD) (r : Fin 32) (j : Fin 11264) : EReal :=
  reorder (fun i => ∑ k, normed (row m c r) (fun k => scale m c (ix2 0 k)) k * mat m c (ix3 0 k i)) j

theorem point (c : Dev nD) (t : Fin cfg0.N) (p : Fin 32) (q : Fin 512) : (outsAt0 m c t.val t.isLt).1 (ix2 p q)
    = out m c p ⟨t.val % 22 * 512 + q.val, by have := pt_lt t; omega⟩ := by
  have hs : (outsAt0 m c t.val t.isLt).1 = k0_pay2 (outsAt0 m c t.val t.isLt).2 (iblk m c 2 t) := by
    by_cases h0 : t.val % 22 = 0
    · rw [out_A m c t h0]
    · rw [out_B m c t h0]
  rw [hs, pay2_apply]
  unfold out
  rw [← sum_reorder]
  refine Finset.sum_congr rfl fun k _ => ?_
  rw [scratch, iblk2]

end Cert.SProjKernelIdeal.RowValue
-- ==== Proof.SProjClaims.lean ====
/- The claims of the samples' projections. -/
module

public import proofs.«01_k».proof.Defs
public import proofs.«01_k».proof.Proof.Gen.SProjReferenceIdeal.Read
public import proofs.«01_k».proof.Proof.SProjBlocks
public import Idealize.ShloMosaic.Lib.Quiescent

@[expose] public section

set_option maxRecDepth 16384

noncomputable section

namespace Cert.SProjReferenceIdeal.RowRead

open Cert.NormRows Cert.SProjReferenceIdeal.Read
open Cert.SProjReferenceIdeal Cert.SProjReferenceIdeal.Gen Idealize.ShloMosaic Idealize.ShloMosaic.TcCoe Idealize.SL.Sem

variable (x : FVec Ideal S32x1x2048 .f32) (g : FVec Ideal S1x2048 .f32) (w : FVec Ideal S1x2048x10776 .f32)

theorem v13_apply (b : Fin 32) (t : Fin 1) (k : Fin 2048) :
    val_main_v13 (F := Ideal) x g (ix3 b t k) = normed (fun k => x (ix3 b t k)) (fun k => g (ix2 0 k)) k := by
  obtain rfl : t = 0 := Subsingleton.elim _ _
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1
  pointwise [normed]

theorem v15_apply (b : Fin 32) (t : Fin 1) (i : Fin 10776) :
    val_main_v15 (F := Ideal) x g w (ix3 b t i) = ∑ k, normed (fun k => x (ix3 b t k)) (fun k => g (ix2 0 k)) k * w (ix3 0 k i) := by
  simp only [← v13_apply]
  unfold val_main_v15 val_main_v14
  generalize val_main_v13 (F := Ideal) x g = h
  pointwise

theorem v26_apply (b : Fin 32) (t : Fin 1) (j : Fin 11264) : val_main_v26 (F := Ideal) x g w (ix3 b t j)
    = reorder (fun i => val_main_v15 (F := Ideal) x g w (ix3 b t i)) j := by
  obtain rfl : t = 0 := Subsingleton.elim _ _
  unfold val_main_v26 val_main_v25 val_main_v24 val_main_v23 val_main_v22 val_main_v21 val_main_v20 val_main_v19 val_main_v18 val_main_v17
    val_main_v16 val_main_cst_2
  generalize val_main_v15 (F := Ideal) x g w = y
  pointwise
  exact reorder_parts (fun i => y (ix3 b 0 i)) j

theorem v27_apply (r : Fin 32) (j : Fin 11264) : val_main_v27 (F := Ideal) x g w (ix2 r j)
    = reorder (fun i => ∑ k, normed (fun k => x (ix3 r 0 k)) (fun k => g (ix2 0 k)) k * w (ix3 0 k i)) j := by
  have h : val_main_v27 (F := Ideal) x g w (ix2 r j) = val_main_v26 (F := Ideal) x g w (ix3 r 0 j) := by
    unfold val_main_v27
    generalize val_main_v26 (F := Ideal) x g w = y
    pointwise
  rw [h, v26_apply]
  exact congrArg (fun f => reorder f j) (funext fun i => v15_apply x g w r 0 i)

end Cert.SProjReferenceIdeal.RowRead

namespace Cert.Proof.SProjClaims

open Cert.SProjReferenceIdeal.Read Cert.SProjReferenceIdeal.RowRead
open Cert.SProjKernelIdeal Cert.SProjKernelIdeal.Gen Cert.SProjKernelIdeal.RowValue Idealize.ShloMosaic Idealize.ShloMosaic.TcCoe Idealize.SL.Sem

theorem point_value (m : (ℓ : Loc nD τ sig) → Buf (Elt Ideal) ℓ) (c : Dev nD) (t : Fin cfg0.N) (y : S32x512.Idx) : (outsAt0 m c t.val t.isLt).1 y
    = val_main_v27 (F := Ideal) (rows m c) (scale m c) (mat m c) ((win0_3.blk t).view.emb y) := by
  obtain ⟨p, q, rfl⟩ : ∃ (p : Fin 32) (q : Fin 512), y = ix2 p q := ⟨y 0, y 1, by funext a; fin_cases a <;> rfl⟩
  rw [emb3, v27_apply, point]
  rfl

/-- The projections. -/
theorem final (m : (ℓ : Loc nD τ sig) → Buf (Elt Ideal) ℓ) (c : Dev nD) :
    (dats m 0 c).arrAt 3 cfg0.N = val_main_v27 (F := Ideal) (rows m c) (scale m c) (mat m c) := by
  refine (dats m 0 c).arrAt_eq_of_covers 3 _ (by decide +kernel) fun t hf y => ?_
  blk_simp
  rw [after0_3]
  exact point_value m c t y

/-- The reference's frame, from its host run; it declares no semaphore. -/
theorem frame_reference : Cert.quiescent_SProjReferenceIdeal := fun m ρ _ =>
  (θ_run Cert.SProjReferenceIdeal.defs _ _).mono (fun r h => ⟨fun c => (h c).2, sem_eq_zero_of_no_sems (by decide) r.2⟩)
    (Cert.SProjReferenceIdeal.Value.run (F := Ideal) m ρ)

theorem algebraic : Cert.algebraic_SProjKernelIdeal_SProjReferenceIdeal := by
  intro m ρ m' ρ' _ hagree
  refine ⟨fun c => val_main_v27 (F := Ideal) (rows m c) (scale m c) (mat m c), ?_, ?_⟩
  · exact (θ_run Cert.SProjKernelIdeal.defs _ _).mono (fun _ h c => ⟨(h c).1.trans (final m c), (h c).2⟩) (Cert.SProjKernelIdeal.Value.run_blocks (F := Ideal) m ρ)
  · refine (θ_run Cert.SProjReferenceIdeal.defs _ _).mono (fun _ h c => ⟨(h c).1.trans ?_, (h c).2⟩) (Cert.SProjReferenceIdeal.Value.run (F := Ideal) m' ρ')
    rw [val_main_v27_eq, (hagree c).1, (hagree c).2.1, (hagree c).2.2]

end Cert.Proof.SProjClaims
-- ==== Proof.MemBlocks.lean ====
/- The memory's keys and values: what the kernel's body leaves at a point, and the blocks it stages. -/
module

public import proofs.«01_k».proof.Proof.Gen.MemKernelIdeal.Value
public import Idealize.ShloMosaic.Lib.Pipeline.ReadBack
public import Idealize.ShloMosaic.Lib.StableHlo.ReadAt
public import proofs.«01_k».proof.Proof.NormRows

@[expose] public section

set_option maxRecDepth 16384

noncomputable section

namespace Cert.MemKernelIdeal.RowValue

open Cert.NormRows
open Cert.MemKernelIdeal Cert.MemKernelIdeal.Gen Idealize.ShloMosaic Idealize.ShloMosaic.TcCoe Idealize.SL.Sem
open Idealize.ShloMosaic.Pipeline (Dat)

theorem pay1_apply (x : Vec Ideal S512x2048 .f32) (p : Fin 512) (k : Fin 2048) : k0_pay1 x (ix2 p k) = x (ix2 p k) := by
  pointwise [k0_pay1]

theorem pay2_apply (h : Vec Ideal S512x2048 .bf16) (w : Vec Ideal S2048x512 .bf16) (p : Fin 512) (q : Fin 512) :
    k0_pay2 h w (ix2 p q) = ∑ k : Fin 2048, h (ix2 p k) * w (ix2 k q) := by
  pointwise [k0_pay2]

variable (m : (ℓ : Loc nD τ sig) → Buf (Elt Ideal) ℓ)

theorem out_A (c : Dev nD) (t : Fin cfg0.N) (h0 : t.val % 2 = 0) :
    outsAt0 m c t.val t.isLt = (k0_pay2 (k0_pay1 (iblk m c 0 t)) (iblk m c 2 t), k0_pay1 (iblk m c 0 t)) := by
  rw [outsAt0_A m c t h0]
  refine Prod.ext ?_ ?_
  · funext y
    frame_open
    frame_out
  · funext y
    frame_open
    frame_out

theorem out_B (c : Dev nD) (t : Fin cfg0.N) (h0 : ¬t.val % 2 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  refine Prod.ext ?_ rfl
  funext y
  frame_open
  frame_out
  rw [read_unread_whole]

/-- The arguments on core `c`: the memory's rows, the matrices of the keys and of the values. -/
abbrev rows (c : Dev nD) : FVec Ideal S2x256x2048 .f32 := m ((c : Thread nD τ).loc main_arg0)
@[inherit_doc rows] abbrev matK (c : Dev nD) : FVec Ideal S1x2048x512 .f32 := m ((c : Thread nD τ).loc main_arg2)
@[inherit_doc rows] abbrev matV (c : Dev nD) : FVec Ideal S1x2048x512 .f32 := m ((c : Thread nD τ).loc main_arg3)

theorem V_v4 (c : Dev nD) : (V m c main_v4 : FVec Ideal S512x2048 .f32) = shapeCast S512x2048 (rows m c) shapeCasts_S2x256x2048_S512x2048 := by
  unfold V
  simp only [hostOps0]
  after_reads_simp
  try rfl

/-- The two matrices side by side. -/
def matR (c : Dev nD) : FVec Ideal S2048x1024 .bf16 :=
  truncf .bf16 (concatenate S2048x1024 1
      [⟨S2048x512, (shapeCast S2048x512 (matK m c) shapeCasts_S1x2048x512_S2048x512 : FVec Ideal S2048x512 .f32)⟩,
       ⟨S2048x512, (shapeCast S2048x512 (matV m c) shapeCasts_S1x2048x512_S2048x512 : FVec Ideal S2048x512 .f32)⟩]
      concatenates_S2048x512_S2048x512_S2048x1024_d1) bitsLt_bf16_f32

theorem V_v3 (c : Dev nD) : (V m c main_v3 : FVec Ideal S2048x1024 .bf16) = matR m c := by
  unfold V
  simp only [hostOps0]
  after_reads_simp
  rfl

/-- Column `j` of the two matrices side by side. -/
def side (f g : Fin 512 → EReal) (j : Fin 1024) : EReal :=
  if h : j.val < 512 then f ⟨j.val, h⟩ else g ⟨j.val - 512, by omega⟩

theorem sum_side (h : Fin 2048 → EReal) (f g : Fin 2048 → Fin 512 → EReal) (j : Fin 1024) :
    ∑ k, h k * side (f k) (g k) j = side (fun i => ∑ k, h k * f k i) (fun i => ∑ k, h k * g k i) j := by
  unfold side
  split_ifs <;> rfl

theorem matR_apply (c : Dev nD) (k : Fin 2048) (j : Fin 1024) :
    matR m c (ix2 k j) = side (fun i => matK m c (ix3 0 k i)) (fun i => matV m c (ix3 0 k i)) j := by
  pointwise [matR, side]

theorem pt_lt (t : Fin cfg0.N) : t.val < 2 := lt_of_lt_of_eq t.isLt N_0

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 2] := (by decide +kernel : ∀ t : Fin grid0.N, win0_2.index t = ![0, t.val % 2])
theorem idx3 : ∀ t : Fin cfg0.N, win0_3.index t = ![0, t.val % 2] := (by decide +kernel : ∀ t : Fin grid0.N, win0_3.index t = ![0, t.val % 2])

/-- Row `r` of the memory, of all 512. -/
def row (c : Dev nD) (r : Fin 512) (k : Fin 2048) : EReal := rows m c (ix3 ⟨r.val / 256, by omega⟩ ⟨r.val % 256, by omega⟩ k)

theorem iblk0 (c : Dev nD) (t : Fin cfg0.N) (p : Fin 512) (k : Fin 2048) :
    iblk m c 0 t (ix2 p k) = row m c p k := by
  have hi : (win0_0.blk t).view.emb (ix2 p k) = (ix2 p k : S512x2048.Idx) := by
    have e := idx0 t
    funext a
    fin_cases a
    · apply Fin.ext
      blk_simp [e]
      try rfl
    · apply Fin.ext
      blk_simp [e]
      try rfl
  unfold iblk
  blk_simp
  rw [hi, show V m c main_v4 = _ from V_v4 m c]
  pointwise [row]

theorem iblk2 (c : Dev nD) (t : Fin cfg0.N) (k : Fin 2048) (q : Fin 512) :
    iblk m c 2 t (ix2 k q) = side (fun i => matK m c (ix3 0 k i)) (fun i => matV m c (ix3 0 k i)) ⟨t.val % 2 * 512 + q.val, by have := pt_lt t; omega⟩ := by
  have hi : (win0_2.blk t).view.emb (ix2 k q) = (ix2 k ⟨t.val % 2 * 512 + q.val, by have := pt_lt t; omega⟩ : S2048x1024.Idx) := by
    have e := idx2 t
    funext a
    fin_cases a
    · apply Fin.ext
      blk_simp [e]
      try rfl
    · apply Fin.ext
      blk_simp [e]
      try rfl
  unfold iblk
  blk_simp
  rw [hi, show V m c main_v3 = _ from V_v3 m c, matR_apply]

theorem emb3 (t : Fin cfg0.N) (p : Fin 512) (q : Fin 512) : (win0_3.blk t).view.emb (ix2 p q)
    = (ix2 p ⟨t.val % 2 * 512 + q.val, by have := pt_lt t; omega⟩ : S512x1024.Idx) := by
  have e := idx3 t
  funext a
  fin_cases a
  · apply Fin.ext
    blk_simp [e]
    try rfl
  · apply Fin.ext
    blk_simp [e]
    try rfl

/-- The rows that the scratch holds after point `n`. -/
theorem scratch (c : Dev nD) : ∀ (n : ℕ) (hn : n < cfg0.N) (p : Fin 512) (k : Fin 2048), (outsAt0 m c n hn).2 (ix2 p k) = row m c p k := by
  intro n
  induction n with
  | zero =>
    intro hn p k
    rw [out_A m c ⟨0, hn⟩ rfl]
    dsimp only
    rw [pay1_apply, iblk0]
  | succ n ih =>
    intro hn p k
    by_cases h0 : (n + 1) % 2 = 0
    · rw [out_A m c ⟨n + 1, hn⟩ h0]
      dsimp only
      rw [pay1_apply, iblk0]
    · rw [out_B m c ⟨n + 1, hn⟩ h0]
      exact ih _ p k

/-- WHAT THE KERNEL LEAVES: at row `r`, the keys in the first 512 columns and the values in the rest. -/
def out (c : Dev nD) (r : Fin 512) (j : Fin 1024) : EReal :=
  side (fun i => ∑ k, row m c r k * matK m c (ix3 0 k i)) (fun i => ∑ k, row m c r k * matV m c (ix3 0 k i)) j

theorem point (c : Dev nD) (t : Fin cfg0.N) (p : Fin 512) (q : Fin 512) : (outsAt0 m c t.val t.isLt).1 (ix2 p q)
    = out m c p ⟨t.val % 2 * 512 + q.val, by have := pt_lt t; omega⟩ := by
  have hs : (outsAt0 m c t.val t.isLt).1 = k0_pay2 (outsAt0 m c t.val t.isLt).2 (iblk m c 2 t) := by
    by_cases h0 : t.val % 2 = 0
    · rw [out_A m c t h0]
    · rw [out_B m c t h0]
  rw [hs, pay2_apply]
  unfold out
  rw [← sum_side]
  refine Finset.sum_congr rfl fun k _ => ?_
  rw [scratch, iblk2]

end Cert.MemKernelIdeal.RowValue
-- ==== Proof.MemClaims.lean ====
/- The claims of the memory's keys and values. -/
module

public import proofs.«01_k».proof.Defs
public import proofs.«01_k».proof.Proof.Gen.MemReferenceIdeal.Read
public import proofs.«01_k».proof.Proof.MemBlocks
public import Idealize.ShloMosaic.Lib.Quiescent

@[expose] public section

set_option maxRecDepth 16384

noncomputable section

namespace Cert.MemReferenceIdeal.RowRead

open Cert.MemReferenceIdeal.Read
open Cert.MemKernelIdeal.RowValue (side)
open Cert.MemReferenceIdeal Cert.MemReferenceIdeal.Gen Idealize.ShloMosaic Idealize.ShloMosaic.TcCoe Idealize.SL.Sem

theorem v9_apply (x : FVec Ideal S2x256x2048 .f32) (u w : FVec Ideal S1x2048x512 .f32) (r : Fin 512) (j : Fin 1024) :
    val_main_v9 (F := Ideal) x u w (ix2 r j)
      = side (fun i => ∑ k : Fin 2048, x (ix3 ⟨r.val / 256, by omega⟩ ⟨r.val % 256, by omega⟩ k) * u (ix3 0 k i))
          (fun i => ∑ k : Fin 2048, x (ix3 ⟨r.val / 256, by omega⟩ ⟨r.val % 256, by omega⟩ k) * w (ix3 0 k i)) j := by
  unfold val_main_v9 val_main_v8 val_main_v7 val_main_v6 val_main_v5 val_main_v4 val_main_v3 val_main_v2 val_main_v1 val_main_v0
  pointwise [side]
  by_cases h : j.val < 512
  · rw [dif_pos (by omega), dif_pos h]
    have e : j.val / 128 % 4 * 128 + j.val % 128 = j.val := by omega
    simp only [e]
  · rw [dif_neg (by omega), dif_neg h]
    have e : j.val / 128 % 4 * 128 + j.val % 128 = j.val - 512 := by omega
    simp only [e]

end Cert.MemReferenceIdeal.RowRead

namespace Cert.Proof.MemClaims

open Cert.MemReferenceIdeal.Read Cert.MemReferenceIdeal.RowRead
open Cert.MemKernelIdeal Cert.MemKernelIdeal.Gen Cert.MemKernelIdeal.RowValue Idealize.ShloMosaic Idealize.ShloMosaic.TcCoe Idealize.SL.Sem

theorem point_value (m : (ℓ : Loc nD τ sig) → Buf (Elt Ideal) ℓ) (c : Dev nD) (t : Fin cfg0.N) (y : S512x512.Idx) : (outsAt0 m c t.val t.isLt).1 y
    = val_main_v9 (F := Ideal) (rows m c) (matK m c) (matV m c) ((win0_3.blk t).view.emb y) := by
  obtain ⟨p, q, rfl⟩ : ∃ (p : Fin 512) (q : Fin 512), y = ix2 p q := ⟨y 0, y 1, by funext a; fin_cases a <;> rfl⟩
  rw [emb3, v9_apply, point]
  rfl

/-- The keys and values. -/
theorem final (m : (ℓ : Loc nD τ sig) → Buf (Elt Ideal) ℓ) (c : Dev nD) :
    (dats m 0 c).arrAt 3 cfg0.N = val_main_v9 (F := Ideal) (rows m c) (matK m c) (matV m c) := by
  refine (dats m 0 c).arrAt_eq_of_covers 3 _ (by decide +kernel) fun t hf y => ?_
  blk_simp
  rw [after0_3]
  exact point_value m c t y

/-- The reference's frame, from its host run; it declares no semaphore. -/
theorem frame_reference : Cert.quiescent_MemReferenceIdeal := fun m ρ _ =>
  (θ_run Cert.MemReferenceIdeal.defs _ _).mono (fun r h => ⟨fun c => (h c).2, sem_eq_zero_of_no_sems (by decide) r.2⟩)
    (Cert.MemReferenceIdeal.Value.run (F := Ideal) m ρ)

theorem algebraic : Cert.algebraic_MemKernelIdeal_MemReferenceIdeal := by
  intro m ρ m' ρ' _ hagree
  refine ⟨fun c => val_main_v9 (F := Ideal) (rows m c) (matK m c) (matV m c), ?_, ?_⟩
  · exact (θ_run Cert.MemKernelIdeal.defs _ _).mono (fun _ h c => ⟨(h c).1.trans (final m c), (h c).2⟩) (Cert.MemKernelIdeal.Value.run_blocks (F := Ideal) m ρ)
  · refine (θ_run Cert.MemReferenceIdeal.defs _ _).mono (fun _ h c => ⟨(h c).1.trans ?_, (h c).2⟩) (Cert.MemReferenceIdeal.Value.run (F := Ideal) m' ρ')
    rw [val_main_v9_eq, (hagree c).1, (hagree c).2.2.1, (hagree c).2.2.2]

end Cert.Proof.MemClaims
-- ==== Proof.MergeBlocks.lean ====
/- The prompt's merge of the two mixers: what the kernel's body leaves at a point, and the blocks it stages. -/
module

public import proofs.«01_k».proof.Proof.Gen.MergeKernelIdeal.Value
public import Idealize.ShloMosaic.Lib.Pipeline.ReadBack
public import Idealize.ShloMosaic.Lib.StableHlo.ReadAt
public import Idealize.ShloMosaic.Lib.Pipeline.ValueKit
public import Idealize.ShloMosaic.Lib.Pointwise
public import Idealize.ShloMosaic.Lib.Claim

@[expose] public section

set_option maxRecDepth 16384

noncomputable section

namespace Cert.MergeKernelIdeal.RowValue

open Cert.MergeKernelIdeal Cert.MergeKernelIdeal.Gen Idealize.ShloMosaic Idealize.ShloMosaic.TcCoe Idealize.SL.Sem
open Idealize.ShloMosaic.Pipeline (Dat)

/-- One element of the merge: the gated sum of the two mixers' branches, times the output matrix, on top of the residual. -/
def merged (x : EReal) (a b : Fin 1024 → EReal) (ga gb : Fin 2048 → EReal) (wa wb : Fin 1024 → Fin 2048 → EReal) (wo : Fin 2048 → EReal) : EReal :=
  x + ∑ k, (Ideal.logistic (ga k) * (∑ i, a i * wa i k) + Ideal.logistic (gb k) * (∑ i, b i * wb i k)) * wo k

theorem pay1_apply (a : Vec Ideal S256x1024 .bf16) (wa : Vec Ideal S1024x2048 .bf16) (b : Vec Ideal S256x1024 .bf16) (wb : Vec Ideal S1024x2048 .bf16)
    (ga gb x : Vec Ideal S256x2048 .f32) (wo : Vec Ideal S2048x2048 .bf16) (p : Fin 256) (q : Fin 2048) :
    k0_pay1 a wa b wb ga gb x wo (ix2 p q) = merged (x (ix2 p q)) (fun i => a (ix2 p i)) (fun i => b (ix2 p i)) (fun k => ga (ix2 p k)) (fun k => gb (ix2 p k))
      (fun i k => wa (ix2 i k)) (fun i k => wb (ix2 i k)) (fun k => wo (ix2 k q)) := by
  pointwise [k0_pay1, merged]

variable (m : (ℓ : Loc nD τ sig) → Buf (Elt Ideal) ℓ)

theorem out_eq (c : Dev nD) (t : Fin cfg0.N) : outsAt0 m c t
    = k0_pay1 (iblk m c 1 t) (iblk m c 5 t) (iblk m c 2 t) (iblk m c 6 t) (X0_3 m c t) (X0_4 m c t) (iblk m c 0 t) (iblk m c 7 t) := by
  unfold outsAt0
  funext y
  frame_open
  frame_out

/-- The arguments on core `c`: the residual rows, the two mixers' rows, the projections, the branches' matrices, the output matrix. -/
abbrev res (c : Dev nD) : FVec Ideal S16384x2048 .f32 := m ((c : Thread nD τ).loc main_arg0)
@[inherit_doc res] abbrev mixA (c : Dev nD) : FVec Ideal S16384x1024 .bf16 := m ((c : Thread nD τ).loc main_arg1)
@[inherit_doc res] abbrev mixB (c : Dev nD) : FVec Ideal S16384x1024 .bf16 := m ((c : Thread nD τ).loc main_arg2)
@[inherit_doc res] abbrev proj (c : Dev nD) : FVec Ideal S16384x11264 .f32 := m ((c : Thread nD τ).loc main_arg3)
@[inherit_doc res] abbrev matA (c : Dev nD) : FVec Ideal S1x1024x2048 .f32 := m ((c : Thread nD τ).loc main_arg4)
@[inherit_doc res] abbrev matB (c : Dev nD) : FVec Ideal S1x1024x2048 .f32 := m ((c : Thread nD τ).loc main_arg5)
@[inherit_doc res] abbrev matO (c : Dev nD) : FVec Ideal S1x2048x2048 .f32 := m ((c : Thread nD τ).loc main_arg6)

theorem V_v1 (c : Dev nD) : (V m c main_v1 : FVec Ideal S1024x2048 .bf16)
    = truncf .bf16 (shapeCast S1024x2048 (matA m c) shapeCasts_S1x1024x2048_S1024x2048 : FVec Ideal S1024x2048 .f32) bitsLt_bf16_f32 := by
  unfold V
  simp only [hostOps0]
  after_reads_simp
  rfl

theorem V_v3 (c : Dev nD) : (V m c main_v3 : FVec Ideal S1024x2048 .bf16)
    = truncf .bf16 (shapeCast S1024x2048 (matB m c) shapeCasts_S1x1024x2048_S1024x2048 : FVec Ideal S1024x2048 .f32) bitsLt_bf16_f32 := by
  unfold V
  simp only [hostOps0]
  after_reads_simp
  rfl

theorem V_v5 (c : Dev nD) : (V m c main_v5 : FVec Ideal S2048x2048 .bf16)
    = truncf .bf16 (shapeCast S2048x2048 (matO m c) shapeCasts_S1x2048x2048_S2048x2048 : FVec Ideal S2048x2048 .f32) bitsLt_bf16_f32 := by
  unfold V
  simp only [hostOps0]
  after_reads_simp
  rfl

theorem pt_lt (t : Fin cfg0.N) : t.val < 64 := lt_of_lt_of_eq t.isLt N_0

/-- Row `p` of the block at point `t`. -/
def rowOf (t : Fin cfg0.N) (p : Fin 256) : Fin 16384 := ⟨t.val * 256 + p.val, by have := pt_lt t; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 1] := (by decide +kernel : ∀ t : Fin grid0.N, win0_4.index t = ![t.val, 1])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])

theorem res_blk (c : Dev nD) (t : Fin cfg0.N) (p : Fin 256) (q : Fin 2048) : iblk m c 0 t (ix2 p q) = res m c (ix2 (rowOf t p) q) := by
  have hi : (win0_0.blk t).view.emb (ix2 p q) = (ix2 (rowOf t p) q : S16384x2048.Idx) := by
    have e := idx0 t
    funext a
    fin_cases a
    · apply Fin.ext
      blk_simp [e]
      try rfl
    · apply Fin.ext
      blk_simp [e]
      try rfl
  unfold iblk
  blk_simp
  rw [hi, V_main_arg0]

theorem mixA_blk (c : Dev nD) (t : Fin cfg0.N) (p : Fin 256) (q : Fin 1024) : iblk m c 1 t (ix2 p q) = mixA m c (ix2 (rowOf t p) q) := by
  have hi : (win0_1.blk t).view.emb (ix2 p q) = (ix2 (rowOf t p) q : S16384x1024.Idx) := by
    have e := idx1 t
    funext a
    fin_cases a
    · apply Fin.ext
      blk_simp [e]
      try rfl
    · apply Fin.ext
      blk_simp [e]
      try rfl
  unfold iblk
  blk_simp
  rw [hi, V_main_arg1]

theorem mixB_blk (c : Dev nD) (t : Fin cfg0.N) (p : Fin 256) (q : Fin 1024) : iblk m c 2 t (ix2 p q) = mixB m c (ix2 (rowOf t p) q) := by
  have hi : (win0_2.blk t).view.emb (ix2 p q) = (ix2 (rowOf t p) q : S16384x1024.Idx) := by
    have e := idx2 t
    funext a
    fin_cases a
    · apply Fin.ext
      blk_simp [e]
      try rfl
    · apply Fin.ext
      blk_simp [e]
      try rfl
  unfold iblk
  blk_simp
  rw [hi, V_main_arg2]

theorem gateA_blk (c : Dev nD) (t : Fin cfg0.N) (p : Fin 256) (q : Fin 2048) : X0_3 m c t (ix2 p q) = proj m c (ix2 (rowOf t p) ⟨q.val, by omega⟩) := by
  unfold X0_3 Pipeline.Window.fill
  rw [dif_pos (moved0_3 t _)]
  unfold iblk
  show V m c main_arg3 ((win0_3.blk t).view.emb _) = _
  rw [V_main_arg3]
  refine congrArg (proj m c) ?_
  have e := idx3 t
  funext a
  fin_cases a
  · apply Fin.ext
    blk_simp [e]
    try rfl
  · apply Fin.ext
    blk_simp [e]
    try rfl

theorem gateB_blk (c : Dev nD) (t : Fin cfg0.N) (p : Fin 256) (q : Fin 2048) : X0_4 m c t (ix2 p q) = proj m c (ix2 (rowOf t p) ⟨2048 + q.val, by omega⟩) := by
  unfold X0_4 Pipeline.Window.fill
  rw [dif_pos (moved0_4 t _)]
  unfold iblk
  show V m c main_arg3 ((win0_4.blk t).view.emb _) = _
  rw [V_main_arg3]
  refine congrArg (proj m c) ?_
  have e := idx4 t
  funext a
  fin_cases a
  · apply Fin.ext
    blk_simp [e]
    try rfl
  · apply Fin.ext
    blk_simp [e]
    try rfl

theorem matA_blk (c : Dev nD) (t : Fin cfg0.N) (p : Fin 1024) (q : Fin 2048) : iblk m c 5 t (ix2 p q) = matA m c (ix3 0 p q) := by
  have hi : (win0_5.blk t).view.emb (ix2 p q) = (ix2 (p) q : S1024x2048.Idx) := by
    have e := idx5 t
    funext a
    fin_cases a
    · apply Fin.ext
      blk_simp [e]
      try rfl
    · apply Fin.ext
      blk_simp [e]
      try rfl
  unfold iblk
  blk_simp
  rw [hi, show V m c main_v1 = _ from V_v1 m c]
  pointwise

theorem matB_blk (c : Dev nD) (t : Fin cfg0.N) (p : Fin 1024) (q : Fin 2048) : iblk m c 6 t (ix2 p q) = matB m c (ix3 0 p q) := by
  have hi : (win0_6.blk t).view.emb (ix2 p q) = (ix2 (p) q : S1024x2048.Idx) := by
    have e := idx6 t
    funext a
    fin_cases a
    · apply Fin.ext
      blk_simp [e]
      try rfl
    · apply Fin.ext
      blk_simp [e]
      try rfl
  unfold iblk
  blk_simp
  rw [hi, show V m c main_v3 = _ from V_v3 m c]
  pointwise

theorem matO_blk (c : Dev nD) (t : Fin cfg0.N) (p : Fin 2048) (q : Fin 2048) : iblk m c 7 t (ix2 p q) = matO m c (ix3 0 p q) := by
  have hi : (win0_7.blk t).view.emb (ix2 p q) = (ix2 (p) q : S2048x2048.Idx) := by
    have e := idx7 t
    funext a
    fin_cases a
    · apply Fin.ext
      blk_simp [e]
      try rfl
    · apply Fin.ext
      blk_simp [e]
      try rfl
  unfold iblk
  blk_simp
  rw [hi, show V m c main_v5 = _ from V_v5 m c]
  pointwise

theorem emb8 (t : Fin cfg0.N) (p : Fin 256) (q : Fin 2048) : (win0_8.blk t).view.emb (ix2 p q) = (ix2 (rowOf t p) q : S16384x2048.Idx) := by
  have e := idx8 t
  funext a
  fin_cases a
  · apply Fin.ext
    blk_simp [e]
    try rfl
  · apply Fin.ext
    blk_simp [e]
    try rfl

/-- WHAT THE KERNEL LEAVES at row `r` and column `q`. -/
def out (x : FVec Ideal S16384x2048 .f32) (a b : FVec Ideal S16384x1024 .bf16) (g : FVec Ideal S16384x11264 .f32) (wa wb : FVec Ideal S1x1024x2048 .f32)
    (wo : FVec Ideal S1x2048x2048 .f32) (r : Fin 16384) (q : Fin 2048) : EReal :=
  merged (x (ix2 r q)) (fun i => a (ix2 r i)) (fun i => b (ix2 r i)) (fun k => g (ix2 r ⟨k.val, by omega⟩)) (fun k => g (ix2 r ⟨2048 + k.val, by omega⟩))
    (fun i k => wa (ix3 0 i k)) (fun i k => wb (ix3 0 i k)) (fun k => wo (ix3 0 k q))

theorem point (c : Dev nD) (t : Fin cfg0.N) (p : Fin 256) (q : Fin 2048) : outsAt0 m c t (ix2 p q)
    = out (res m c) (mixA m c) (mixB m c) (proj m c) (matA m c) (matB m c) (matO m c) (rowOf t p) q := by
  rw [out_eq, pay1_apply]
  unfold out
  simp only [res_blk, mixA_blk, mixB_blk, gateA_blk, gateB_blk, matA_blk, matB_blk, matO_blk]

end Cert.MergeKernelIdeal.RowValue
-- ==== Proof.MergeClaims.lean ====
/- The claims of the prompt's merge of the two mixers. -/
module

public import proofs.«01_k».proof.Defs
public import proofs.«01_k».proof.Proof.Gen.MergeReferenceIdeal.Read
public import proofs.«01_k».proof.Proof.MergeBlocks
public import Idealize.ShloMosaic.Lib.Quiescent

@[expose] public section

set_option maxRecDepth 16384

noncomputable section

namespace Cert.MergeReferenceIdeal.RowRead

open Cert.MergeReferenceIdeal.Read
open Cert.MergeKernelIdeal.RowValue (merged out)
open Cert.MergeReferenceIdeal Cert.MergeReferenceIdeal.Gen Idealize.ShloMosaic Idealize.ShloMosaic.TcCoe Idealize.SL.Sem

variable (x : FVec Ideal S16384x2048 .f32) (a b : FVec Ideal S16384x1024 .bf16) (g : FVec Ideal S16384x11264 .f32) (wa wb : FVec Ideal S1x1024x2048 .f32)
    (wo : FVec Ideal S1x2048x2048 .f32)

theorem v22_apply (r : Fin 16384) (k : Fin 2048) : val_main_v22 (F := Ideal) a b g wa wb (ix2 r k)
    = Ideal.logistic (g (ix2 r ⟨k.val, by omega⟩)) * (∑ i : Fin 1024, a (ix2 r i) * wa (ix3 0 i k))
      + Ideal.logistic (g (ix2 r ⟨2048 + k.val, by omega⟩)) * (∑ i : Fin 1024, b (ix2 r i) * wb (ix3 0 i k)) := by
  unfold val_main_v22 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1 val_main_v0
    val_main_cst val_main_cst_0 val_main_cst_1 val_main_cst_2
  pointwise
  rfl

theorem v25_apply (r : Fin 16384) (q : Fin 2048) : val_main_v25 (F := Ideal) x a b g wa wb wo (ix2 r q) = out x a b g wa wb wo r q := by
  unfold out merged
  simp only [← v22_apply]
  unfold val_main_v25 val_main_v24 val_main_v23
  generalize val_main_v22 (F := Ideal) a b g wa wb = y
  pointwise

end Cert.MergeReferenceIdeal.RowRead

namespace Cert.Proof.MergeClaims

open Cert.MergeReferenceIdeal.Read Cert.MergeReferenceIdeal.RowRead
open Cert.MergeKernelIdeal Cert.MergeKernelIdeal.Gen Cert.MergeKernelIdeal.RowValue Idealize.ShloMosaic Idealize.ShloMosaic.TcCoe Idealize.SL.Sem

/-- The reference's value of the kernel's arguments. -/
abbrev want (m : (ℓ : Loc nD τ sig) → Buf (Elt Ideal) ℓ) (c : Dev nD) : FVec Ideal S16384x2048 .f32 :=
  val_main_v25 (F := Ideal) (res m c) (mixA m c) (mixB m c) (proj m c) (matA m c) (matB m c) (matO m c)

theorem point_value (m : (ℓ : Loc nD τ sig) → Buf (Elt Ideal) ℓ) (c : Dev nD) (t : Fin cfg0.N) (y : S256x2048.Idx) :
    outsAt0 m c t y = want m c ((win0_8.blk t).view.emb y) := by
  obtain ⟨p, q, rfl⟩ : ∃ (p : Fin 256) (q : Fin 2048), y = ix2 p q := ⟨y 0, y 1, by funext a; fin_cases a <;> rfl⟩
  rw [emb8, point]
  exact (v25_apply _ _ _ _ _ _ _ _ _).symm

/-- The merged rows. -/
theorem final (m : (ℓ : Loc nD τ sig) → Buf (Elt Ideal) ℓ) (c : Dev nD) : (dats m 0 c).arrAt 8 cfg0.N = want m c := by
  refine (dats m 0 c).arrAt_eq_of_covers 8 _ (by decide +kernel) fun t hf y => ?_
  blk_simp
  rw [after0_8]
  exact point_value m c t y

/-- The reference's frame, from its host run; it declares no semaphore. -/
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem algebraic : Cert.algebraic_MergeKernelIdeal_MergeReferenceIdeal := by
  intro m ρ m' ρ' _ hagree
  refine ⟨fun c => want m c, ?_, ?_⟩
  · exact (θ_run Cert.MergeKernelIdeal.defs _ _).mono (fun _ h c => ⟨(h c).1.trans (final m c), (h c).2⟩) (Cert.MergeKernelIdeal.Value.run_blocks (F := Ideal) m ρ)
  · refine (θ_run Cert.MergeReferenceIdeal.defs _ _).mono (fun _ h c => ⟨(h c).1.trans ?_, (h c).2⟩) (Cert.MergeReferenceIdeal.Value.run (F := Ideal) m' ρ')
    obtain ⟨h0, h1, h2, h3, h4, h5, h6⟩ := hagree c
    rw [val_main_v25_eq, h0, h1, h2, h3, h4, h5, h6]

end Cert.Proof.MergeClaims
-- ==== Proof.BodyReads.lean ====
/- Reads of whole memrefs and of memrefs stored in columns, and the words of the kernels' conditions. -/
module

public import Idealize.ShloMosaic.Lib.WholeRead
public import Idealize.ShloMosaic.Lib.WritesUnit
public import Idealize.ShloMosaic.Lib.WordCmp
public import Idealize.ShloMosaic.Lib.Pointwise.Index
public import Idealize.ShloMosaic.Lib.Pipeline.FrameBody

@[expose] public section

noncomputable section

namespace Cert.BodyReads

open Idealize.ShloMosaic

variable {F : FTy → Type} {sig : RefSig}

/-- A whole memref read through the rectangle of its whole shape. -/
theorem readAt_full {S : Shape} {e : EltTy} {m : Memref sig .tc .vmem S e} (h : m.IsWhole) (X : S.Idx → Elt F e)
    {off : Fin S.rank → Nat} (hz : ∀ a, off a = 0) (inb : ∀ a, off a + S.size a ≤ S.size a) :
    View.readAt (Elt F) m.view (Rect.unit (s := S) off S.size inb).toLoadRect (h.unread X) = X :=
  funext fun x => (h.readAt_unread X _ x).trans (congrArg X (funext fun a => Fin.ext (by
    show off a + 1 * (x a).val = (x a).val
    rw [hz a]; omega)))

/-- A memref read back after one store over its whole shape. -/
theorem read_full {S : Shape} {e : EltTy} (v : View sig .tc .vmem S e) (f : v.ty.Contents (Elt F)) (w : S.Idx → Elt F e)
    {off : Fin S.rank → Nat} (hz : ∀ a, off a = 0) (inb : ∀ a, off a + S.size a ≤ S.size a) :
    v.read (Elt F) (v.writes (Elt F) f [⟨Rect.unit (s := S) off S.size inb, w⟩]) = w :=
  funext fun y => by
    have e : (Rect.unit (s := S) off S.size inb).emb y = y := funext fun a => Fin.ext (by
      show off a + 1 * (y a).val = (y a).val
      rw [hz a]; omega)
    conv_lhs => rw [← e]
    exact View.read_writes_cons_emb ..

/-- The shape of a block of four columns, and of one column. -/
abbrev Wide : Shape := ⟨2, ![256, 512]⟩
abbrev Col : Shape := ⟨2, ![256, 128]⟩

/-- Four blocks of columns side by side. -/
def cols4 {α : Type} (p0 p1 p2 p3 : Col.Idx → α) : Wide.Idx → α := fun y =>
  if h0 : (y 1).val < 128 then p0 (ix2 (y 0) ⟨(y 1).val, h0⟩)
  else if h1 : (y 1).val < 256 then p1 (ix2 (y 0) ⟨(y 1).val - 128, by omega⟩)
  else if h2 : (y 1).val < 384 then p2 (ix2 (y 0) ⟨(y 1).val - 256, by omega⟩)
  else p3 (ix2 (y 0) ⟨(y 1).val - 384, by have := (y 1).isLt; change _ < 512 at this; omega⟩)

/-- A memref read back after a store into each of its four columns. -/
theorem read_cols4 {e : EltTy} (v : View sig .tc .vmem Wide e) (f : v.ty.Contents (Elt F)) (p0 p1 p2 p3 : Col.Idx → Elt F e)
    (i0 : ∀ a, (![0, 0] : Fin 2 → ℕ) a + Col.size a ≤ Wide.size a) (i1 : ∀ a, (![0, 128] : Fin 2 → ℕ) a + Col.size a ≤ Wide.size a)
    (i2 : ∀ a, (![0, 256] : Fin 2 → ℕ) a + Col.size a ≤ Wide.size a) (i3 : ∀ a, (![0, 384] : Fin 2 → ℕ) a + Col.size a ≤ Wide.size a) :
    v.read (Elt F) (v.writes (Elt F) f [⟨Rect.unit (s := Wide) ![0, 384] Col.size i3, p3⟩, ⟨Rect.unit (s := Wide) ![0, 256] Col.size i2, p2⟩,
      ⟨Rect.unit (s := Wide) ![0, 128] Col.size i1, p1⟩, ⟨Rect.unit (s := Wide) ![0, 0] Col.size i0, p0⟩]) = cols4 p0 p1 p2 p3 := by
  funext y
  have hy : (y 1).val < 512 := (y 1).isLt
  unfold cols4
  by_cases h0 : (y 1).val < 128
  · rw [dif_pos h0, View.read_writes_cons_unit_of_not_mem v f _ _ _ y rfl 1 (.inl (by show _ < 384; omega)),
      View.read_writes_cons_unit_of_not_mem v f _ _ _ y rfl 1 (.inl (by show _ < 256; omega)),
      View.read_writes_cons_unit_of_not_mem v f _ _ _ y rfl 1 (.inl (by show _ < 128; omega))]
    refine View.read_writes_cons_unit_of_mem v f _ _ _ y _ rfl fun a => ?_
    fin_cases a
    · show (y 0).val = 0 + (y 0).val; omega
    · show (y 1).val = 0 + (y 1).val; omega
  rw [dif_neg h0]
  by_cases h1 : (y 1).val < 256
  · rw [dif_pos h1, View.read_writes_cons_unit_of_not_mem v f _ _ _ y rfl 1 (.inl (by show _ < 384; omega)),
      View.read_writes_cons_unit_of_not_mem v f _ _ _ y rfl 1 (.inl (by show _ < 256; omega))]
    refine View.read_writes_cons_unit_of_mem v f _ _ _ y _ rfl fun a => ?_
    fin_cases a
    · show (y 0).val = 0 + (y 0).val; omega
    · show (y 1).val = 128 + ((y 1).val - 128); omega
  rw [dif_neg h1]
  by_cases h2 : (y 1).val < 384
  · rw [dif_pos h2, View.read_writes_cons_unit_of_not_mem v f _ _ _ y rfl 1 (.inl (by show _ < 384; omega))]
    refine View.read_writes_cons_unit_of_mem v f _ _ _ y _ rfl fun a => ?_
    fin_cases a
    · show (y 0).val = 0 + (y 0).val; omega
    · show (y 1).val = 256 + ((y 1).val - 256); omega
  rw [dif_neg h2]
  refine View.read_writes_cons_unit_of_mem v f _ _ _ y _ rfl fun a => ?_
  fin_cases a
  · show (y 0).val = 0 + (y 0).val; omega
  · show (y 1).val = 384 + ((y 1).val - 384); omega

theorem ne_extui_iff (x : BitVec 1) : Scalar.cmpi .ne (Scalar.extui x : BitVec 32) 0#32 = 1#1 ↔ x = 1#1 := by
  revert x; decide

theorem ofBool_iff (p : Prop) [Decidable p] : BitVec.ofBool (decide p) = 1#1 ↔ p := by
  by_cases h : p <;> simp [h]

end Cert.BodyReads

end
-- ==== Proof.DnFrameIdeal.lean ====
/- The experts' second product: the kernel's body at a point, the proof data of its pipeline, and its frame. -/
module

public import proofs.«01_k».proof.Proof.Gen.DnKernelIdeal.Launch
public import proofs.«01_k».proof.Proof.Gen.DnKernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import proofs.«01_k».proof.Proof.BodyReads

@[expose] public section

set_option maxRecDepth 16384

noncomputable section

namespace Cert.DnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BodyReads
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S289 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DnKernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The staging memrefs -/

abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x1024 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-! ## The body's conditions -/

/-- The expert of block row `i 1`, as the table gives it. -/
abbrev wordAt (T : S289.Idx → BitVec 32) (i : grid0.Coords) : BitVec 32 :=
  T ((Rect.unit (s := S289) (k0_off1 i) S1.size (k0_off1_inb i)).point numel1_S1)
/-- The expert of the block row before it (of row 0 itself at row 0). -/
abbrev wordBefore (T : S289.Idx → BitVec 32) (i : grid0.Coords) : BitVec 32 :=
  T ((Rect.unit (s := S289) (k0_off2 i) S1.size (k0_off2_inb i)).point numel1_S1)
/-- The number of block rows in use. -/
abbrev rowsUsed (n : S1.Idx → BitVec 32) : BitVec 32 :=
  n ((Rect.unit (s := S1) ![0] S1.size inb_S1_S1_0).point numel1_S1)
/-- The weight tile is new: the first block row, or another expert than the row before. -/
abbrev isNew (T : S289.Idx → BitVec 32) (i : grid0.Coords) : Prop :=
  Scalar.cmpi .ne (Scalar.extui (Scalar.ori (Scalar.cmpi .eq (BitVec.ofNat 32 (i 1).val) 0#32) (Scalar.cmpi .ne (wordAt T i) (wordBefore T i)))) 0#32 = 1#1
/-- The block row is in use. -/
abbrev isUsed (n : S1.Idx → BitVec 32) (i : grid0.Coords) : Prop := k0_cond2 i (rowsUsed n) = 1#1
/-- The block row is not in use. -/
abbrev isFree (n : S1.Idx → BitVec 32) (i : grid0.Coords) : Prop := k0_cond3 i (rowsUsed n) = 1#1

/-! ## The body, case by case -/

/-- A new weight tile on a block row in use. -/
theorem run_new_used (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (arg8 : Memref sig .tc .vmem S2048x1024 .bf16) (harg8 : arg8.IsWhole)
    (x0 : Vec F S256x2048 .bf16) (x1 : Vec F S1x2048x1024 .f32) (x2 : Vec F S1x1x1024 .f32) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : isNew xt0 i) (h1 : isUsed xt1 i) (h2 : ¬ isFree xt1 i) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay2 x0 (k0_pay1 x1) x2) ∗ owns (c : Thread nD τ) arg8 fullShare (k0_pay1 x1) ∗ tbPt0 c tbM0_0 xt0 ∗ tbPt0 c tbM0_1 xt1) -∗ K ⟨⟩))
      ⊢ wp frame (wpE (defs₀ (F := F)) Variants.none c none) E (cc0__moe_dn_kernel i tbM0_0 htbM0_0 tbM0_1 htbM0_1 arg4 harg4 arg5 harg5 arg6 harg6 arg7 harg7 arg8 harg8) K := by
    simp only [cc0__moe_dn_kernel_eq_skeleton]; unfold cc0__moe_dn_kernel_skel
    unfold owns
    iintro ⟨⟨%f0, %hf0, H0⟩, ⟨%f1, %hf1, H1⟩, ⟨%f2, %hf2, H2⟩, ⟨%d3, %f3, -, H3⟩, ⟨%fs0, %hfs, HS0⟩, HT0, HT1, Hk⟩
    obtain rfl := harg4.eq_unread hf0; obtain rfl := harg5.eq_unread hf1; obtain rfl := harg6.eq_unread hf2; obtain rfl := harg8.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr
      swap; · iexact H3
      ipureintro
      rw [read_full _ _ _ (by decide)]
      rw [readAt_full harg4 x0 (by decide), readAt_full harg6 x2 (by decide)]
      exact congrArg (fun w => k0_pay2 x0 w x2) ((View.readCov_unit_zero (S := S2048x1024) _ (funext (by decide)) _ _).trans (congrArg k0_pay1 (readAt_full harg5 x1 (by decide) _)))
    isplitl [HS0]
    · iexists _; isplitr
      swap; · iexact HS0
      ipureintro
      exact (read_full _ _ _ (by decide) _).trans (congrArg k0_pay1 (readAt_full harg5 x1 (by decide) _))
    isplitl [HT0]; · iexact HT0
    iexact HT1

/-- A new weight tile on a block row not in use. -/
theorem run_new_free (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (arg8 : Memref sig .tc .vmem S2048x1024 .bf16) (harg8 : arg8.IsWhole)
    (x0 : Vec F S256x2048 .bf16) (x1 : Vec F S1x2048x1024 .f32) (x2 : Vec F S1x1x1024 .f32) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : isNew xt0 i) (h1 : ¬ isUsed xt1 i) (h2 : isFree xt1 i) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare k0_pay3 ∗ owns (c : Thread nD τ) arg8 fullShare (k0_pay1 x1) ∗ tbPt0 c tbM0_0 xt0 ∗ tbPt0 c tbM0_1 xt1) -∗ K ⟨⟩))
      ⊢ wp frame (wpE (defs₀ (F := F)) Variants.none c none) E (cc0__moe_dn_kernel i tbM0_0 htbM0_0 tbM0_1 htbM0_1 arg4 harg4 arg5 harg5 arg6 harg6 arg7 harg7 arg8 harg8) K := by
    simp only [cc0__moe_dn_kernel_eq_skeleton]; unfold cc0__moe_dn_kernel_skel
    unfold owns
    iintro ⟨⟨%f0, %hf0, H0⟩, ⟨%f1, %hf1, H1⟩, ⟨%f2, %hf2, H2⟩, ⟨%d3, %f3, -, H3⟩, ⟨%fs0, %hfs, HS0⟩, HT0, HT1, Hk⟩
    obtain rfl := harg4.eq_unread hf0; obtain rfl := harg5.eq_unread hf1; obtain rfl := harg6.eq_unread hf2; obtain rfl := harg8.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr
      swap; · iexact H3
      ipureintro
      rw [read_full _ _ _ (by decide)]
    isplitl [HS0]
    · iexists _; isplitr
      swap; · iexact HS0
      ipureintro
      exact (read_full _ _ _ (by decide) _).trans (congrArg k0_pay1 (readAt_full harg5 x1 (by decide) _))
    isplitl [HT0]; · iexact HT0
    iexact HT1

/-- The weight tile kept, on a block row in use. -/
theorem run_keep_used (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (arg8 : Memref sig .tc .vmem S2048x1024 .bf16) (harg8 : arg8.IsWhole)
    (x0 : Vec F S256x2048 .bf16) (x1 : Vec F S1x2048x1024 .f32) (x2 : Vec F S1x1x1024 .f32) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : ¬ isNew xt0 i) (h1 : isUsed xt1 i) (h2 : ¬ isFree xt1 i) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay2 x0 xs x2) ∗ owns (c : Thread nD τ) arg8 fullShare xs ∗ tbPt0 c tbM0_0 xt0 ∗ tbPt0 c tbM0_1 xt1) -∗ K ⟨⟩))
      ⊢ wp frame (wpE (defs₀ (F := F)) Variants.none c none) E (cc0__moe_dn_kernel i tbM0_0 htbM0_0 tbM0_1 htbM0_1 arg4 harg4 arg5 harg5 arg6 harg6 arg7 harg7 arg8 harg8) K := by
    simp only [cc0__moe_dn_kernel_eq_skeleton]; unfold cc0__moe_dn_kernel_skel
    unfold owns
    iintro ⟨⟨%f0, %hf0, H0⟩, ⟨%f1, %hf1, H1⟩, ⟨%f2, %hf2, H2⟩, ⟨%d3, %f3, -, H3⟩, ⟨%fs0, %hfs, HS0⟩, HT0, HT1, Hk⟩
    obtain rfl := harg4.eq_unread hf0; obtain rfl := harg5.eq_unread hf1; obtain rfl := harg6.eq_unread hf2; obtain rfl := harg8.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr
      swap; · iexact H3
      ipureintro
      rw [read_full _ _ _ (by decide)]
      rw [readAt_full harg4 x0 (by decide), readAt_full harg6 x2 (by decide)]
      rw [readAt_full harg8 xs (by decide)]
    isplitl [HS0]
    · iexists _; isplitr
      swap; · iexact HS0
      ipureintro
      exact harg8.read_unread _
    isplitl [HT0]; · iexact HT0
    iexact HT1

/-- The weight tile kept, on a block row not in use. -/
theorem run_keep_free (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (arg8 : Memref sig .tc .vmem S2048x1024 .bf16) (harg8 : arg8.IsWhole)
    (x0 : Vec F S256x2048 .bf16) (x1 : Vec F S1x2048x1024 .f32) (x2 : Vec F S1x1x1024 .f32) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : ¬ isNew xt0 i) (h1 : ¬ isUsed xt1 i) (h2 : isFree xt1 i) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare k0_pay3 ∗ owns (c : Thread nD τ) arg8 fullShare xs ∗ tbPt0 c tbM0_0 xt0 ∗ tbPt0 c tbM0_1 xt1) -∗ K ⟨⟩))
      ⊢ wp frame (wpE (defs₀ (F := F)) Variants.none c none) E (cc0__moe_dn_kernel i tbM0_0 htbM0_0 tbM0_1 htbM0_1 arg4 harg4 arg5 harg5 arg6 harg6 arg7 harg7 arg8 harg8) K := by
    simp only [cc0__moe_dn_kernel_eq_skeleton]; unfold cc0__moe_dn_kernel_skel
    unfold owns
    iintro ⟨⟨%f0, %hf0, H0⟩, ⟨%f1, %hf1, H1⟩, ⟨%f2, %hf2, H2⟩, ⟨%d3, %f3, -, H3⟩, ⟨%fs0, %hfs, HS0⟩, HT0, HT1, Hk⟩
    obtain rfl := harg4.eq_unread hf0; obtain rfl := harg5.eq_unread hf1; obtain rfl := harg6.eq_unread hf2; obtain rfl := harg8.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr
      swap; · iexact H3
      ipureintro
      rw [read_full _ _ _ (by decide)]
    isplitl [HS0]
    · iexists _; isplitr
      swap; · iexact HS0
      ipureintro
      exact harg8.read_unread _
    isplitl [HT0]; · iexact HT0
    iexact HT1

/-! ## The conditions over the grid -/

theorem free_iff (n : S1.Idx → BitVec 32) (i : grid0.Coords) : isFree n i ↔ ¬ isUsed n i := by
  refine (ne_extui_iff _).trans (Iff.trans ?_ (not_congr (ne_extui_iff _).symm))
  exact (ofBool_iff ((rowsUsed n).toInt ≤ (BitVec.ofNat 32 (i 1).val).toInt)).trans
    (not_lt.symm.trans (not_congr (ofBool_iff ((BitVec.ofNat 32 (i 1).val).toInt < (rowsUsed n).toInt)).symm))

/-- Where the weight tile is not new the block row is not the first, and its expert is that of the row before. -/
theorem not_new {T : S289.Idx → BitVec 32} {i : grid0.Coords} (h : ¬ isNew T i) : (i 1).val ≠ 0 ∧ wordAt T i = wordBefore T i := by
  have h' := mt (ne_extui_iff _).mpr h
  refine ⟨fun h0 => h' ?_, Classical.byContradiction fun hw => h' ?_⟩
  · rw [h0, show Scalar.cmpi .eq (BitVec.ofNat 32 0) 0#32 = 1#1 from by decide]
    generalize Scalar.cmpi .ne (wordAt T i) (wordBefore T i) = z
    revert z; decide
  · rw [show Scalar.cmpi .ne (wordAt T i) (wordBefore T i) = 1#1 from (WordCmp.cmpi_ne_eq _ _).trans (by rw [decide_eq_true hw]; rfl)]
    generalize Scalar.cmpi .eq (BitVec.ofNat 32 (i 1).val) 0#32 = z
    revert z; decide

theorem coord0 : ∀ t : Fin grid0.N, (grid0.coords t 0).val = t.val / 289 := by decide +kernel
theorem coord1 : ∀ t : Fin grid0.N, (grid0.coords t 1).val = t.val % 289 := by decide +kernel
theorem off2_eq : ∀ t : Fin grid0.N, k0_off2 (grid0.coords t) = ![t.val % 289 - 1] := by decide +kernel

theorem point_congr {o o' : Fin 1 → ℕ} (h : ∀ a, o a + S1.size a ≤ S289.size a) (h' : ∀ a, o' a + S1.size a ≤ S289.size a) (e : o = o') :
    (Rect.unit (s := S289) o S1.size h).point numel1_S1 = (Rect.unit (s := S289) o' S1.size h').point numel1_S1 := by
  subst e; rfl

theorem wordBefore_eq (T : S289.Idx → BitVec 32) (n : ℕ) (hn : n + 1 < grid0.N) (h0 : (n + 1) % 289 ≠ 0) :
    wordBefore T (grid0.coords ⟨n + 1, hn⟩) = wordAt T (grid0.coords ⟨n, Nat.lt_of_succ_lt hn⟩) := by
  refine congrArg T (point_congr _ _ ?_)
  rw [off2_eq, k0_off1_eq, coord1]
  show ![(n + 1) % 289 - 1] = ![n % 289]
  rw [show (n + 1) % 289 - 1 = n % 289 from by omega]

/-- Window 1's block index, in closed form: the row's expert, and the column. -/
theorem index1_eq (pf : pre0.Contents (Elt F)) (i : grid0.Coords) :
    cc0_transform_1 k0_off1_inb numel1_S1 pf i = ![(wordAt (pf 0) i).toNat, 0, (BitVec.ofNat 32 (i 0).val).toNat] := rfl

theorem iblk1_congr (hO : Ok m) (c : Dev nD) (t t' : Fin (cfgM m hO).N)
    (e : cc0_transform_1 k0_off1_inb numel1_S1 (tbl m) (grid0.coords t) = cc0_transform_1 k0_off1_inb numel1_S1 (tbl m) (grid0.coords t')) :
    (iblk m hO c 1 t : Vec F S1x2048x1024 .f32) = iblk m hO c 1 t' := by
  funext y
  refine congrArg (V m c main_v0) (funext fun a => Fin.ext ?_)
  show cc0_transform_1 k0_off1_inb numel1_S1 (tbl m) (grid0.coords t) a * S1x2048x1024.size a + 1 * (y a).val
    = cc0_transform_1 k0_off1_inb numel1_S1 (tbl m) (grid0.coords t') a * S1x2048x1024.size a + 1 * (y a).val
  rw [e]

/-- Where the weight tile is not new it is the block of the point before. -/
theorem kept (hO : Ok m) (c : Dev nD) (n : ℕ) (hn : n + 1 < (cfgM m hO).N) (h : ¬ isNew (tbl m 0) (grid0.coords ⟨n + 1, hn⟩)) :
    (iblk m hO c 1 ⟨n + 1, hn⟩ : Vec F S1x2048x1024 .f32) = iblk m hO c 1 ⟨n, Nat.lt_of_succ_lt hn⟩ := by
  obtain ⟨h1, h2⟩ := not_new h
  have h0 : (n + 1) % 289 ≠ 0 := fun e => h1 ((coord1 ⟨n + 1, hn⟩).trans e)
  refine iblk1_congr m hO c _ _ ?_
  rw [index1_eq, index1_eq]
  refine congrArg₂ (fun (w : BitVec 32) (k : ℕ) => ![w.toNat, 0, (BitVec.ofNat 32 k).toNat]) (h2.trans (wordBefore_eq _ _ hn h0)) ?_
  exact (show (grid0.coords ⟨n + 1, hn⟩ 0).val = (grid0.coords ⟨n, Nat.lt_of_succ_lt hn⟩ 0).val from by
    rw [coord0, coord0]; show (n + 1) / 289 = n / 289; omega)

theorem not_kept_zero (hO : Ok m) (h0 : 0 < (cfgM m hO).N) : isNew (tbl m 0) (grid0.coords ⟨0, h0⟩) :=
  Classical.byContradiction fun h => (not_new h).1 (coord1 ⟨0, h0⟩)

theorem stores_out (n : S1.Idx → BitVec 32) (i : grid0.Coords) :
    (!(k0_cond2 i (rowsUsed n) == 1#1) && !(k0_cond3 i (rowsUsed n) == 1#1)) = false := by
  by_cases h : isUsed n i
  · rw [show k0_cond2 i (rowsUsed n) = 1#1 from h]; rfl
  · rw [show k0_cond3 i (rowsUsed n) = 1#1 from (free_iff _ _).mpr h]; exact Bool.and_false _

theorem one_index (x y : S1.Idx) : x = y :=
  funext fun a => match a with | ⟨0, _⟩ => Subsingleton.elim (α := Fin 1) _ _

theorem idle_out (pf : pre0.Contents (Elt F)) (i : grid0.Coords) (w : BitVec 32) (e : pf.atD 1 ![0] = w)
    (h : (!(k0_cond2 i w == 1#1) && !(k0_cond3 i w == 1#1)) = false) : idle0 pf 3 i = false := by
  subst e; exact h

theorem live_of (a : (pcfg0 (F := F)).Adm) (t : Fin (cfg0 a).N) (h : idle0 a.1 3 (grid0.coords t) = false) : (cfg0 a).idle 3 (grid0.coords t) = false := h

/-- The output is stored at every point: a block row is in use or it is not. -/
theorem live_out (hO : Ok m) (t : Fin (cfgM m hO).N) : (cfgM m hO).idle 3 (grid0.coords t) = false := by
  have e : (tbl m).atD 1 ![0] = rowsUsed (tbl m 1) := by
    unfold Pipeline.Prefetch.Contents.atD
    rw [dif_pos (by decide)]
    exact congrArg (tbl m 1) (one_index _ _)
  have h1 := stores_out (tbl m 1) (grid0.coords t)
  have h2 := idle_out (F := F) (tbl m) (grid0.coords t) _ e
  have h3 := h2 h1
  exact live_of (adm m hO) t h3

/-! ## The proof data -/

/-- What the output's block holds after point `t`: the product of its row's expert, or zeros past the rows in use. -/
def outAt (hO : Ok m) (c : Dev nD) (t : Fin (cfgM m hO).N) : Vec F S256x1024 .bf16 :=
  if isUsed (tbl m 1) (grid0.coords t) then k0_pay2 (iblk m hO c 0 t) (k0_pay1 (iblk m hO c 1 t)) (iblk m hO c 2 t) else k0_pay3

/-- The region invariant before position `n`: before the first point every scratch holds anything; afterwards the
    scratch holds the weight tile of the point before. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare (k0_pay1 (iblk m hO c 1 ⟨n, hn⟩))) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (k0_pay1 (iblk m hO c 1 ⟨n - 1, by omega⟩))) ∗ (∃ r, prngReg c r)) ∗ Pipeline.ΦT pre0 (tbl m) c) := by
  cases n with
  | zero => exact absurd rfl hz
  | succ n => rfl

/-- The proof data: the arrays as the region finds them; each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation -/

/-- The kernel's body at point `t`, on what the pipeline calls it with. -/
abbrev bodyAt0 (a : (pcfg0 (F := F)).Adm) (t : Fin (cfg0 a).N) : Prog (TpuEff nD τ sig (Elt F) Λ₀ .tc) PUnit :=
  cc0__moe_dn_kernel (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

/-- What the invariant says before a point, with the scratch's contents named: the weight tile, where it is kept. -/
theorem Phi_in (hO : Ok m) (c : Dev nD) (t : Fin (cfgM m hO).N) :
    (dats m hO 0 c).Φ t.castSucc ⊢ iprop(∃ xs, ⌜¬ isNew (tbl m 0) (grid0.coords t) → xs = k0_pay1 (iblk m hO c 1 t)⌝
      ∗ owns (c : Thread nD τ) scM0_0 fullShare xs ∗ (∃ r, prngReg c r) ∗ tbPt0 c tbM0_0 (tbl m 0) ∗ tbPt0 c tbM0_1 (tbl m 1)) := by
  rw [show (dats m hO 0 c).Φ t.castSucc = PhiS m hO c t.val (Nat.le_of_lt t.isLt) from by
    dsimp only [dats]; exact Pipeline.Dat.Φ_castSucc (PhiS m hO c) t]
  obtain ⟨n, hn⟩ := t
  cases n with
  | zero =>
    show iprop(Pipeline.ΦA spec0 c ∗ Pipeline.ΦT pre0 (tbl m) c) ⊢ _
    rw [PhiT0_eq, PhiA0_eq]
    iintro ⟨⟨⟨%d, HS⟩, Hg⟩, ⟨HT0, HT1⟩⟩
    iexists d
    isplitr; · ipureintro; exact fun h => absurd (not_kept_zero m hO hn) h
    isplitl [HS]; · iexact HS
    isplitl [Hg]; · iexact Hg
    isplitl [HT0]; · iexact HT0
    iexact HT1
  | succ n =>
    show iprop(iprop(iprop(owns (c : Thread nD τ) scM0_0 fullShare (k0_pay1 (iblk m hO c 1 ⟨n, Nat.lt_of_succ_lt hn⟩))) ∗ (∃ r, prngReg c r)) ∗ Pipeline.ΦT pre0 (tbl m) c) ⊢ _
    rw [PhiT0_eq]
    iintro ⟨⟨HS, Hg⟩, ⟨HT0, HT1⟩⟩
    iexists _
    isplitr; swap
    · isplitl [HS]; · iexact HS
      isplitl [Hg]; · iexact Hg
      isplitl [HT0]; · iexact HT0
      iexact HT1
    · ipureintro; exact fun h => congrArg k0_pay1 (kept m hO c n hn h).symm

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = iprop(iprop(iprop(owns (c : Thread nD τ) scM0_0 fullShare (k0_pay1 (iblk m hO c 1 t))) ∗ (∃ r, prngReg c r)) ∗ Pipeline.ΦT pre0 (tbl m) c) from rfl, PhiT0_eq]
  rw [show (dats m hO 0 c).leavesExact 0 t = owns (c : Thread nD τ) (ms0_0 m hO t) fullShare ((dats m hO 0 c).after 0 t) from by
    unfold Dat.leavesExact; rw [show (cfgM m hO).idle 0 (grid0.coords t) = false from rfl]; try rfl, after0_0]
  rw [show (dats m hO 0 c).leavesExact 1 t = owns (c : Thread nD τ) (ms0_1 m hO t) fullShare ((dats m hO 0 c).after 1 t) from by
    unfold Dat.leavesExact; rw [show (cfgM m hO).idle 1 (grid0.coords t) = false from rfl]; try rfl, after0_1]
  rw [show (dats m hO 0 c).leavesExact 2 t = owns (c : Thread nD τ) (ms0_2 m hO t) fullShare ((dats m hO 0 c).after 2 t) from by
    unfold Dat.leavesExact; rw [show (cfgM m hO).idle 2 (grid0.coords t) = false from rfl]; try rfl, after0_2]
  rw [show (dats m hO 0 c).leavesExact 3 t = owns (c : Thread nD τ) (ms0_3 m hO t) fullShare ((dats m hO 0 c).after 3 t) from by
    unfold Dat.leavesExact; rw [live_out m hO t]; try rfl, after0_3]
  iintro ⟨HP, Ho, ⟨%d0, H0⟩, ⟨%d1, H1⟩, ⟨%d2, H2⟩, ⟨%d3, H3⟩⟩
  ihave HP' := (Phi_in m hO c t) $$ HP
  icases HP' with ⟨%xs, %hxs, HS0, Hg, HT0, HT1⟩
  by_cases h1 : isUsed (tbl m 1) (grid0.coords t)
  · have h2 : ¬ isFree (tbl m 1) (grid0.coords t) := fun h => (free_iff _ _).mp h h1
    rw [show outAt m hO c t = k0_pay2 (iblk m hO c 0 t) (k0_pay1 (iblk m hO c 1 t)) (iblk m hO c 2 t) from if_pos h1]
    by_cases h0 : isNew (tbl m 0) (grid0.coords t)
    · iapply (run_new_used c (grid0.coords t) _ _ _ _ _ _ _ _ _ _ (iblk m hO c 0 t) (iblk m hO c 1 t) (iblk m hO c 2 t) (tbl m 0) (tbl m 1) xs Set.univ _ h0 h1 h2)
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, H3, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iexact H3
    · obtain rfl := hxs h0
      iapply (run_keep_used c (grid0.coords t) _ _ _ _ _ _ _ _ _ _ (iblk m hO c 0 t) (iblk m hO c 1 t) (iblk m hO c 2 t) (tbl m 0) (tbl m 1) _ Set.univ _ h0 h1 h2)
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, H3, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iexact H3
  · have h2 : isFree (tbl m 1) (grid0.coords t) := (free_iff _ _).mpr h1
    rw [show outAt m hO c t = k0_pay3 from if_neg h1]
    by_cases h0 : isNew (tbl m 0) (grid0.coords t)
    · iapply (run_new_free c (grid0.coords t) _ _ _ _ _ _ _ _ _ _ (iblk m hO c 0 t) (iblk m hO c 1 t) (iblk m hO c 2 t) (tbl m 0) (tbl m 1) xs Set.univ _ h0 h1 h2)
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, H3, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iexact H3
    · obtain rfl := hxs h0
      iapply (run_keep_free c (grid0.coords t) _ _ _ _ _ _ _ _ _ _ (iblk m hO c 0 t) (iblk m hO c 1 t) (iblk m hO c 2 t) (tbl m 0) (tbl m 1) _ Set.univ _ h0 h1 h2)
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, H3, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      iexact H3

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N le_rfl from rfl, PhiS_pos m hO c _ _ (by have : (cfgM m hO).N = 578 := N_0; omega), PhiA0_eq]
  iintro ⟨⟨HS0, Hg⟩, -⟩
  isplitl [HS0]
  · iexists _; iexact HS0
  iexact Hg

/-! ## The run and the frame -/

set_option backward.isDefEq.respectTransparency.types false in
/-- Every run ends, with every array of the pipeline at what the proof data gives and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: the arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) (run_main m ρ hO)) ((θ_run defs _ _).mono (fun _ h => h.2) (run_main_quiescent m ρ hO))

/-! ## The side condition of the tables -/

theorem idx1 (i : grid0.Coords) : (BitVec.ofNat 32 (i 0).val).toNat = (i 0).val := by
  have := (i 0).isLt
  change _ < 2 at this
  rw [BitVec.toNat_ofNat]; omega

theorem ok_of (h : ∀ k, (m ((0 : Dev nD).tc.loc main_arg1) k).toNat < 32) : Ok m := by
  have hw (i : grid0.Coords) : (wordAt (tbl m 0) i).toNat < 32 := by
    rw [show tbl m 0 = m ((0 : Dev nD).tc.loc main_arg1) from V_main_arg1 m 0]
    exact h _
  have hi (i : grid0.Coords) : (i 0).val < 2 := (i 0).isLt
  refine ⟨fun i => ⟨fun a => ?_, .inl rfl⟩, fun i => ⟨fun a => ?_, .inl rfl⟩⟩
  · rw [index1_eq, idx1]
    have h1 := hw i; have h2 := hi i
    fin_cases a
    · show ((wordAt (tbl m 0) i).toNat + 1) * 1 ≤ 32; omega
    · show (0 + 1) * 2048 ≤ 2048; omega
    · show ((i 0).val + 1) * 1024 ≤ 2048; omega
  · show (![(wordAt (tbl m 0) i).toNat, 0, (BitVec.ofNat 32 (i 0).val).toNat] a + 1) * S1x1x1024.size a ≤ S32x1x2048.size a
    rw [idx1]
    have h1 := hw i; have h2 := hi i
    fin_cases a
    · show ((wordAt (tbl m 0) i).toNat + 1) * 1 ≤ 32; omega
    · show (0 + 1) * 1 ≤ 1; omega
    · show ((i 0).val + 1) * 1024 ≤ 2048; omega

end Cert.DnKernelIdeal.Gen

end
-- ==== Proof.Experts.lean ====
/- The experts of the block rows: their numbers read from the table, and the gathers that pick their matrices and biases. -/
module

public import Idealize.ShloMosaic.Lib.Pointwise
public import Idealize.ShloMosaic.Lib.ReduceAll

@[expose] public section

noncomputable section

namespace Cert.Experts

open Idealize.ShloMosaic

/-- The expert of block row `k`. -/
def expert (T : IVec ⟨1, ![289]⟩ 32) (k : Fin 289) : Fin 32 := ⟨(T (ix1 k)).toNat % 32, Nat.mod_lt _ (by decide)⟩

/-- Every word of the table names an expert. -/
def InRange (T : IVec ⟨1, ![289]⟩ 32) : Prop := ∀ k : Fin 289, (T (ix1 k)).toNat < 32

theorem expert_val {T : IVec ⟨1, ![289]⟩ 32} (h : InRange T) (k : Fin 289) : (expert T k).val = (T (ix1 k)).toNat :=
  Nat.mod_eq_of_lt (h k)

theorem word_range (x : BitVec 32) (h : IntOp.andi (Scalar.cmpi .sge x 0#32) (Scalar.cmpi .slt x 32#32) = 1#1) : x.toNat < 32 := by
  have key : ∀ p q : Bool, BitVec.ofBool p &&& BitVec.ofBool q = 1#1 → p = true ∧ q = true := by decide
  obtain ⟨h0, h1⟩ := key _ _ h
  have h0' : (0#32 : BitVec 32).toInt ≤ x.toInt := of_decide_eq_true h0
  have h1' : x.toInt < (32#32 : BitVec 32).toInt := of_decide_eq_true h1
  rw [show (0#32 : BitVec 32).toInt = 0 from by decide] at h0'
  rw [show (32#32 : BitVec 32).toInt = 32 from by decide] at h1'
  rw [BitVec.toInt_eq_toNat_cond] at h0' h1'
  split at h0' <;> omega

/-- The precondition's fold of comparisons, read at each word. -/
theorem range_of (T : IVec ⟨1, ![289]⟩ 32) (b : (⟨0, ![]⟩ : Shape).BroadcastsInDim ⟨1, ![289]⟩ (![] : Fin 0 → Fin 1)) (r : (⟨1, ![289]⟩ : Shape).ReducesTo [0] ⟨0, ![]⟩)
    (hu : 0 < (⟨0, ![]⟩ : Shape).numel)
    (h : Host.reduce IntOp.andi (andi (cmpi .sge T (broadcastInDim ⟨1, ![289]⟩ ![] b (constantI ⟨0, ![]⟩ 32 0#32))) (cmpi .slt T (broadcastInDim ⟨1, ![289]⟩ ![] b (constantI ⟨0, ![]⟩ 32 32#32))))
      (constantI ⟨0, ![]⟩ 1 1#1) r hu = fun _ => 1#1) : InRange T := fun k => by
  haveI : Subsingleton (⟨0, ![]⟩ : Shape).Idx := ⟨fun _ _ => funext fun a => a.elim0⟩
  exact word_range _ (Host.reduce_andi_all _ _ r hu (fun a => a.elim0) (congrFun h _) (ix1 k))

theorem idx_one (k : (⟨1, ![289]⟩ : Shape).Idx) : k = ix1 (k 0) := funext fun a => by obtain rfl : a = 0 := Subsingleton.elim _ _; rfl

/-- A word that names an expert is itself, wrapped or not. -/
theorem wrap_word (x : BitVec 32) (h : x.toNat < 32) : (if Scalar.cmpi .slt x 0#32 = 1#1 then x + 32#32 else x) = x := by
  refine if_neg fun e => ?_
  have h1 : x.toInt < (0#32 : BitVec 32).toInt := by
    have key : ∀ p : Bool, BitVec.ofBool p = 1#1 → p = true := by decide
    exact of_decide_eq_true (key _ e)
  rw [show (0#32 : BitVec 32).toInt = 0 from by decide, BitVec.toInt_eq_toNat_cond] at h1
  split at h1 <;> omega

section Gather

variable {α : Type} {E R C N : Nat}

/-- The matrices picked by a column of numbers. -/
abbrev dims3 (wf : GatherDims.WF ⟨3, ![E, R, C]⟩ ⟨2, ![N, 1]⟩ ⟨3, ![N, R, C]⟩ [1, 2] [0] [] [0] [] 1 ![1, R, C]) :
    GatherDims ⟨3, ![E, R, C]⟩ ⟨2, ![N, 1]⟩ ⟨3, ![N, R, C]⟩ where
  offsetDims := [1, 2]
  collapsedSliceDims := [0]
  operandBatchingDims := []
  startIndicesBatchingDims := []
  startIndexMap := [0]
  indexVectorDim := 1
  sliceSizes := ![1, R, C]
  wf := wf

/-- The rows picked by a column of numbers. -/
abbrev dims2 (wf : GatherDims.WF ⟨2, ![E, C]⟩ ⟨2, ![N, 1]⟩ ⟨2, ![N, C]⟩ [1] [0] [] [0] [] 1 ![1, C]) :
    GatherDims ⟨2, ![E, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem clamp {E : Nat} (w : BitVec 32) (e : Fin E) (h : w.toNat = e.val) (hE : E < 2 ^ 31) : min w.toInt.toNat (E - 1) = e.val := by
  have he := e.isLt
  have : w.toInt = (w.toNat : Int) := by
    rw [BitVec.toInt_eq_toNat_cond, if_pos (by omega)]
  omega

theorem gather3 (wf : GatherDims.WF ⟨3, ![E, R, C]⟩ ⟨2, ![N, 1]⟩ ⟨3, ![N, R, C]⟩ [1, 2] [0] [] [0] [] 1 ![1, R, C])
    (x : (⟨3, ![E, R, C]⟩ : Shape).Idx → α) (idx : IVec ⟨2, ![N, 1]⟩ 32) (k : Fin N) (r : Fin R) (j : Fin C) (e : Fin E) (hE : E < 2 ^ 31)
    (h : (idx (ix2 k 0)).toNat = e.val) : Host.gather (dims3 wf) x idx (ix3 k r j) = x (ix3 e r j) := by
  unfold Host.gather
  refine congrArg x (funext fun a => Fin.ext ?_)
  show (dims3 wf).start (ix3 k r j) idx a + (dims3 wf).batchCoord (ix3 k r j) a + (dims3 wf).offCoord (ix3 k r j) a = _
  rw [GatherDims.batchCoord_eq_zero _ _ _ List.not_mem_nil]
  have hs : (dims3 wf).siIdx (ix3 k r j) ⟨0, Nat.one_pos⟩ = ix2 k 0 := by
    funext b; refine Fin.ext ?_
    match b with
    | ⟨0, _⟩ => rfl
    | ⟨1, _⟩ => rfl
  match a with
  | ⟨0, _⟩ =>
    show min (idx ((dims3 wf).siIdx (ix3 k r j) ⟨0, Nat.one_pos⟩)).toInt.toNat (E - 1) + 0 + 0 = e.val
    rw [hs]; exact clamp _ e h hE
  | ⟨1, _⟩ => exact (Nat.zero_add _).trans rfl
  | ⟨2, _⟩ => exact (Nat.zero_add _).trans rfl

theorem gather2 (wf : GatherDims.WF ⟨2, ![E, C]⟩ ⟨2, ![N, 1]⟩ ⟨2, ![N, C]⟩ [1] [0] [] [0] [] 1 ![1, C])
    (x : (⟨2, ![E, C]⟩ : Shape).Idx → α) (idx : IVec ⟨2, ![N, 1]⟩ 32) (k : Fin N) (j : Fin C) (e : Fin E) (hE : E < 2 ^ 31)
    (h : (idx (ix2 k 0)).toNat = e.val) : Host.gather (dims2 wf) x idx (ix2 k j) = x (ix2 e j) := by
  unfold Host.gather
  refine congrArg x (funext fun a => Fin.ext ?_)
  show (dims2 wf).start (ix2 k j) idx a + (dims2 wf).batchCoord (ix2 k j) a + (dims2 wf).offCoord (ix2 k j) a = _
  rw [GatherDims.batchCoord_eq_zero _ _ _ List.not_mem_nil]
  have hs : (dims2 wf).siIdx (ix2 k j) ⟨0, Nat.one_pos⟩ = ix2 k 0 := by
    funext b; refine Fin.ext ?_
    match b with
    | ⟨0, _⟩ => rfl
    | ⟨1, _⟩ => rfl
  match a with
  | ⟨0, _⟩ =>
    show min (idx ((dims2 wf).siIdx (ix2 k j) ⟨0, Nat.one_pos⟩)).toInt.toNat (E - 1) + 0 + 0 = e.val
    rw [hs]; exact clamp _ e h hE
  | ⟨1, _⟩ => exact (Nat.zero_add _).trans rfl

end Gather

end Cert.Experts

end
-- ==== Proof.DnRows.lean ====
/- The rows of the experts' second product, as the reference computes them. -/
module

public import proofs.«01_k».proof.Proof.Gen.DnReferenceIdeal.Read
public import proofs.«01_k».proof.Proof.Experts

@[expose] public section

set_option maxRecDepth 16384

noncomputable section

namespace Cert.DnReferenceIdeal.RowRead

open Cert.Experts
open Cert.DnReferenceIdeal.Read
open Cert.DnReferenceIdeal Cert.DnReferenceIdeal.Gen Idealize.ShloMosaic Idealize.ShloMosaic.TcCoe Idealize.SL.Sem

variable (x : FVec Ideal S73984x2048 .bf16) (T : IVec S289 32) (n : IVec S1 32) (w : FVec Ideal S1x32x2048x2048 .f32) (b : FVec Ideal S1x32x2048 .f32)

/-- Row `p` of block row `k`, at column `j`: its expert's product and bias where the block row is in use, else zero. -/
def out (k : Fin 289) (p : Fin 256) (j : Fin 2048) : EReal :=
  if Scalar.cmpi .slt (BitVec.ofNat 32 k.val) (n (ix1 0)) = 1#1 then
    (∑ f : Fin 2048, x (ix2 ⟨k.val * 256 + p.val, by omega⟩ f) * w (ix4 0 (expert T k) f j)) + b (ix3 0 (expert T k) j)
  else 0

theorem v8_apply (h : InRange T) (k : Fin 289) : (val_main_v8 (F := Ideal) T (ix2 k 0)).toNat = (expert T k).val := by
  rw [expert_val h]
  refine congrArg BitVec.toNat ((?_ : _ = _).trans (wrap_word (T (ix1 k)) (h k)))
  unfold val_main_v8 val_main_v7 val_main_v6 val_main_v5 val_main_v4 val_main_v3 val_main_c val_main_c_0
  pointwise
  rfl

theorem v17_apply (h : InRange T) (k : Fin 289) : (val_main_v17 (F := Ideal) T (ix2 k 0)).toNat = (expert T k).val := by
  rw [expert_val h]
  refine congrArg BitVec.toNat ((?_ : _ = _).trans (wrap_word (T (ix1 k)) (h k)))
  unfold val_main_v17 val_main_v16 val_main_v15 val_main_v14 val_main_v13 val_main_v12 val_main_c_1 val_main_c_2
  pointwise
  rfl

theorem v9_apply (h : InRange T) (k : Fin 289) (f j : Fin 2048) : val_main_v9 (F := Ideal) T w (ix3 k f j) = w (ix4 0 (expert T k) f j) := by
  unfold val_main_v9
  refine (gather3 gather_S32x2048x2048_S289x1_S289x2048x2048_12_0_n_n_0_1_120482048_wf _ _ k f j (expert T k) (by decide) (v8_apply T h k)).trans ?_
  unfold val_main_v2
  pointwise

theorem v18_apply (h : InRange T) (k : Fin 289) (j : Fin 2048) : val_main_v18 (F := Ideal) T b (ix2 k j) = b (ix3 0 (expert T k) j) := by
  unfold val_main_v18
  refine (gather2 gather_S32x2048_S289x1_S289x2048_1_0_n_n_0_1_12048_wf _ _ k j (expert T k) (by decide) (v17_apply T h k)).trans ?_
  unfold val_main_v11
  pointwise

theorem v27_apply (h : InRange T) (k : Fin 289) (p : Fin 256) (j : Fin 2048) : val_main_v27 (F := Ideal) x T n w b (ix3 k p j) = out x T n w b k p j := by
  unfold out
  simp only [← v9_apply T w h, ← v18_apply T b h]
  unfold val_main_v27 val_main_call0_v2 val_main_call0_v1 val_main_call0_v0 val_main_cst val_main_v26 val_main_v25 val_main_v24 val_main_v23 val_main_v22 val_main_v21 val_main_v20 val_main_v19
    val_main_v10 val_main_v1 val_main_v0
  generalize val_main_v9 (F := Ideal) T w = y
  generalize val_main_v18 (F := Ideal) T b = z
  simp only [id_eq]
  pointwise
  rfl

theorem v29_apply (h : InRange T) (k : Fin 289) (p : Fin 256) (j : Fin 2048) :
    val_main_v29 (F := Ideal) x T n w b (ix2 ⟨k.val * 256 + p.val, by omega⟩ j) = out x T n w b k p j := by
  rw [← v27_apply x T n w b h]
  unfold val_main_v29 val_main_v28
  generalize val_main_v27 (F := Ideal) x T n w b = y
  pointwise

end Cert.DnReferenceIdeal.RowRead

end
-- ==== Proof.DnBlocks.lean ====
/- The blocks of the experts' second product. -/
module

public import proofs.«01_k».proof.Proof.DnFrameIdeal
public import proofs.«01_k».proof.Proof.DnRows
public import Idealize.ShloMosaic.Lib.Pipeline.ReadBack
public import Idealize.ShloMosaic.Lib.Pipeline.ValueKit.Geometry
public import Idealize.ShloMosaic.Lib.StableHlo.ReadAt

@[expose] public section

set_option maxRecDepth 16384

noncomputable section

namespace Cert.DnKernelIdeal.RowValue

open Cert.Experts
open Cert.DnKernelIdeal Cert.DnKernelIdeal.Gen Idealize.ShloMosaic Idealize.ShloMosaic.TcCoe Idealize.SL.Sem
open Idealize.ShloMosaic.Pipeline (Dat)
open Cert.DnReferenceIdeal.RowRead (out)

theorem pay1_apply (w : Vec Ideal S1x2048x1024 .f32) (f : Fin 2048) (q : Fin 1024) : k0_pay1 w (ix2 f q) = w (ix3 0 f q) := by
  pointwise [k0_pay1]

theorem pay2_apply (x : Vec Ideal S256x2048 .bf16) (w : Vec Ideal S2048x1024 .bf16) (b : Vec Ideal S1x1x1024 .f32) (p : Fin 256) (q : Fin 1024) :
    k0_pay2 x w b (ix2 p q) = (∑ f : Fin 2048, x (ix2 p f) * w (ix2 f q)) + b (ix3 0 0 q) := by
  pointwise [k0_pay2]

theorem pay3_apply (p : Fin 256) (q : Fin 1024) : k0_pay3 (F := Ideal) (ix2 p q) = 0 := by
  pointwise [k0_pay3]

variable (m : (ℓ : Loc nD τ sig) → Buf (Elt Ideal) ℓ)

/-- The arguments on core `c`: the rows, the experts' table, the block rows in use, the experts' matrices and biases. -/
abbrev rows (c : Dev nD) : FVec Ideal S73984x2048 .bf16 := m ((c : Thread nD τ).loc main_arg0)
@[inherit_doc rows] abbrev table (c : Dev nD) : IVec S289 32 := m ((c : Thread nD τ).loc main_arg1)
@[inherit_doc rows] abbrev inUse (c : Dev nD) : IVec S1 32 := m ((c : Thread nD τ).loc main_arg2)
@[inherit_doc rows] abbrev mats (c : Dev nD) : FVec Ideal S1x32x2048x2048 .f32 := m ((c : Thread nD τ).loc main_arg3)
@[inherit_doc rows] abbrev biases (c : Dev nD) : FVec Ideal S1x32x2048 .f32 := m ((c : Thread nD τ).loc main_arg4)

theorem V_v0 (c : Dev nD) : (V m c main_v0 : FVec Ideal S32x2048x2048 .f32) = shapeCast S32x2048x2048 (mats m c) shapeCasts_S1x32x2048x2048_S32x2048x2048 := by
  unfold V
  simp only [hostOps0]
  after_reads_simp
  try rfl

theorem V_v2 (c : Dev nD) : (V m c main_v2 : FVec Ideal S32x1x2048 .f32)
    = shapeCast S32x1x2048 (shapeCast S32x2048 (biases m c) shapeCasts_S1x32x2048_S32x2048) shapeCasts_S32x2048_S32x1x2048 := by
  unfold V
  simp only [hostOps0]
  after_reads_simp
  try rfl

theorem tbl0 (c : Dev nD) : tbl m 0 = table m c := by
  obtain rfl : c = 0 := Subsingleton.elim _ _
  exact V_main_arg1 m 0

theorem tbl1 (c : Dev nD) : tbl m 1 = inUse m c := by
  obtain rfl : c = 0 := Subsingleton.elim _ _
  exact V_main_arg2 m 0

theorem pt_lt (t : Fin grid0.N) : t.val < 578 := lt_of_lt_of_eq t.isLt (by decide)

/-- The block row of a point, and its column of blocks. -/
abbrev brow (t : Fin grid0.N) : Fin 289 := ⟨t.val % 289, Nat.mod_lt _ (by decide)⟩

theorem word_eq (T : S289.Idx → BitVec 32) (t : Fin grid0.N) : wordAt T (grid0.coords t) = T (ix1 (brow t)) := by
  refine congrArg T (funext fun a => Fin.ext ?_)
  obtain rfl : a = 0 := Subsingleton.elim _ _
  exact (Nat.add_zero _).trans ((congrFun (k0_off1_eq _) 0).trans (coord1 t))

theorem used_iff (n : S1.Idx → BitVec 32) (t : Fin grid0.N) :
    isUsed n (grid0.coords t) ↔ Scalar.cmpi .slt (BitVec.ofNat 32 (brow t).val) (n (ix1 0)) = 1#1 := by
  refine (Cert.BodyReads.ne_extui_iff _).trans ?_
  rw [coord1, show rowsUsed n = n (ix1 0) from congrArg n (one_index _ _)]

theorem tr0 : ∀ t : Fin grid0.N, cc0_transform_0 (grid0.coords t) = ![t.val % 289, 0] := by decide +kernel
theorem tr3 : ∀ t : Fin grid0.N, cc0_transform_3 (grid0.coords t) = ![t.val % 289, t.val / 289] := by decide +kernel

/-- Column `q` of a point's column of blocks. -/
abbrev col (t : Fin grid0.N) (q : Fin 1024) : Fin 2048 := ⟨t.val / 289 * 1024 + q.val, by have := pt_lt t; omega⟩

theorem flush3 : ∀ t : Fin grid0.N, spec0_3.flushAt cc0_transform_3 t = true := by decide +kernel

variable (hO : Ok m) (c : Dev nD)

theorem tr12 (t : Fin grid0.N) : (![(wordAt (tbl m 0) (grid0.coords t)).toNat, 0, (BitVec.ofNat 32 (grid0.coords t 0).val).toNat] : Fin 3 → ℕ)
    = ![(table m c (ix1 (brow t))).toNat, 0, t.val / 289] :=
  congrArg₂ (fun (x : BitVec 32) (k : ℕ) => ![x.toNat, 0, k]) ((congrArg (fun T => wordAt T (grid0.coords t)) (tbl0 m c)).trans (word_eq _ t)) ((idx1 _).trans (coord0 t))

theorem iblk0 (t : Fin (cfgM m hO).N) (p : Fin 256) (f : Fin 2048) :
    (iblk m hO c 0 t : Vec Ideal S256x2048 .bf16) (ix2 p f) = rows m c (ix2 ⟨(brow t).val * 256 + p.val, by have := (brow t).isLt; omega⟩ f) := by
  refine (congrArg (V m c main_arg0) (funext fun a => Fin.ext ?_) : _ = V m c main_arg0 (ix2 ⟨(brow t).val * 256 + p.val, by have := (brow t).isLt; omega⟩ f)).trans
    (congrFun (V_main_arg0 m c) _)
  show cc0_transform_0 (grid0.coords t) a * S256x2048.size a + 1 * ((ix2 p f : S256x2048.Idx) a).val = _
  rw [tr0]
  fin_cases a
  · show (t.val % 289) * 256 + 1 * p.val = (t.val % 289) * 256 + p.val; omega
  · show 0 * 2048 + 1 * f.val = f.val; omega

theorem iblk1 (h : InRange (table m c)) (t : Fin (cfgM m hO).N) (f : Fin 2048) (q : Fin 1024) :
    (iblk m hO c 1 t : Vec Ideal S1x2048x1024 .f32) (ix3 0 f q) = mats m c (ix4 0 (expert (table m c) (brow t)) f (col t q)) := by
  refine (congrArg (V m c main_v0) (funext fun a => Fin.ext ?_) : _ = V m c main_v0 (ix3 (expert (table m c) (brow t)) f (col t q))).trans ?_
  · show cc0_transform_1 k0_off1_inb numel1_S1 (tbl m) (grid0.coords t) a * S1x2048x1024.size a + 1 * ((ix3 0 f q : S1x2048x1024.Idx) a).val = _
    rw [(index1_eq _ _).trans (tr12 m c t)]
    fin_cases a
    · show (table m c (ix1 (brow t))).toNat * 1 + 1 * 0 = (expert (table m c) (brow t)).val; rw [expert_val h]; omega
    · show 0 * 2048 + 1 * f.val = f.val; omega
    · show (t.val / 289) * 1024 + 1 * q.val = (t.val / 289) * 1024 + q.val; omega
  · rw [show V m c main_v0 = _ from V_v0 m c]
    pointwise

theorem iblk2 (h : InRange (table m c)) (t : Fin (cfgM m hO).N) (q : Fin 1024) :
    (iblk m hO c 2 t : Vec Ideal S1x1x1024 .f32) (ix3 0 0 q) = biases m c (ix3 0 (expert (table m c) (brow t)) (col t q)) := by
  refine (congrArg (V m c main_v2) (funext fun a => Fin.ext ?_) : _ = V m c main_v2 (ix3 (expert (table m c) (brow t)) 0 (col t q))).trans ?_
  · show ![(wordAt (tbl m 0) (grid0.coords t)).toNat, 0, (BitVec.ofNat 32 (grid0.coords t 0).val).toNat] a * S1x1x1024.size a + 1 * ((ix3 0 0 q : S1x1x1024.Idx) a).val = _
    rw [tr12 m c t]
    fin_cases a
    · show (table m c (ix1 (brow t))).toNat * 1 + 1 * 0 = (expert (table m c) (brow t)).val; rw [expert_val h]; omega
    · show 0 * 1 + 1 * 0 = 0; omega
    · show (t.val / 289) * 1024 + 1 * q.val = (t.val / 289) * 1024 + q.val; omega
  · rw [show V m c main_v2 = _ from V_v2 m c]
    pointwise

theorem point (h : InRange (table m c)) (t : Fin (cfgM m hO).N) (p : Fin 256) (q : Fin 1024) :
    outAt m hO c t (ix2 p q) = out (rows m c) (table m c) (inUse m c) (mats m c) (biases m c) (brow t) p (col t q) := by
  unfold outAt out
  rw [tbl1 m c]
  by_cases hu : isUsed (inUse m c) (grid0.coords t)
  · rw [if_pos hu, if_pos ((used_iff _ t).mp hu)]
    refine (pay2_apply _ _ _ p q).trans ?_
    refine congr (congrArg (HAdd.hAdd (α := EReal) (β := EReal)) (Finset.sum_congr rfl fun f _ => ?_)) (iblk2 m hO c h t q)
    exact congr (congrArg (HMul.hMul (α := EReal) (β := EReal)) (iblk0 m hO c t p f)) ((pay1_apply _ f q).trans (iblk1 m hO c h t f q))
  · rw [if_neg hu, if_neg (mt (used_iff _ t).mpr hu), pay3_apply]

theorem covers : ((cfgM m hO).win 3).Covers := by
  refine ⟨(by decide : ∀ a, 0 < S256x1024.size a), fun β => ?_⟩
  have b0 : (β (0 : Fin 2)).val < 289 := lt_of_lt_of_eq (β (0 : Fin 2)).isLt (show (73984 + 256 - 1) / 256 = 289 by decide)
  have b1 : (β (1 : Fin 2)).val < 2 := lt_of_lt_of_eq (β (1 : Fin 2)).isLt (show (2048 + 1024 - 1) / 1024 = 2 by decide)
  have hN : (β (1 : Fin 2)).val * 289 + (β (0 : Fin 2)).val < grid0.N := lt_of_lt_of_eq (by omega : _ < 578) (by decide)
  refine ⟨⟨(β (1 : Fin 2)).val * 289 + (β (0 : Fin 2)).val, hN⟩, flush3 _, fun (a : Fin 2) => ⟨?_, .inl rfl⟩⟩
  show cc0_transform_3 (grid0.coords ⟨(β (1 : Fin 2)).val * 289 + (β (0 : Fin 2)).val, hN⟩) a = (β a).val
  rw [tr3]
  fin_cases a
  · show ((β (1 : Fin 2)).val * 289 + (β (0 : Fin 2)).val) % 289 = (β (0 : Fin 2)).val; omega
  · show ((β (1 : Fin 2)).val * 289 + (β (0 : Fin 2)).val) / 289 = (β (1 : Fin 2)).val; omega

/-- Whatever has the value `out` at every row and column, the output ends at it. -/
theorem final (h : InRange (table m c)) (G : FVec Ideal S73984x2048 .bf16)
    (hG : ∀ (k : Fin 289) (p : Fin 256) (j : Fin 2048), G (ix2 ⟨k.val * 256 + p.val, by omega⟩ j) = out (rows m c) (table m c) (inUse m c) (mats m c) (biases m c) k p j) :
    (dats m hO 0 c).arrAt 3 (cfgM m hO).N = G := by
  refine (dats m hO 0 c).arrAt_eq_of_covers 3 G (covers m hO) fun t hf y => ?_
  rw [after0_3]
  refine Eq.trans (?_ : _ = outAt m hO c t y) ?_
  · rfl
  obtain ⟨p, q, rfl⟩ : ∃ (p : Fin 256) (q : Fin 1024), y = ix2 p q := ⟨y (0 : Fin 2), y (1 : Fin 2), by funext a; fin_cases a <;> rfl⟩
  rw [point m hO c h, ← hG]
  refine congrArg G (funext fun (a : Fin 2) => Fin.ext ?_)
  refine Eq.symm (?_ : cc0_transform_3 (grid0.coords t) a * S256x1024.size a + 1 * ((ix2 p q : S256x1024.Idx) a).val = _)
  rw [tr3]
  fin_cases a
  · show (t.val % 289) * 256 + 1 * p.val = (t.val % 289) * 256 + p.val; omega
  · show (t.val / 289) * 1024 + 1 * q.val = (t.val / 289) * 1024 + q.val; omega

end Cert.DnKernelIdeal.RowValue

end
-- ==== Proof.DnClaims.lean ====
/- The claims of the experts' second product. -/
module

public import proofs.«01_k».proof.Defs
public import proofs.«01_k».proof.Proof.DnFrame
public import proofs.«01_k».proof.Proof.DnBlocks
public import proofs.«01_k».proof.Proof.Gen.Pre_in_range
public import Idealize.ShloMosaic.Lib.Quiescent

@[expose] public section

set_option maxRecDepth 16384

noncomputable section

namespace Cert.Proof.DnClaims

open Cert.Experts
open Cert.DnReferenceIdeal.Read Cert.DnReferenceIdeal.RowRead
open Cert.DnKernelIdeal Cert.DnKernelIdeal.Gen Cert.DnKernelIdeal.RowValue Idealize.ShloMosaic Idealize.ShloMosaic.TcCoe Idealize.SL.Sem

theorem range_kernel (m : (ℓ : Loc Cert.DnKernel.nD Cert.DnKernel.τ Cert.DnKernel.sig) → Buf (Elt Bits) ℓ) (h : Cert.Pre_DnKernel m) :
    InRange (m ((0 : Dev Cert.DnKernel.nD).tc.loc Cert.DnKernel.main_arg1)) := range_of _ _ _ _ (h 0)

theorem range_ideal (m : (ℓ : Loc nD τ sig) → Buf (Elt Ideal) ℓ) (h : Cert.Pre_DnKernelIdeal m) (c : Dev nD) : InRange (table m c) := range_of _ _ _ _ (h c)

theorem frame_kernel : Cert.quiescent_DnKernel := fun m ρ h =>
  Cert.DnKernel.Gen.frame m ρ (Cert.DnKernel.Gen.ok_of m fun k => by rw [idx_one k]; exact range_kernel m h (k 0))

theorem ok_ideal (m : (ℓ : Loc nD τ sig) → Buf (Elt Ideal) ℓ) (h : Cert.Pre_DnKernelIdeal m) : Ok m :=
  ok_of m fun k => by rw [idx_one k]; exact range_ideal m h 0 (k 0)

theorem frame_ideal : Cert.quiescent_DnKernelIdeal := fun m ρ h => frame m ρ (ok_ideal m h)

/-- The reference's frame, from its host run; it declares no semaphore. -/
theorem frame_reference : Cert.quiescent_DnReferenceIdeal := fun m ρ _ =>
  (θ_run Cert.DnReferenceIdeal.defs _ _).mono (fun r h => ⟨fun c => (h c).2, sem_eq_zero_of_no_sems (by decide) r.2⟩)
    (Cert.DnReferenceIdeal.Value.run (F := Ideal) m ρ)

theorem frame_reference_pre : Cert.quiescent_DnReferenceIdeal_pre_in_range := fun m ρ _ => frame_reference m ρ trivial

/-- The reference's value of the kernel's arguments. -/
abbrev want (m : (ℓ : Loc nD τ sig) → Buf (Elt Ideal) ℓ) (c : Dev nD) : FVec Ideal S73984x2048 .bf16 :=
  val_main_v29 (F := Ideal) (rows m c) (table m c) (inUse m c) (mats m c) (biases m c)

theorem algebraic : Cert.algebraic_DnKernelIdeal_DnReferenceIdeal := by
  intro m ρ m' ρ' hpre hagree
  have hO := ok_ideal m hpre
  refine ⟨fun c => want m c, ?_, ?_⟩
  · have hf := frame_of m ρ hO (dats m hO) (A_eq m hO) (run_main m ρ hO)
    refine (θ_run Cert.DnKernelIdeal.defs _ _).mono (fun _ h c => ⟨((h.1 c).1 3).trans ?_, h.2 c⟩) (θ_run_and (run_main m ρ hO) hf)
    exact final m hO c (range_ideal m hpre c) _ fun k p j => v29_apply _ _ _ _ _ (range_ideal m hpre c) k p j
  · refine (θ_run Cert.DnReferenceIdeal.defs _ _).mono (fun _ h c => ⟨(h c).1.trans ?_, (h c).2⟩) (Cert.DnReferenceIdeal.Value.run (F := Ideal) m' ρ')
    obtain ⟨h0, h1, h2, h3, h4⟩ := hagree c
    rw [val_main_v29_eq, h0, h1, h2, h3, h4]

end Cert.Proof.DnClaims
-- ==== Proof.GuFrameIdeal.lean ====
/- The experts' first product: the kernel's body at a point, the proof data of its pipeline, and its frame. -/
module

public import proofs.«01_k».proof.Proof.Gen.GuKernelIdeal.Launch
public import proofs.«01_k».proof.Proof.Gen.GuKernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import proofs.«01_k».proof.Proof.BodyReads

@[expose] public section

set_option maxRecDepth 16384

noncomputable section

namespace Cert.GuKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BodyReads
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S289 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_GuKernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The staging memrefs -/

abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2048x1024 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-! ## The body's conditions -/

/-- The expert of block row `i 1`, as the table gives it. -/
abbrev wordAt (T : S289.Idx → BitVec 32) (i : grid0.Coords) : BitVec 32 :=
  T ((Rect.unit (s := S289) (k0_off1 i) S1.size (k0_off1_inb i)).point numel1_S1)
/-- The expert of the block row before it (of row 0 itself at row 0). -/
abbrev wordBefore (T : S289.Idx → BitVec 32) (i : grid0.Coords) : BitVec 32 :=
  T ((Rect.unit (s := S289) (k0_off2 i) S1.size (k0_off2_inb i)).point numel1_S1)
/-- The number of block rows in use. -/
abbrev rowsUsed (n : S1.Idx → BitVec 32) : BitVec 32 :=
  n ((Rect.unit (s := S1) ![0] S1.size inb_S1_S1_0).point numel1_S1)
/-- The weight tile is new: the first block row, or another expert than the row before. -/
abbrev isNew (T : S289.Idx → BitVec 32) (i : grid0.Coords) : Prop :=
  Scalar.cmpi .ne (Scalar.extui (Scalar.ori (Scalar.cmpi .eq (BitVec.ofNat 32 (i 1).val) 0#32) (Scalar.cmpi .ne (wordAt T i) (wordBefore T i)))) 0#32 = 1#1
/-- The block row is in use. -/
abbrev isUsed (n : S1.Idx → BitVec 32) (i : grid0.Coords) : Prop := k0_cond2 i (rowsUsed n) = 1#1
/-- The block row is not in use. -/
abbrev isFree (n : S1.Idx → BitVec 32) (i : grid0.Coords) : Prop := k0_cond3 i (rowsUsed n) = 1#1

/-- The four columns the body stores of the activations `a` at the selection matrix `s`. -/
def outCols (a : FVec F S256x1024 .f32) (s : Vec F S256x128 .bf16) : Vec F S256x512 .bf16 :=
  cols4 (k0_pay3 a k0_pay9 k0_pay10 s) (k0_pay4 a k0_pay9 k0_pay10 s) (k0_pay5 a k0_pay9 k0_pay10 s) (k0_pay6 a k0_pay9 k0_pay10 s)

/-! ## The body, case by case -/

/-- A new weight tile on a block row in use. -/
theorem run_new_used (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x128 .bf16) (harg7 : arg7.IsWhole) (arg8 : Memref sig .tc .vmem S256x512 .bf16) (harg8 : arg8.IsWhole) (arg9 : Memref sig .tc .vmem S2048x1024 .bf16) (harg9 : arg9.IsWhole)
    (x0 : Vec F S256x2048 .bf16) (x1 : Vec F S1x2048x1024 .f32) (x2 : Vec F S1x1x1024 .f32) (x3 : Vec F S256x128 .bf16) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : isNew xt0 i) (h1 : isUsed xt1 i) (h2 : ¬ isFree xt1 i) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outCols (k0_pay8 x0 (k0_pay1 x1) x2) x3) ∗ owns (c : Thread nD τ) arg9 fullShare (k0_pay1 x1) ∗ tbPt0 c tbM0_0 xt0 ∗ tbPt0 c tbM0_1 xt1) -∗ K ⟨⟩))
      ⊢ wp frame (wpE (defs₀ (F := F)) Variants.none c none) E (cc0__moe_gu_kernel i tbM0_0 htbM0_0 tbM0_1 htbM0_1 arg4 harg4 arg5 harg5 arg6 harg6 arg7 harg7 arg8 harg8 arg9 harg9) K := by
    simp only [cc0__moe_gu_kernel_eq_skeleton]; unfold cc0__moe_gu_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs, HS0⟩, HT0, HT1, Hk⟩
    obtain rfl := harg4.eq_unread hf0; obtain rfl := harg5.eq_unread hf1; obtain rfl := harg6.eq_unread hf2; obtain rfl := harg7.eq_unread hf3; obtain rfl := harg9.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      have e (p : FVec F S256x1024 .f32 → Vec F S256x128 .bf16 → FVec F S256x128 .bf16) {a a' b b'} (ha : a = a') (hb : b = b') : p a b = p a' b' := by rw [ha, hb]
      have ha := congr (congr (congrArg k0_pay8 (readAt_full harg4 x0 (off := ![0, 0]) (by decide) inb_S256x2048_S256x2048_0_0)) ((View.readCov_unit_zero (S := S2048x1024) (off := ![0, 0]) arg9.view (funext (by decide)) inb_S2048x1024_S2048x1024_0_0 _).trans (congrArg k0_pay1 (readAt_full harg5 x1 (off := ![0, 0, 0]) (by decide) inb_S1x2048x1024_S1x2048x1024_0_0_0)))) (readAt_full harg6 x2 (off := ![0, 0, 0]) (by decide) inb_S1x1x1024_S1x1x1024_0_0_0)
      have hb := readAt_full harg7 x3 (off := ![0, 0]) (by decide) inb_S256x128_S256x128_0_0
      refine (read_cols4 _ _ _ _ _ _ _ _ _ _).trans ?_
      unfold outCols
      exact congr (congr (congr (congrArg cols4 (e (fun a b => k0_pay3 a k0_pay9 k0_pay10 b) ha hb)) (e (fun a b => k0_pay4 a k0_pay9 k0_pay10 b) ha hb)) (e (fun a b => k0_pay5 a k0_pay9 k0_pay10 b) ha hb)) (e (fun a b => k0_pay6 a k0_pay9 k0_pay10 b) ha hb)
    isplitl [HS0]
    · iexists _; isplitr
      swap; · iexact HS0
      ipureintro
      exact (read_full _ _ _ (by decide) _).trans (congrArg k0_pay1 (readAt_full harg5 x1 (by decide) _))
    isplitl [HT0]; · iexact HT0
    iexact HT1

/-- A new weight tile on a block row not in use. -/
theorem run_new_free (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x128 .bf16) (harg7 : arg7.IsWhole) (arg8 : Memref sig .tc .vmem S256x512 .bf16) (harg8 : arg8.IsWhole) (arg9 : Memref sig .tc .vmem S2048x1024 .bf16) (harg9 : arg9.IsWhole)
    (x0 : Vec F S256x2048 .bf16) (x1 : Vec F S1x2048x1024 .f32) (x2 : Vec F S1x1x1024 .f32) (x3 : Vec F S256x128 .bf16) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : isNew xt0 i) (h1 : ¬ isUsed xt1 i) (h2 : isFree xt1 i) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay7 ∗ owns (c : Thread nD τ) arg9 fullShare (k0_pay1 x1) ∗ tbPt0 c tbM0_0 xt0 ∗ tbPt0 c tbM0_1 xt1) -∗ K ⟨⟩))
      ⊢ wp frame (wpE (defs₀ (F := F)) Variants.none c none) E (cc0__moe_gu_kernel i tbM0_0 htbM0_0 tbM0_1 htbM0_1 arg4 harg4 arg5 harg5 arg6 harg6 arg7 harg7 arg8 harg8 arg9 harg9) K := by
    simp only [cc0__moe_gu_kernel_eq_skeleton]; unfold cc0__moe_gu_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs, HS0⟩, HT0, HT1, Hk⟩
    obtain rfl := harg4.eq_unread hf0; obtain rfl := harg5.eq_unread hf1; obtain rfl := harg6.eq_unread hf2; obtain rfl := harg7.eq_unread hf3; obtain rfl := harg9.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      rw [read_full _ _ _ (by decide)]
    isplitl [HS0]
    · iexists _; isplitr
      swap; · iexact HS0
      ipureintro
      exact (read_full _ _ _ (by decide) _).trans (congrArg k0_pay1 (readAt_full harg5 x1 (by decide) _))
    isplitl [HT0]; · iexact HT0
    iexact HT1

/-- The weight tile kept, on a block row in use. -/
theorem run_keep_used (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x128 .bf16) (harg7 : arg7.IsWhole) (arg8 : Memref sig .tc .vmem S256x512 .bf16) (harg8 : arg8.IsWhole) (arg9 : Memref sig .tc .vmem S2048x1024 .bf16) (harg9 : arg9.IsWhole)
    (x0 : Vec F S256x2048 .bf16) (x1 : Vec F S1x2048x1024 .f32) (x2 : Vec F S1x1x1024 .f32) (x3 : Vec F S256x128 .bf16) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : ¬ isNew xt0 i) (h1 : isUsed xt1 i) (h2 : ¬ isFree xt1 i) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outCols (k0_pay8 x0 xs x2) x3) ∗ owns (c : Thread nD τ) arg9 fullShare xs ∗ tbPt0 c tbM0_0 xt0 ∗ tbPt0 c tbM0_1 xt1) -∗ K ⟨⟩))
      ⊢ wp frame (wpE (defs₀ (F := F)) Variants.none c none) E (cc0__moe_gu_kernel i tbM0_0 htbM0_0 tbM0_1 htbM0_1 arg4 harg4 arg5 harg5 arg6 harg6 arg7 harg7 arg8 harg8 arg9 harg9) K := by
    simp only [cc0__moe_gu_kernel_eq_skeleton]; unfold cc0__moe_gu_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs, HS0⟩, HT0, HT1, Hk⟩
    obtain rfl := harg4.eq_unread hf0; obtain rfl := harg5.eq_unread hf1; obtain rfl := harg6.eq_unread hf2; obtain rfl := harg7.eq_unread hf3; obtain rfl := harg9.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      have e (p : FVec F S256x1024 .f32 → Vec F S256x128 .bf16 → FVec F S256x128 .bf16) {a a' b b'} (ha : a = a') (hb : b = b') : p a b = p a' b' := by rw [ha, hb]
      have ha := congr (congr (congrArg k0_pay8 (readAt_full harg4 x0 (off := ![0, 0]) (by decide) inb_S256x2048_S256x2048_0_0)) (readAt_full harg9 xs (off := ![0, 0]) (by decide) inb_S2048x1024_S2048x1024_0_0)) (readAt_full harg6 x2 (off := ![0, 0, 0]) (by decide) inb_S1x1x1024_S1x1x1024_0_0_0)
      have hb := readAt_full harg7 x3 (off := ![0, 0]) (by decide) inb_S256x128_S256x128_0_0
      refine (read_cols4 _ _ _ _ _ _ _ _ _ _).trans ?_
      unfold outCols
      exact congr (congr (congr (congrArg cols4 (e (fun a b => k0_pay3 a k0_pay9 k0_pay10 b) ha hb)) (e (fun a b => k0_pay4 a k0_pay9 k0_pay10 b) ha hb)) (e (fun a b => k0_pay5 a k0_pay9 k0_pay10 b) ha hb)) (e (fun a b => k0_pay6 a k0_pay9 k0_pay10 b) ha hb)
    isplitl [HS0]
    · iexists _; isplitr
      swap; · iexact HS0
      ipureintro
      exact harg9.read_unread _
    isplitl [HT0]; · iexact HT0
    iexact HT1

/-- The weight tile kept, on a block row not in use. -/
theorem run_keep_free (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x128 .bf16) (harg7 : arg7.IsWhole) (arg8 : Memref sig .tc .vmem S256x512 .bf16) (harg8 : arg8.IsWhole) (arg9 : Memref sig .tc .vmem S2048x1024 .bf16) (harg9 : arg9.IsWhole)
    (x0 : Vec F S256x2048 .bf16) (x1 : Vec F S1x2048x1024 .f32) (x2 : Vec F S1x1x1024 .f32) (x3 : Vec F S256x128 .bf16) (xt0 : TbBuf0 (F := F) c tbM0_0) (xt1 : TbBuf0 (F := F) c tbM0_1) (xs : Vec F S2048x1024 .bf16) (E : Set ℕ) (K : PUnit → sProp (MT nD τ sig Unit (Elt F) ℕ (UR sig nD τ) ℕ))
    (h0 : ¬ isNew xt0 i) (h1 : ¬ isUsed xt1 i) (h2 : isFree xt1 i) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay7 ∗ owns (c : Thread nD τ) arg9 fullShare xs ∗ tbPt0 c tbM0_0 xt0 ∗ tbPt0 c tbM0_1 xt1) -∗ K ⟨⟩))
      ⊢ wp frame (wpE (defs₀ (F := F)) Variants.none c none) E (cc0__moe_gu_kernel i tbM0_0 htbM0_0 tbM0_1 htbM0_1 arg4 harg4 arg5 harg5 arg6 harg6 arg7 harg7 arg8 harg8 arg9 harg9) K := by
    simp only [cc0__moe_gu_kernel_eq_skeleton]; unfold cc0__moe_gu_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs, HS0⟩, HT0, HT1, Hk⟩
    obtain rfl := harg4.eq_unread hf0; obtain rfl := harg5.eq_unread hf1; obtain rfl := harg6.eq_unread hf2; obtain rfl := harg7.eq_unread hf3; obtain rfl := harg9.eq_unread hfs
    sl_exec (disch := first | sl_exact h0 | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      rw [read_full _ _ _ (by decide)]
    isplitl [HS0]
    · iexists _; isplitr
      swap; · iexact HS0
      ipureintro
      exact harg9.read_unread _
    isplitl [HT0]; · iexact HT0
    iexact HT1

/-! ## The conditions over the grid -/

theorem free_iff (n : S1.Idx → BitVec 32) (i : grid0.Coords) : isFree n i ↔ ¬ isUsed n i := by
  refine (ne_extui_iff _).trans (Iff.trans ?_ (not_congr (ne_extui_iff _).symm))
  exact (ofBool_iff ((rowsUsed n).toInt ≤ (BitVec.ofNat 32 (i 1).val).toInt)).trans
    (not_lt.symm.trans (not_congr (ofBool_iff ((BitVec.ofNat 32 (i 1).val).toInt < (rowsUsed n).toInt)).symm))

/-- Where the weight tile is not new the block row is not the first, and its expert is that of the row before. -/
theorem not_new {T : S289.Idx → BitVec 32} {i : grid0.Coords} (h : ¬ isNew T i) : (i 1).val ≠ 0 ∧ wordAt T i = wordBefore T i := by
  have h' := mt (ne_extui_iff _).mpr h
  refine ⟨fun h0 => h' ?_, Classical.byContradiction fun hw => h' ?_⟩
  · rw [h0, show Scalar.cmpi .eq (BitVec.ofNat 32 0) 0#32 = 1#1 from by decide]
    generalize Scalar.cmpi .ne (wordAt T i) (wordBefore T i) = z
    revert z; decide
  · rw [show Scalar.cmpi .ne (wordAt T i) (wordBefore T i) = 1#1 from (WordCmp.cmpi_ne_eq _ _).trans (by rw [decide_eq_true hw]; rfl)]
    generalize Scalar.cmpi .eq (BitVec.ofNat 32 (i 1).val) 0#32 = z
    revert z; decide

theorem coord0 : ∀ t : Fin grid0.N, (grid0.coords t 0).val = t.val / 289 := by decide +kernel
theorem coord1 : ∀ t : Fin grid0.N, (grid0.coords t 1).val = t.val % 289 := by decide +kernel
theorem off2_eq : ∀ t : Fin grid0.N, k0_off2 (grid0.coords t) = ![t.val % 289 - 1] := by decide +kernel

theorem point_congr {o o' : Fin 1 → ℕ} (h : ∀ a, o a + S1.size a ≤ S289.size a) (h' : ∀ a, o' a + S1.size a ≤ S289.size a) (e : o = o') :
    (Rect.unit (s := S289) o S1.size h).point numel1_S1 = (Rect.unit (s := S289) o' S1.size h').point numel1_S1 := by
  subst e; rfl

theorem wordBefore_eq (T : S289.Idx → BitVec 32) (n : ℕ) (hn : n + 1 < grid0.N) (h0 : (n + 1) % 289 ≠ 0) :
    wordBefore T (grid0.coords ⟨n + 1, hn⟩) = wordAt T (grid0.coords ⟨n, Nat.lt_of_succ_lt hn⟩) := by
  refine congrArg T (point_congr _ _ ?_)
  rw [off2_eq, k0_off1_eq, coord1]
  show ![(n + 1) % 289 - 1] = ![n % 289]
  rw [show (n + 1) % 289 - 1 = n % 289 from by omega]

/-- Window 1's block index, in closed form: the row's expert, and the column. -/
theorem index1_eq (pf : pre0.Contents (Elt F)) (i : grid0.Coords) :
    cc0_transform_1 k0_off1_inb numel1_S1 pf i = ![(wordAt (pf 0) i).toNat, 0, (BitVec.ofNat 32 (i 0).val).toNat] := rfl

theorem iblk1_congr (hO : Ok m) (c : Dev nD) (t t' : Fin (cfgM m hO).N)
    (e : cc0_transform_1 k0_off1_inb numel1_S1 (tbl m) (grid0.coords t) = cc0_transform_1 k0_off1_inb numel1_S1 (tbl m) (grid0.coords t')) :
    (iblk m hO c 1 t : Vec F S1x2048x1024 .f32) = iblk m hO c 1 t' := by
  funext y
  refine congrArg (V m c main_v10) (funext fun a => Fin.ext ?_)
  show cc0_transform_1 k0_off1_inb numel1_S1 (tbl m) (grid0.coords t) a * S1x2048x1024.size a + 1 * (y a).val
    = cc0_transform_1 k0_off1_inb numel1_S1 (tbl m) (grid0.coords t') a * S1x2048x1024.size a + 1 * (y a).val
  rw [e]

/-- Where the weight tile is not new it is the block of the point before. -/
theorem kept (hO : Ok m) (c : Dev nD) (n : ℕ) (hn : n + 1 < (cfgM m hO).N) (h : ¬ isNew (tbl m 0) (grid0.coords ⟨n + 1, hn⟩)) :
    (iblk m hO c 1 ⟨n + 1, hn⟩ : Vec F S1x2048x1024 .f32) = iblk m hO c 1 ⟨n, Nat.lt_of_succ_lt hn⟩ := by
  obtain ⟨h1, h2⟩ := not_new h
  have h0 : (n + 1) % 289 ≠ 0 := fun e => h1 ((coord1 ⟨n + 1, hn⟩).trans e)
  refine iblk1_congr m hO c _ _ ?_
  rw [index1_eq, index1_eq]
  refine congrArg₂ (fun (w : BitVec 32) (k : ℕ) => ![w.toNat, 0, (BitVec.ofNat 32 k).toNat]) (h2.trans (wordBefore_eq _ _ hn h0)) ?_
  exact (show (grid0.coords ⟨n + 1, hn⟩ 0).val = (grid0.coords ⟨n, Nat.lt_of_succ_lt hn⟩ 0).val from by
    rw [coord0, coord0]; show (n + 1) / 289 = n / 289; omega)

theorem not_kept_zero (hO : Ok m) (h0 : 0 < (cfgM m hO).N) : isNew (tbl m 0) (grid0.coords ⟨0, h0⟩) :=
  Classical.byContradiction fun h => (not_new h).1 (coord1 ⟨0, h0⟩)

theorem stores_out (n : S1.Idx → BitVec 32) (i : grid0.Coords) :
    (!(k0_cond2 i (rowsUsed n) == 1#1) && !(k0_cond3 i (rowsUsed n) == 1#1)) = false := by
  by_cases h : isUsed n i
  · rw [show k0_cond2 i (rowsUsed n) = 1#1 from h]; rfl
  · rw [show k0_cond3 i (rowsUsed n) = 1#1 from (free_iff _ _).mpr h]; exact Bool.and_false _

theorem one_index (x y : S1.Idx) : x = y :=
  funext fun a => match a with | ⟨0, _⟩ => Subsingleton.elim (α := Fin 1) _ _

theorem idle_out (pf : pre0.Contents (Elt F)) (i : grid0.Coords) (w : BitVec 32) (e : pf.atD 1 ![0] = w)
    (h : (!(k0_cond2 i w == 1#1) && !(k0_cond3 i w == 1#1)) = false) : idle0 pf 4 i = false := by
  subst e; exact h

theorem live_of (a : (pcfg0 (F := F)).Adm) (t : Fin (cfg0 a).N) (h : idle0 a.1 4 (grid0.coords t) = false) : (cfg0 a).idle 4 (grid0.coords t) = false := h

/-- The output is stored at every point: a block row is in use or it is not. -/
theorem live_out (hO : Ok m) (t : Fin (cfgM m hO).N) : (cfgM m hO).idle 4 (grid0.coords t) = false := by
  have e : (tbl m).atD 1 ![0] = rowsUsed (tbl m 1) := by
    unfold Pipeline.Prefetch.Contents.atD
    rw [dif_pos (by decide)]
    exact congrArg (tbl m 1) (one_index _ _)
  have h1 := stores_out (tbl m 1) (grid0.coords t)
  have h2 := idle_out (F := F) (tbl m) (grid0.coords t) _ e
  have h3 := h2 h1
  exact live_of (adm m hO) t h3

/-! ## The proof data -/

/-- What the output's block holds after point `t`: the product of its row's expert, or zeros past the rows in use. -/
def outAt (hO : Ok m) (c : Dev nD) (t : Fin (cfgM m hO).N) : Vec F S256x512 .bf16 :=
  if isUsed (tbl m 1) (grid0.coords t) then outCols (k0_pay8 (iblk m hO c 0 t) (k0_pay1 (iblk m hO c 1 t)) (iblk m hO c 2 t)) (iblk m hO c 3 t) else k0_pay7

/-- The region invariant before position `n`: before the first point every scratch holds anything; afterwards the
    scratch holds the weight tile of the point before. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare (k0_pay1 (iblk m hO c 1 ⟨n, hn⟩))) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (k0_pay1 (iblk m hO c 1 ⟨n - 1, by omega⟩))) ∗ (∃ r, prngReg c r)) ∗ Pipeline.ΦT pre0 (tbl m) c) := by
  cases n with
  | zero => exact absurd rfl hz
  | succ n => rfl

/-- The proof data: the arrays as the region finds them; each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation -/

/-- The kernel's body at point `t`, on what the pipeline calls it with. -/
abbrev bodyAt0 (a : (pcfg0 (F := F)).Adm) (t : Fin (cfg0 a).N) : Prog (TpuEff nD τ sig (Elt F) Λ₀ .tc) PUnit :=
  cc0__moe_gu_kernel (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- What the invariant says before a point, with the scratch's contents named: the weight tile, where it is kept. -/
theorem Phi_in (hO : Ok m) (c : Dev nD) (t : Fin (cfgM m hO).N) :
    (dats m hO 0 c).Φ t.castSucc ⊢ iprop(∃ xs, ⌜¬ isNew (tbl m 0) (grid0.coords t) → xs = k0_pay1 (iblk m hO c 1 t)⌝
      ∗ owns (c : Thread nD τ) scM0_0 fullShare xs ∗ (∃ r, prngReg c r) ∗ tbPt0 c tbM0_0 (tbl m 0) ∗ tbPt0 c tbM0_1 (tbl m 1)) := by
  rw [show (dats m hO 0 c).Φ t.castSucc = PhiS m hO c t.val (Nat.le_of_lt t.isLt) from by
    dsimp only [dats]; exact Pipeline.Dat.Φ_castSucc (PhiS m hO c) t]
  obtain ⟨n, hn⟩ := t
  cases n with
  | zero =>
    show iprop(Pipeline.ΦA spec0 c ∗ Pipeline.ΦT pre0 (tbl m) c) ⊢ _
    rw [PhiT0_eq, PhiA0_eq]
    iintro ⟨⟨⟨%d, HS⟩, Hg⟩, ⟨HT0, HT1⟩⟩
    iexists d
    isplitr; · ipureintro; exact fun h => absurd (not_kept_zero m hO hn) h
    isplitl [HS]; · iexact HS
    isplitl [Hg]; · iexact Hg
    isplitl [HT0]; · iexact HT0
    iexact HT1
  | succ n =>
    show iprop(iprop(iprop(owns (c : Thread nD τ) scM0_0 fullShare (k0_pay1 (iblk m hO c 1 ⟨n, Nat.lt_of_succ_lt hn⟩))) ∗ (∃ r, prngReg c r)) ∗ Pipeline.ΦT pre0 (tbl m) c) ⊢ _
    rw [PhiT0_eq]
    iintro ⟨⟨HS, Hg⟩, ⟨HT0, HT1⟩⟩
    iexists _
    isplitr; swap
    · isplitl [HS]; · iexact HS
      isplitl [Hg]; · iexact Hg
      isplitl [HT0]; · iexact HT0
      iexact HT1
    · ipureintro; exact fun h => congrArg k0_pay1 (kept m hO c n hn h).symm

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = iprop(iprop(iprop(owns (c : Thread nD τ) scM0_0 fullShare (k0_pay1 (iblk m hO c 1 t))) ∗ (∃ r, prngReg c r)) ∗ Pipeline.ΦT pre0 (tbl m) c) from rfl, PhiT0_eq]
  rw [show (dats m hO 0 c).leavesExact 0 t = owns (c : Thread nD τ) (ms0_0 m hO t) fullShare ((dats m hO 0 c).after 0 t) from by
    unfold Dat.leavesExact; rw [show (cfgM m hO).idle 0 (grid0.coords t) = false from rfl]; try rfl, after0_0]
  rw [show (dats m hO 0 c).leavesExact 1 t = owns (c : Thread nD τ) (ms0_1 m hO t) fullShare ((dats m hO 0 c).after 1 t) from by
    unfold Dat.leavesExact; rw [show (cfgM m hO).idle 1 (grid0.coords t) = false from rfl]; try rfl, after0_1]
  rw [show (dats m hO 0 c).leavesExact 2 t = owns (c : Thread nD τ) (ms0_2 m hO t) fullShare ((dats m hO 0 c).after 2 t) from by
    unfold Dat.leavesExact; rw [show (cfgM m hO).idle 2 (grid0.coords t) = false from rfl]; try rfl, after0_2]
  rw [show (dats m hO 0 c).leavesExact 3 t = owns (c : Thread nD τ) (ms0_3 m hO t) fullShare ((dats m hO 0 c).after 3 t) from by
    unfold Dat.leavesExact; rw [show (cfgM m hO).idle 3 (grid0.coords t) = false from rfl]; try rfl, after0_3]
  rw [show (dats m hO 0 c).leavesExact 4 t = owns (c : Thread nD τ) (ms0_4 m hO t) fullShare ((dats m hO 0 c).after 4 t) from by
    unfold Dat.leavesExact; rw [live_out m hO t]; try rfl, after0_4]
  iintro ⟨HP, Ho, ⟨%d0, H0⟩, ⟨%d1, H1⟩, ⟨%d2, H2⟩, ⟨%d3, H3⟩, ⟨%d4, H4⟩⟩
  ihave HP' := (Phi_in m hO c t) $$ HP
  icases HP' with ⟨%xs, %hxs, HS0, Hg, HT0, HT1⟩
  by_cases h1 : isUsed (tbl m 1) (grid0.coords t)
  · have h2 : ¬ isFree (tbl m 1) (grid0.coords t) := fun h => (free_iff _ _).mp h h1
    rw [show outAt m hO c t = outCols (k0_pay8 (iblk m hO c 0 t) (k0_pay1 (iblk m hO c 1 t)) (iblk m hO c 2 t)) (iblk m hO c 3 t) from if_pos h1]
    by_cases h0 : isNew (tbl m 0) (grid0.coords t)
    · iapply (run_new_used c (grid0.coords t) _ _ _ _ _ _ _ _ _ _ _ _ (iblk m hO c 0 t) (iblk m hO c 1 t) (iblk m hO c 2 t) (iblk m hO c 3 t) (tbl m 0) (tbl m 1) xs Set.univ _ h0 h1 h2)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · obtain rfl := hxs h0
      iapply (run_keep_used c (grid0.coords t) _ _ _ _ _ _ _ _ _ _ _ _ (iblk m hO c 0 t) (iblk m hO c 1 t) (iblk m hO c 2 t) (iblk m hO c 3 t) (tbl m 0) (tbl m 1) _ Set.univ _ h0 h1 h2)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h2 : isFree (tbl m 1) (grid0.coords t) := (free_iff _ _).mpr h1
    rw [show outAt m hO c t = k0_pay7 from if_neg h1]
    by_cases h0 : isNew (tbl m 0) (grid0.coords t)
    · iapply (run_new_free c (grid0.coords t) _ _ _ _ _ _ _ _ _ _ _ _ (iblk m hO c 0 t) (iblk m hO c 1 t) (iblk m hO c 2 t) (iblk m hO c 3 t) (tbl m 0) (tbl m 1) xs Set.univ _ h0 h1 h2)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · obtain rfl := hxs h0
      iapply (run_keep_free c (grid0.coords t) _ _ _ _ _ _ _ _ _ _ _ _ (iblk m hO c 0 t) (iblk m hO c 1 t) (iblk m hO c 2 t) (iblk m hO c 3 t) (tbl m 0) (tbl m 1) _ Set.univ _ h0 h1 h2)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]; · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N le_rfl from rfl, PhiS_pos m hO c _ _ (by have : (cfgM m hO).N = 1156 := N_0; omega), PhiA0_eq]
  iintro ⟨⟨HS0, Hg⟩, -⟩
  isplitl [HS0]
  · iexists _; iexact HS0
  iexact Hg

/-! ## The run and the frame -/

set_option backward.isDefEq.respectTransparency.types false in
/-- Every run ends, with every array of the pipeline at what the proof data gives and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: the arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) (run_main m ρ hO)) ((θ_run defs _ _).mono (fun _ h => h.2) (run_main_quiescent m ρ hO))

/-! ## The side condition of the tables -/

theorem idx1 (i : grid0.Coords) : (BitVec.ofNat 32 (i 0).val).toNat = (i 0).val := by
  have := (i 0).isLt
  change _ < 4 at this
  rw [BitVec.toNat_ofNat]; omega

theorem ok_of (h : ∀ k, (m ((0 : Dev nD).tc.loc main_arg1) k).toNat < 32) : Ok m := by
  have hw (i : grid0.Coords) : (wordAt (tbl m 0) i).toNat < 32 := by
    rw [show tbl m 0 = m ((0 : Dev nD).tc.loc main_arg1) from V_main_arg1 m 0]
    exact h _
  have hi (i : grid0.Coords) : (i 0).val < 4 := (i 0).isLt
  refine ⟨fun i => ⟨fun a => ?_, .inl rfl⟩, fun i => ⟨fun a => ?_, .inl rfl⟩⟩
  · rw [index1_eq, idx1]
    have h1 := hw i; have h2 := hi i
    fin_cases a
    · show ((wordAt (tbl m 0) i).toNat + 1) * 1 ≤ 32; omega
    · show (0 + 1) * 2048 ≤ 2048; omega
    · show ((i 0).val + 1) * 1024 ≤ 4096; omega
  · show (![(wordAt (tbl m 0) i).toNat, 0, (BitVec.ofNat 32 (i 0).val).toNat] a + 1) * S1x1x1024.size a ≤ S32x1x4096.size a
    rw [idx1]
    have h1 := hw i; have h2 := hi i
    fin_cases a
    · show ((wordAt (tbl m 0) i).toNat + 1) * 1 ≤ 32; omega
    · show (0 + 1) * 1 ≤ 1; omega
    · show ((i 0).val + 1) * 1024 ≤ 4096; omega

end Cert.GuKernelIdeal.Gen

end
-- ==== Proof.GuRows.lean ====
/- The rows of the experts' first product, as the reference computes them. -/
module

public import proofs.«01_k».proof.Proof.Gen.GuReferenceIdeal.Read
public import proofs.«01_k».proof.Proof.Experts

@[expose] public section

set_option maxRecDepth 16384

noncomputable section

namespace Cert.GuReferenceIdeal.RowRead

open Cert.Experts
open Cert.GuReferenceIdeal.Read
open Cert.GuReferenceIdeal Cert.GuReferenceIdeal.Gen Idealize.ShloMosaic Idealize.ShloMosaic.TcCoe Idealize.SL.Sem

variable (x : FVec Ideal S73984x2048 .bf16) (T : IVec S289 32) (n : IVec S1 32) (w : FVec Ideal S1x32x2048x4096 .f32) (b : FVec Ideal S1x32x4096 .f32)

/-- The clamped gate and the activation of a gate and its lane's neighbour. -/
def gated (g : EReal) : EReal := min g (Ideal.ofBits .f32 0x40E00000#32)
@[inherit_doc gated] def act (g u : EReal) : EReal :=
  (min (Ideal.ofBits .f32 0x40E00000#32) (max (Ideal.ofBits .f32 0xC0E00000#32) u) + 1) * gated g
    * Ideal.logistic (gated g * Ideal.ofBits .f32 0x3FD9DB23#32)

/-- Row `p` of block row `k`, at column `j`, before the activation: its expert's product and bias. -/
def lin (k : Fin 289) (p : Fin 256) (j : Fin 4096) : EReal :=
  (∑ f : Fin 2048, x (ix2 ⟨k.val * 256 + p.val, by omega⟩ f) * w (ix4 0 (expert T k) f j)) + b (ix3 0 (expert T k) j)

/-- Row `p` of block row `k`, at column `j`: the activation of the two neighbouring columns where the block row is in use, else zero. -/
def out (k : Fin 289) (p : Fin 256) (j : Fin 2048) : EReal :=
  if Scalar.cmpi .slt (BitVec.ofNat 32 k.val) (n (ix1 0)) = 1#1 then
    act (lin x T w b k p ⟨2 * j.val, by omega⟩) (lin x T w b k p ⟨2 * j.val + 1, by omega⟩)
  else 0

theorem v8_apply (h : InRange T) (k : Fin 289) : (val_main_v8 (F := Ideal) T (ix2 k 0)).toNat = (expert T k).val := by
  rw [expert_val h]
  refine congrArg BitVec.toNat ((?_ : _ = _).trans (wrap_word (T (ix1 k)) (h k)))
  unfold val_main_v8 val_main_v7 val_main_v6 val_main_v5 val_main_v4 val_main_v3 val_main_c val_main_c_0
  pointwise
  rfl

theorem v17_apply (h : InRange T) (k : Fin 289) : (val_main_v17 (F := Ideal) T (ix2 k 0)).toNat = (expert T k).val := by
  rw [expert_val h]
  refine congrArg BitVec.toNat ((?_ : _ = _).trans (wrap_word (T (ix1 k)) (h k)))
  unfold val_main_v17 val_main_v16 val_main_v15 val_main_v14 val_main_v13 val_main_v12 val_main_c_1 val_main_c_2
  pointwise
  rfl

theorem v9_apply (h : InRange T) (k : Fin 289) (f : Fin 2048) (j : Fin 4096) : val_main_v9 (F := Ideal) T w (ix3 k f j) = w (ix4 0 (expert T k) f j) := by
  unfold val_main_v9
  refine (gather3 gather_S32x2048x4096_S289x1_S289x2048x4096_12_0_n_n_0_1_120484096_wf _ _ k f j (expert T k) (by decide) (v8_apply T h k)).trans ?_
  unfold val_main_v2
  pointwise

theorem v18_apply (h : InRange T) (k : Fin 289) (j : Fin 4096) : val_main_v18 (F := Ideal) T b (ix2 k j) = b (ix3 0 (expert T k) j) := by
  unfold val_main_v18
  refine (gather2 gather_S32x4096_S289x1_S289x4096_1_0_n_n_0_1_14096_wf _ _ k j (expert T k) (by decide) (v17_apply T h k)).trans ?_
  unfold val_main_v11
  pointwise

theorem v21_apply (h : InRange T) (k : Fin 289) (p : Fin 256) (j : Fin 4096) : val_main_v21 (F := Ideal) x T w b (ix3 k p j) = lin x T w b k p j := by
  unfold lin
  simp only [← v9_apply T w h, ← v18_apply T b h]
  unfold val_main_v21 val_main_v20 val_main_v19 val_main_v10 val_main_v1 val_main_v0
  generalize val_main_v9 (F := Ideal) T w = y
  generalize val_main_v18 (F := Ideal) T b = z
  pointwise

theorem v22_apply (h : InRange T) (k : Fin 289) (p : Fin 256) (j : Fin 2048) :
    val_main_v22 (F := Ideal) x T w b (ix3 k p j) = lin x T w b k p ⟨2 * j.val, by omega⟩ := by
  rw [← v21_apply x T w b h]
  unfold val_main_v22
  generalize val_main_v21 (F := Ideal) x T w b = y
  pointwise

theorem v25_apply (h : InRange T) (k : Fin 289) (p : Fin 256) (j : Fin 2048) :
    val_main_v25 (F := Ideal) x T w b (ix3 k p j) = lin x T w b k p ⟨2 * j.val + 1, by omega⟩ := by
  rw [← v21_apply x T w b h]
  unfold val_main_v25
  generalize val_main_v21 (F := Ideal) x T w b = y
  pointwise
  exact congrArg y (congrArg (ix3 k p) (Fin.ext (Nat.add_comm _ _)))

theorem v44_apply (h : InRange T) (k : Fin 289) (p : Fin 256) (j : Fin 2048) : val_main_v44 (F := Ideal) x T n w b (ix3 k p j) = out x T n w b k p j := by
  unfold out
  rw [← v22_apply x T w b h, ← v25_apply x T w b h]
  unfold val_main_v44 val_main_call1_v2 val_main_call1_v1 val_main_call1_v0 val_main_cst_9 val_main_v43 val_main_v42 val_main_v41 val_main_v40 val_main_v39 val_main_v38 val_main_v37 val_main_v36
    val_main_cst_8 val_main_v35 val_main_v34 val_main_cst_7 val_main_v33 val_main_v32 val_main_v31 val_main_v30 val_main_cst_6 val_main_v29 val_main_v28 val_main_v27 val_main_cst_5
    val_main_v26 val_main_call0_v4 val_main_call0_v3 val_main_call0_v2 val_main_call0_v1 val_main_call0_v0 val_main_cst_4 val_main_cst_3 val_main_v24 val_main_v23 val_main_cst
  generalize val_main_v22 (F := Ideal) x T w b = y
  generalize val_main_v25 (F := Ideal) x T w b = z
  simp only [id_eq]
  pointwise
  rfl

theorem v46_apply (h : InRange T) (k : Fin 289) (p : Fin 256) (j : Fin 2048) :
    val_main_v46 (F := Ideal) x T n w b (ix2 ⟨k.val * 256 + p.val, by omega⟩ j) = out x T n w b k p j := by
  rw [← v44_apply x T n w b h]
  unfold val_main_v46 val_main_v45
  generalize val_main_v44 (F := Ideal) x T n w b = y
  pointwise

end Cert.GuReferenceIdeal.RowRead

end
-- ==== Proof.GuBlocks.lean ====
/- The blocks of the experts' first product. -/
module

public import proofs.«01_k».proof.Proof.GuFrameIdeal
public import proofs.«01_k».proof.Proof.GuRows
public import Idealize.ShloMosaic.Lib.Pipeline.ReadBack
public import Idealize.ShloMosaic.Lib.Pipeline.ValueKit.Geometry
public import Idealize.ShloMosaic.Lib.StableHlo.ReadAt

@[expose] public section

set_option maxRecDepth 16384

noncomputable section

namespace Cert.GuKernelIdeal.RowValue

open Cert.Experts
open Cert.GuKernelIdeal Cert.GuKernelIdeal.Gen Idealize.ShloMosaic Idealize.ShloMosaic.TcCoe Idealize.SL.Sem
open Idealize.ShloMosaic.Pipeline (Dat)
open Cert.GuReferenceIdeal.RowRead (out act gated lin)

theorem pay1_apply (w : Vec Ideal S1x2048x1024 .f32) (f : Fin 2048) (q : Fin 1024) : k0_pay1 w (ix2 f q) = w (ix3 0 f q) := by
  pointwise [k0_pay1]

/-- The block's product and bias, before the activation. -/
def pre (x : Vec Ideal S256x2048 .bf16) (w : Vec Ideal S2048x1024 .bf16) (b : Vec Ideal S1x1x1024 .f32) : FVec Ideal S256x1024 .f32 :=
  addf (matmul (φ₁ := .bf16) (φ₂ := .bf16) dot_S256x2048_S2048x1024_S256x1024_1_0_0_1_n_n none x w (constant S256x1024 .f32 0x00000000#32))
    (broadcastTo S256x1024 (shapeCast S1x1024 b shapeCasts_S1x1x1024_S1x1024) broadcasts_S1x1024_S256x1024)

theorem pre_apply (x : Vec Ideal S256x2048 .bf16) (w : Vec Ideal S2048x1024 .bf16) (b : Vec Ideal S1x1x1024 .f32) (p : Fin 256) (q : Fin 1024) :
    pre x w b (ix2 p q) = (∑ f : Fin 2048, x (ix2 p f) * w (ix2 f q)) + b (ix3 0 0 q) := by
  pointwise [pre]

/-- The activation of every lane with the next. -/
def acts (y : FVec Ideal S256x1024 .f32) : FVec Ideal S256x1024 .f32 :=
  let g := minimumf y (broadcast S256x1024 (Scalar.ofBits .f32 0x40E00000#32 : Ideal .f32))
  let u := minimumf (broadcast S256x1024 (Scalar.ofBits .f32 0x40E00000#32 : Ideal .f32)) (maximumf (broadcast S256x1024 (Scalar.ofBits .f32 0xC0E00000#32 : Ideal .f32)) y)
  mulf (mulf (addf (dynamicRotate 1 1023#32 none u rotates_S256x1024_d1) (broadcast S256x1024 (Scalar.ofBits .f32 0x3F800000#32 : Ideal .f32))) g)
    (logistic (mulf g (broadcast S256x1024 (Scalar.ofBits .f32 0x3FD9DB23#32 : Ideal .f32))))

theorem acts_apply (y : FVec Ideal S256x1024 .f32) (p : Fin 256) (q : Fin 512) :
    acts y (ix2 p ⟨2 * q.val, by omega⟩) = act (y (ix2 p ⟨2 * q.val, by omega⟩)) (y (ix2 p ⟨2 * q.val + 1, by omega⟩)) := by
  have h : (2 * q.val + 1024 - 1023) % 1024 = 2 * q.val + 1 := by omega
  pointwise [acts]
  simp only [h]
  rfl

theorem pay8_eq (x : Vec Ideal S256x2048 .bf16) (w : Vec Ideal S2048x1024 .bf16) (b : Vec Ideal S1x1x1024 .f32) : k0_pay8 x w b = acts (pre x w b) := rfl

theorem parity (p : Fin 256) (q : Fin 1024) : k0_pay9 (ix2 p q) = BitVec.ofNat 32 (q.val % 2) := by
  pointwise [k0_pay9]
  revert q
  decide +kernel

theorem pay2_apply (a : FVec Ideal S256x1024 .f32) (p : Fin 256) (q : Fin 1024) :
    k0_pay2 a k0_pay9 k0_pay10 (ix2 p q) = if q.val % 2 = 0 then a (ix2 p q) else 0 := by
  have e := parity p q
  unfold k0_pay2
  generalize k0_pay9 = v at e ⊢
  pointwise [k0_pay10]
  rw [e]
  rcases Nat.mod_two_eq_zero_or_one q.val with h | h
  · rw [h]; rfl
  · rw [h]; rfl

/-- A selection matrix's column picks one entry. -/
theorem pick (g s : Fin 256 → EReal) (q : Fin 128) (hs : ∀ i : Fin 256, s i = if i.val = 2 * q.val then 1 else 0) : ∑ i, g i * s i = g ⟨2 * q.val, by omega⟩ := by
  rw [Finset.sum_eq_single ⟨2 * q.val, by omega⟩]
  · rw [hs, if_pos rfl, mul_one]
  · intro i _ hi
    rw [hs, if_neg (fun h => hi (Fin.ext h)), mul_zero]
  · intro h; exact absurd (Finset.mem_univ _) h

theorem pay3_apply (a : FVec Ideal S256x1024 .f32) (s : Vec Ideal S256x128 .bf16) (hs : ∀ (i : Fin 256) (q : Fin 128), s (ix2 i q) = if i.val = 2 * q.val then 1 else 0)
    (p : Fin 256) (q : Fin 128) : k0_pay3 a k0_pay9 k0_pay10 s (ix2 p q) = a (ix2 p ⟨2 * q.val, by omega⟩) := by
  have e := pay2_apply a p ⟨2 * q.val, by omega⟩
  rw [if_pos (show (2 * q.val) % 2 = 0 by omega)] at e
  rw [← e]
  unfold k0_pay3
  generalize k0_pay2 a k0_pay9 k0_pay10 = y
  pointwise
  exact pick (fun i => y (ix2 p ⟨i.val, by omega⟩)) (fun i => s (ix2 i q)) q fun i => hs i q

theorem pay4_apply (a : FVec Ideal S256x1024 .f32) (s : Vec Ideal S256x128 .bf16) (hs : ∀ (i : Fin 256) (q : Fin 128), s (ix2 i q) = if i.val = 2 * q.val then 1 else 0)
    (p : Fin 256) (q : Fin 128) : k0_pay4 a k0_pay9 k0_pay10 s (ix2 p q) = a (ix2 p ⟨256 + 2 * q.val, by omega⟩) := by
  have e := pay2_apply a p ⟨256 + 2 * q.val, by omega⟩
  rw [if_pos (show (256 + 2 * q.val) % 2 = 0 by omega)] at e
  rw [← e]
  unfold k0_pay4
  generalize k0_pay2 a k0_pay9 k0_pay10 = y
  pointwise
  exact pick (fun i => y (ix2 p ⟨256 + i.val, by omega⟩)) (fun i => s (ix2 i q)) q fun i => hs i q

theorem pay5_apply (a : FVec Ideal S256x1024 .f32) (s : Vec Ideal S256x128 .bf16) (hs : ∀ (i : Fin 256) (q : Fin 128), s (ix2 i q) = if i.val = 2 * q.val then 1 else 0)
    (p : Fin 256) (q : Fin 128) : k0_pay5 a k0_pay9 k0_pay10 s (ix2 p q) = a (ix2 p ⟨512 + 2 * q.val, by omega⟩) := by
  have e := pay2_apply a p ⟨512 + 2 * q.val, by omega⟩
  rw [if_pos (show (512 + 2 * q.val) % 2 = 0 by omega)] at e
  rw [← e]
  unfold k0_pay5
  generalize k0_pay2 a k0_pay9 k0_pay10 = y
  pointwise
  exact pick (fun i => y (ix2 p ⟨512 + i.val, by omega⟩)) (fun i => s (ix2 i q)) q fun i => hs i q

theorem pay6_apply (a : FVec Ideal S256x1024 .f32) (s : Vec Ideal S256x128 .bf16) (hs : ∀ (i : Fin 256) (q : Fin 128), s (ix2 i q) = if i.val = 2 * q.val then 1 else 0)
    (p : Fin 256) (q : Fin 128) : k0_pay6 a k0_pay9 k0_pay10 s (ix2 p q) = a (ix2 p ⟨768 + 2 * q.val, by omega⟩) := by
  have e := pay2_apply a p ⟨768 + 2 * q.val, by omega⟩
  rw [if_pos (show (768 + 2 * q.val) % 2 = 0 by omega)] at e
  rw [← e]
  unfold k0_pay6
  generalize k0_pay2 a k0_pay9 k0_pay10 = y
  pointwise
  exact pick (fun i => y (ix2 p ⟨768 + i.val, by omega⟩)) (fun i => s (ix2 i q)) q fun i => hs i q

theorem pay7_apply (p : Fin 256) (q : Fin 512) : k0_pay7 (F := Ideal) (ix2 p q) = 0 := by
  pointwise [k0_pay7]

theorem outCols_apply (a : FVec Ideal S256x1024 .f32) (s : Vec Ideal S256x128 .bf16) (hs : ∀ (i : Fin 256) (q : Fin 128), s (ix2 i q) = if i.val = 2 * q.val then 1 else 0)
    (p : Fin 256) (q : Fin 512) : outCols a s (ix2 p q) = a (ix2 p ⟨2 * q.val, by omega⟩) := by
  unfold outCols Cert.BodyReads.cols4
  show (if h0 : q.val < 128 then _ else if h1 : q.val < 256 then _ else if h2 : q.val < 384 then _ else _) = _
  by_cases h0 : q.val < 128
  · rw [dif_pos h0]
    refine (pay3_apply a s hs p ⟨q.val, h0⟩).trans (congrArg a (congrArg (ix2 p) (Fin.ext ?_)))
    rfl
  rw [dif_neg h0]
  by_cases h1 : q.val < 256
  · rw [dif_pos h1]
    refine (pay4_apply a s hs p ⟨q.val - 128, by omega⟩).trans (congrArg a (congrArg (ix2 p) (Fin.ext ?_)))
    show 256 + 2 * (q.val - 128) = 2 * q.val; omega
  rw [dif_neg h1]
  by_cases h2 : q.val < 384
  · rw [dif_pos h2]
    refine (pay5_apply a s hs p ⟨q.val - 256, by omega⟩).trans (congrArg a (congrArg (ix2 p) (Fin.ext ?_)))
    show 512 + 2 * (q.val - 256) = 2 * q.val; omega
  rw [dif_neg h2]
  refine (pay6_apply a s hs p ⟨q.val - 384, by omega⟩).trans (congrArg a (congrArg (ix2 p) (Fin.ext ?_)))
  show 768 + 2 * (q.val - 384) = 2 * q.val; omega

variable (m : (ℓ : Loc nD τ sig) → Buf (Elt Ideal) ℓ)

/-- The arguments on core `c`: the rows, the experts' table, the block rows in use, the experts' matrices and biases. -/
abbrev rows (c : Dev nD) : FVec Ideal S73984x2048 .bf16 := m ((c : Thread nD τ).loc main_arg0)
@[inherit_doc rows] abbrev table (c : Dev nD) : IVec S289 32 := m ((c : Thread nD τ).loc main_arg1)
@[inherit_doc rows] abbrev inUse (c : Dev nD) : IVec S1 32 := m ((c : Thread nD τ).loc main_arg2)
@[inherit_doc rows] abbrev mats (c : Dev nD) : FVec Ideal S1x32x2048x4096 .f32 := m ((c : Thread nD τ).loc main_arg3)
@[inherit_doc rows] abbrev biases (c : Dev nD) : FVec Ideal S1x32x4096 .f32 := m ((c : Thread nD τ).loc main_arg4)

theorem V_v10 (c : Dev nD) : (V m c main_v10 : FVec Ideal S32x2048x4096 .f32) = shapeCast S32x2048x4096 (mats m c) shapeCasts_S1x32x2048x4096_S32x2048x4096 := by
  unfold V
  simp only [hostOps0]
  after_reads_simp
  try rfl

theorem V_v12 (c : Dev nD) : (V m c main_v12 : FVec Ideal S32x1x4096 .f32)
    = shapeCast S32x1x4096 (shapeCast S32x4096 (biases m c) shapeCasts_S1x32x4096_S32x4096) shapeCasts_S32x4096_S32x1x4096 := by
  unfold V
  simp only [hostOps0]
  after_reads_simp
  try rfl

theorem tbl0 (c : Dev nD) : tbl m 0 = table m c := by
  obtain rfl : c = 0 := Subsingleton.elim _ _
  exact V_main_arg1 m 0

theorem tbl1 (c : Dev nD) : tbl m 1 = inUse m c := by
  obtain rfl : c = 0 := Subsingleton.elim _ _
  exact V_main_arg2 m 0

theorem pt_lt (t : Fin grid0.N) : t.val < 1156 := lt_of_lt_of_eq t.isLt (by decide)

/-- The block row of a point, and its column of blocks. -/
abbrev brow (t : Fin grid0.N) : Fin 289 := ⟨t.val % 289, Nat.mod_lt _ (by decide)⟩

theorem word_eq (T : S289.Idx → BitVec 32) (t : Fin grid0.N) : wordAt T (grid0.coords t) = T (ix1 (brow t)) := by
  refine congrArg T (funext fun a => Fin.ext ?_)
  obtain rfl : a = 0 := Subsingleton.elim _ _
  exact (Nat.add_zero _).trans ((congrFun (k0_off1_eq _) 0).trans (coord1 t))

theorem used_iff (n : S1.Idx → BitVec 32) (t : Fin grid0.N) :
    isUsed n (grid0.coords t) ↔ Scalar.cmpi .slt (BitVec.ofNat 32 (brow t).val) (n (ix1 0)) = 1#1 := by
  refine (Cert.BodyReads.ne_extui_iff _).trans ?_
  rw [coord1, show rowsUsed n = n (ix1 0) from congrArg n (one_index _ _)]

theorem tr0 : ∀ t : Fin grid0.N, cc0_transform_0 (grid0.coords t) = ![t.val % 289, 0] := by decide +kernel
theorem tr3 : ∀ t : Fin grid0.N, cc0_transform_3 (grid0.coords t) = ![0, 0] := by decide +kernel
theorem tr4 : ∀ t : Fin grid0.N, cc0_transform_4 (grid0.coords t) = ![t.val % 289, t.val / 289] := by decide +kernel

/-- Column `q` of a point's column of blocks. -/
abbrev col (t : Fin grid0.N) (q : Fin 1024) : Fin 4096 := ⟨t.val / 289 * 1024 + q.val, by have := pt_lt t; omega⟩

theorem flush4 : ∀ t : Fin grid0.N, spec0_4.flushAt cc0_transform_4 t = true := by decide +kernel

variable (hO : Ok m) (c : Dev nD)

theorem tr12 (t : Fin grid0.N) : (![(wordAt (tbl m 0) (grid0.coords t)).toNat, 0, (BitVec.ofNat 32 (grid0.coords t 0).val).toNat] : Fin 3 → ℕ)
    = ![(table m c (ix1 (brow t))).toNat, 0, t.val / 289] :=
  congrArg₂ (fun (x : BitVec 32) (k : ℕ) => ![x.toNat, 0, k]) ((congrArg (fun T => wordAt T (grid0.coords t)) (tbl0 m c)).trans (word_eq _ t)) ((idx1 _).trans (coord0 t))

theorem iblk0 (t : Fin (cfgM m hO).N) (p : Fin 256) (f : Fin 2048) :
    (iblk m hO c 0 t : Vec Ideal S256x2048 .bf16) (ix2 p f) = rows m c (ix2 ⟨(brow t).val * 256 + p.val, by have := (brow t).isLt; omega⟩ f) := by
  refine (congrArg (V m c main_arg0) (funext fun a => Fin.ext ?_) : _ = V m c main_arg0 (ix2 ⟨(brow t).val * 256 + p.val, by have := (brow t).isLt; omega⟩ f)).trans
    (congrFun (V_main_arg0 m c) _)
  show cc0_transform_0 (grid0.coords t) a * S256x2048.size a + 1 * ((ix2 p f : S256x2048.Idx) a).val = _
  rw [tr0]
  fin_cases a
  · show (t.val % 289) * 256 + 1 * p.val = (t.val % 289) * 256 + p.val; omega
  · show 0 * 2048 + 1 * f.val = f.val; omega

theorem iblk1 (h : InRange (table m c)) (t : Fin (cfgM m hO).N) (f : Fin 2048) (q : Fin 1024) :
    (iblk m hO c 1 t : Vec Ideal S1x2048x1024 .f32) (ix3 0 f q) = mats m c (ix4 0 (expert (table m c) (brow t)) f (col t q)) := by
  refine (congrArg (V m c main_v10) (funext fun a => Fin.ext ?_) : _ = V m c main_v10 (ix3 (expert (table m c) (brow t)) f (col t q))).trans ?_
  · show cc0_transform_1 k0_off1_inb numel1_S1 (tbl m) (grid0.coords t) a * S1x2048x1024.size a + 1 * ((ix3 0 f q : S1x2048x1024.Idx) a).val = _
    rw [(index1_eq _ _).trans (tr12 m c t)]
    fin_cases a
    · show (table m c (ix1 (brow t))).toNat * 1 + 1 * 0 = (expert (table m c) (brow t)).val; rw [expert_val h]; omega
    · show 0 * 2048 + 1 * f.val = f.val; omega
    · show (t.val / 289) * 1024 + 1 * q.val = (t.val / 289) * 1024 + q.val; omega
  · rw [show V m c main_v10 = _ from V_v10 m c]
    pointwise

theorem iblk2 (h : InRange (table m c)) (t : Fin (cfgM m hO).N) (q : Fin 1024) :
    (iblk m hO c 2 t : Vec Ideal S1x1x1024 .f32) (ix3 0 0 q) = biases m c (ix3 0 (expert (table m c) (brow t)) (col t q)) := by
  refine (congrArg (V m c main_v12) (funext fun a => Fin.ext ?_) : _ = V m c main_v12 (ix3 (expert (table m c) (brow t)) 0 (col t q))).trans ?_
  · show ![(wordAt (tbl m 0) (grid0.coords t)).toNat, 0, (BitVec.ofNat 32 (grid0.coords t 0).val).toNat] a * S1x1x1024.size a + 1 * ((ix3 0 0 q : S1x1x1024.Idx) a).val = _
    rw [tr12 m c t]
    fin_cases a
    · show (table m c (ix1 (brow t))).toNat * 1 + 1 * 0 = (expert (table m c) (brow t)).val; rw [expert_val h]; omega
    · show 0 * 1 + 1 * 0 = 0; omega
    · show (t.val / 289) * 1024 + 1 * q.val = (t.val / 289) * 1024 + q.val; omega
  · rw [show V m c main_v12 = _ from V_v12 m c]
    pointwise

theorem sel_word (i : Fin 256) (q : Fin 128) : IntOp.cmpi .eq (BitVec.ofNat 32 i.val) (IntOp.muli 2#32 (BitVec.ofNat 32 q.val)) = if i.val = 2 * q.val then 1#1 else 0#1 := by
  have e : IntOp.muli 2#32 (BitVec.ofNat 32 q.val) = BitVec.ofNat 32 (2 * q.val) := (BitVec.ofNat_mul 2 q.val).symm
  rw [e]
  by_cases h : i.val = 2 * q.val
  · rw [if_pos h, h]
    exact (Cert.BodyReads.ofBool_iff _).mpr rfl
  · rw [if_neg h]
    have n : BitVec.ofNat 32 i.val ≠ BitVec.ofNat 32 (2 * q.val) := fun hh => h (by
      have := congrArg BitVec.toNat hh
      rw [BitVec.toNat_ofNat, BitVec.toNat_ofNat] at this; omega)
    show BitVec.ofBool (decide _) = _
    rw [decide_eq_false n]; rfl

/-- The selection matrix the host builds: one in row `2 q` of column `q`. -/
theorem V_v9 (i : Fin 256) (q : Fin 128) : (V m c main_v9 : FVec Ideal S256x128 .bf16) (ix2 i q) = (if i.val = 2 * q.val then 1 else 0 : EReal) := by
  unfold V
  simp only [hostOps0]
  after_reads_simp
  pointwise
  rw [sel_word]
  split
  · show ((1 : ℕ) : EReal) = 1; simp
  · show ((0 : ℕ) : EReal) = 0; simp

theorem iblk3 (t : Fin (cfgM m hO).N) (i : Fin 256) (q : Fin 128) :
    (iblk m hO c 3 t : Vec Ideal S256x128 .bf16) (ix2 i q) = (if i.val = 2 * q.val then 1 else 0 : EReal) := by
  refine (congrArg (V m c main_v9) (funext fun a => Fin.ext ?_) : _ = V m c main_v9 (ix2 i q)).trans (V_v9 m c i q)
  show cc0_transform_3 (grid0.coords t) a * S256x128.size a + 1 * ((ix2 i q : S256x128.Idx) a).val = _
  rw [tr3]
  fin_cases a
  · show 0 * 256 + 1 * i.val = i.val; omega
  · show 0 * 128 + 1 * q.val = q.val; omega

theorem pre_point (h : InRange (table m c)) (t : Fin (cfgM m hO).N) (p : Fin 256) (q : Fin 1024) :
    pre (iblk m hO c 0 t) (k0_pay1 (iblk m hO c 1 t)) (iblk m hO c 2 t) (ix2 p q) = lin (rows m c) (table m c) (mats m c) (biases m c) (brow t) p (col t q) := by
  refine (pre_apply _ _ _ p q).trans ?_
  refine congr (congrArg (HAdd.hAdd (α := EReal) (β := EReal)) (Finset.sum_congr rfl fun f _ => ?_)) (iblk2 m hO c h t q)
  exact congr (congrArg (HMul.hMul (α := EReal) (β := EReal)) (iblk0 m hO c t p f)) ((pay1_apply _ f q).trans (iblk1 m hO c h t f q))

/-- Column `q` of a point's column of blocks of the output. -/
abbrev ocol (t : Fin grid0.N) (q : Fin 512) : Fin 2048 := ⟨t.val / 289 * 512 + q.val, by have := pt_lt t; omega⟩

theorem point (h : InRange (table m c)) (t : Fin (cfgM m hO).N) (p : Fin 256) (q : Fin 512) :
    outAt m hO c t (ix2 p q) = out (rows m c) (table m c) (inUse m c) (mats m c) (biases m c) (brow t) p (ocol t q) := by
  unfold outAt out
  rw [tbl1 m c]
  by_cases hu : isUsed (inUse m c) (grid0.coords t)
  · rw [if_pos hu, if_pos ((used_iff _ t).mp hu)]
    refine (outCols_apply _ _ (iblk3 m hO c t) p q).trans ?_
    refine (congrFun (pay8_eq _ _ _) _).trans ((acts_apply _ p q).trans ?_)
    refine congrArg₂ act ((pre_point m hO c h t p _).trans (congrArg (lin _ _ _ _ _ p) (Fin.ext ?_))) ((pre_point m hO c h t p _).trans (congrArg (lin _ _ _ _ _ p) (Fin.ext ?_)))
    · show t.val / 289 * 1024 + 2 * q.val = 2 * (t.val / 289 * 512 + q.val); omega
    · show t.val / 289 * 1024 + (2 * q.val + 1) = 2 * (t.val / 289 * 512 + q.val) + 1; omega
  · rw [if_neg hu, if_neg (mt (used_iff _ t).mpr hu), pay7_apply]

theorem covers : ((cfgM m hO).win 4).Covers := by
  refine ⟨(by decide : ∀ a, 0 < S256x512.size a), fun β => ?_⟩
  have b0 : (β (0 : Fin 2)).val < 289 := lt_of_lt_of_eq (β (0 : Fin 2)).isLt (show (73984 + 256 - 1) / 256 = 289 by decide)
  have b1 : (β (1 : Fin 2)).val < 4 := lt_of_lt_of_eq (β (1 : Fin 2)).isLt (show (2048 + 512 - 1) / 512 = 4 by decide)
  have hN : (β (1 : Fin 2)).val * 289 + (β (0 : Fin 2)).val < grid0.N := lt_of_lt_of_eq (by omega : _ < 1156) (by decide)
  refine ⟨⟨(β (1 : Fin 2)).val * 289 + (β (0 : Fin 2)).val, hN⟩, flush4 _, fun (a : Fin 2) => ⟨?_, .inl rfl⟩⟩
  show cc0_transform_4 (grid0.coords ⟨(β (1 : Fin 2)).val * 289 + (β (0 : Fin 2)).val, hN⟩) a = (β a).val
  rw [tr4]
  fin_cases a
  · show ((β (1 : Fin 2)).val * 289 + (β (0 : Fin 2)).val) % 289 = (β (0 : Fin 2)).val; omega
  · show ((β (1 : Fin 2)).val * 289 + (β (0 : Fin 2)).val) / 289 = (β (1 : Fin 2)).val; omega

/-- Whatever has the value `out` at every row and column, the output ends at it. -/
theorem final (h : InRange (table m c)) (G : FVec Ideal S73984x2048 .bf16)
    (hG : ∀ (k : Fin 289) (p : Fin 256) (j : Fin 2048), G (ix2 ⟨k.val * 256 + p.val, by omega⟩ j) = out (rows m c) (table m c) (inUse m c) (mats m c) (biases m c) k p j) :
    (dats m hO 0 c).arrAt 4 (cfgM m hO).N = G := by
  refine (dats m hO 0 c).arrAt_eq_of_covers 4 G (covers m hO) fun t hf y => ?_
  rw [after0_4]
  refine Eq.trans (?_ : _ = outAt m hO c t y) ?_
  · generalize outAt m hO c t = o
    rfl
  obtain ⟨p, q, rfl⟩ : ∃ (p : Fin 256) (q : Fin 512), y = ix2 p q := ⟨y (0 : Fin 2), y (1 : Fin 2), by funext a; fin_cases a <;> rfl⟩
  rw [point m hO c h, ← hG]
  refine congrArg G (funext fun (a : Fin 2) => Fin.ext ?_)
  refine Eq.symm (?_ : cc0_transform_4 (grid0.coords t) a * S256x512.size a + 1 * ((ix2 p q : S256x512.Idx) a).val = _)
  rw [tr4]
  fin_cases a
  · show (t.val % 289) * 256 + 1 * p.val = (t.val % 289) * 256 + p.val; omega
  · show (t.val / 289) * 512 + 1 * q.val = (t.val / 289) * 512 + q.val; omega

end Cert.GuKernelIdeal.RowValue

end
-- ==== Proof.GuClaims.lean ====
/- The claims of the experts' first product. -/
module

public import proofs.«01_k».proof.Defs
public import proofs.«01_k».proof.Proof.GuFrame
public import proofs.«01_k».proof.Proof.GuBlocks
public import proofs.«01_k».proof.Proof.Gen.Pre_in_range_gu
public import Idealize.ShloMosaic.Lib.Quiescent

@[expose] public section

set_option maxRecDepth 16384

noncomputable section

namespace Cert.Proof.GuClaims

open Cert.Experts
open Cert.GuReferenceIdeal.Read Cert.GuReferenceIdeal.RowRead
open Cert.GuKernelIdeal Cert.GuKernelIdeal.Gen Cert.GuKernelIdeal.RowValue Idealize.ShloMosaic Idealize.ShloMosaic.TcCoe Idealize.SL.Sem

theorem range_kernel (m : (ℓ : Loc Cert.GuKernel.nD Cert.GuKernel.τ Cert.GuKernel.sig) → Buf (Elt Bits) ℓ) (h : Cert.Pre_GuKernel m) :
    InRange (m ((0 : Dev Cert.GuKernel.nD).tc.loc Cert.GuKernel.main_arg1)) := range_of _ _ _ _ (h 0)

theorem range_ideal (m : (ℓ : Loc nD τ sig) → Buf (Elt Ideal) ℓ) (h : Cert.Pre_GuKernelIdeal m) (c : Dev nD) : InRange (table m c) := range_of _ _ _ _ (h c)

theorem frame_kernel : Cert.quiescent_GuKernel := fun m ρ h =>
  Cert.GuKernel.Gen.frame m ρ (Cert.GuKernel.Gen.ok_of m fun k => by rw [idx_one k]; exact range_kernel m h (k 0))

theorem ok_ideal (m : (ℓ : Loc nD τ sig) → Buf (Elt Ideal) ℓ) (h : Cert.Pre_GuKernelIdeal m) : Ok m :=
  ok_of m fun k => by rw [idx_one k]; exact range_ideal m h 0 (k 0)

theorem frame_ideal : Cert.quiescent_GuKernelIdeal := fun m ρ h => frame m ρ (ok_ideal m h)

/-- The reference's frame, from its host run; it declares no semaphore. -/
theorem frame_reference : Cert.quiescent_GuReferenceIdeal := fun m ρ _ =>
  (θ_run Cert.GuReferenceIdeal.defs _ _).mono (fun r h => ⟨fun c => (h c).2, sem_eq_zero_of_no_sems (by decide) r.2⟩)
    (Cert.GuReferenceIdeal.Value.run (F := Ideal) m ρ)

theorem frame_reference_pre : Cert.quiescent_GuReferenceIdeal_pre_in_range_gu := fun m ρ _ => frame_reference m ρ trivial

/-- The reference's value of the kernel's arguments. -/
abbrev want (m : (ℓ : Loc nD τ sig) → Buf (Elt Ideal) ℓ) (c : Dev nD) : FVec Ideal S73984x2048 .bf16 :=
  val_main_v46 (F := Ideal) (rows m c) (table m c) (inUse m c) (mats m c) (biases m c)

theorem algebraic : Cert.algebraic_GuKernelIdeal_GuReferenceIdeal := by
  intro m ρ m' ρ' hpre hagree
  have hO := ok_ideal m hpre
  refine ⟨fun c => want m c, ?_, ?_⟩
  · have hf := frame_of m ρ hO (dats m hO) (A_eq m hO) (run_main m ρ hO)
    refine (θ_run Cert.GuKernelIdeal.defs _ _).mono (fun _ h c => ⟨((h.1 c).1 4).trans ?_, h.2 c⟩) (θ_run_and (run_main m ρ hO) hf)
    exact final m hO c (range_ideal m hpre c) _ fun k p j => v46_apply _ _ _ _ _ (range_ideal m hpre c) k p j
  · refine (θ_run Cert.GuReferenceIdeal.defs _ _).mono (fun _ h c => ⟨(h c).1.trans ?_, (h c).2⟩) (Cert.GuReferenceIdeal.Value.run (F := Ideal) m' ρ')
    obtain ⟨h0, h1, h2, h3, h4⟩ := hagree c
    rw [val_main_v46_eq, h0, h1, h2, h3, h4]

end Cert.Proof.GuClaims
-- ==== Proof.CrossRows.lean ====
/- The cross attention's rows: the normed queries, the softmax of a head's scores, and the heads' mixed values. -/
module

public import proofs.«01_k».proof.Proof.Gen.CrossKernelIdeal.Skeleton
public import proofs.«01_k».proof.Proof.NormRows

@[expose] public section

set_option maxRecDepth 16384

noncomputable section

namespace Cert.CrossKernelIdeal.RowValue

open Cert.NormRows
open Cert.CrossKernelIdeal Cert.CrossKernelIdeal.Gen Idealize.ShloMosaic Idealize.ShloMosaic.TcCoe Idealize.SL.Sem

/-- The softmax of a row of scores. -/
def softened (s : Fin 256 → EReal) (j : Fin 256) : EReal :=
  Ideal.div (Ideal.exp (s j - Finset.fold max (Ideal.ofBits FTy.f32 0xFF800000#32) s Finset.univ))
    (∑ i, Ideal.exp (s i - Finset.fold max (Ideal.ofBits FTy.f32 0xFF800000#32) s Finset.univ))

/-- One lane of a head: the lane's values, weighed by the softmax of the scaled products of the head's query and keys. -/
def headed (q : Fin 128 → EReal) (k : Fin 256 → Fin 128 → EReal) (v : Fin 256 → EReal) : EReal :=
  ∑ j, softened (fun j => (∑ d, q d * k j d) * Ideal.ofBits FTy.f32 0x3DB504F3#32) j * v j

/-- Lane `d` of the head of lane `i`. -/
def lane (i : Fin 512) (d : Fin 128) : Fin 512 := ⟨i.val / 128 * 128 + d.val, by omega⟩

/-- Lane `i` of the four heads. -/
def heads (q : Fin 512 → EReal) (k v : Fin 256 → Fin 512 → EReal) (i : Fin 512) : EReal :=
  headed (fun d => q (lane i d)) (fun j d => k j (lane i d)) (fun j => v j i)

theorem heads_eq (q : Fin 512 → EReal) (k v : Fin 256 → Fin 512 → EReal) (i : Fin 512) (f : Fin 128 → Fin 512) (i' : Fin 512)
    (hf : ∀ d, (f d).val = i.val / 128 * 128 + d.val) (hi : i'.val = i.val) :
    headed (fun d => q (f d)) (fun j d => k j (f d)) (fun j => v j i') = heads q k v i := by
  obtain rfl : f = lane i := funext fun d => Fin.ext (hf d)
  obtain rfl : i' = i := Fin.ext hi
  rfl

variable (x : Vec Ideal S1x512x2048 .f32) (g : Vec Ideal S1x2048 .f32) (w : Vec Ideal S2048x512 .bf16) (K : Vec Ideal S1x256x512 .f32)

theorem pay7_apply (v : FVec Ideal S256x512 .bf16) (p : Fin 512) (d : Fin 128) : k0_pay7 v (k0_pay6 x g w K) (ix2 p d)
    = headed (fun d => k0_pay3 x g w (ix2 p ⟨d.val, by omega⟩)) (fun j d => k0_pay4 K (ix2 j ⟨d.val, by omega⟩)) (fun j => v (ix2 j ⟨d.val, by omega⟩)) := by
  unfold k0_pay7 k0_pay6
  generalize k0_pay3 x g w = q
  generalize k0_pay4 K = k
  pointwise [headed, softened]

theorem pay8_apply (q : FVec Ideal S512x512 .f32) (k v : FVec Ideal S256x512 .bf16) (p : Fin 512) (d : Fin 128) : k0_pay8 q k v (ix2 p d)
    = headed (fun d => q (ix2 p ⟨128 + d.val, by omega⟩)) (fun j d => k (ix2 j ⟨128 + d.val, by omega⟩)) (fun j => v (ix2 j ⟨128 + d.val, by omega⟩)) := by
  pointwise [k0_pay8, headed, softened]

theorem pay9_apply (q : FVec Ideal S512x512 .f32) (k v : FVec Ideal S256x512 .bf16) (p : Fin 512) (d : Fin 128) : k0_pay9 q k v (ix2 p d)
    = headed (fun d => q (ix2 p ⟨256 + d.val, by omega⟩)) (fun j d => k (ix2 j ⟨256 + d.val, by omega⟩)) (fun j => v (ix2 j ⟨256 + d.val, by omega⟩)) := by
  pointwise [k0_pay9, headed, softened]

theorem pay10_apply (q : FVec Ideal S512x512 .f32) (k : FVec Ideal S256x512 .bf16) (p : Fin 512) (j : Fin 256) : k0_pay10 q k (ix2 p j)
    = ∑ d : Fin 128, q (ix2 p ⟨384 + d.val, by omega⟩) * k (ix2 j ⟨384 + d.val, by omega⟩) := by
  pointwise [k0_pay10]

theorem pay1_apply (y : FVec Ideal S512x2048 .f32) (v : FVec Ideal S256x512 .bf16) (a b c : FVec Ideal S512x128 .f32) (s : FVec Ideal S512x256 .f32)
    (wo : Vec Ideal S512x2048 .bf16) (z : Fin 1) (p : Fin 512) (n : Fin 2048) : k0_pay1 y v a b c s (Scalar.ofBits .f32 0x3DB504F3#32) wo (ix3 z p n)
    = y (ix2 p n) + ∑ i : Fin 512, (if h : i.val < 128 then a (ix2 p ⟨i.val, h⟩)
      else if h : i.val - 128 < 128 then b (ix2 p ⟨i.val - 128, h⟩)
      else if h : i.val - 128 - 128 < 128 then c (ix2 p ⟨i.val - 128 - 128, h⟩)
      else ∑ j, softened (fun j => s (ix2 p j) * Ideal.ofBits FTy.f32 0x3DB504F3#32) j * v (ix2 j ⟨384 + (i.val - 128 - 128 - 128), by omega⟩)) * wo (ix2 i n) := by
  pointwise [k0_pay1, softened]

theorem pay3_apply (p i : Fin 512) :
    k0_pay3 x g w (ix2 p i) = ∑ k, normed (fun k => x (ix3 0 p k)) (fun k => g (ix2 0 k)) k * w (ix2 k i) := by
  pointwise [k0_pay3, k0_pay2, normed]

theorem pay2_apply (p : Fin 512) (n : Fin 2048) : k0_pay2 x (ix2 p n) = x (ix3 0 p n) := by
  pointwise [k0_pay2]

theorem pay4_apply (j : Fin 256) (i : Fin 512) : k0_pay4 K (ix2 j i) = K (ix3 0 j i) := by
  pointwise [k0_pay4]

theorem pay5_apply (V : Vec Ideal S1x256x512 .f32) (j : Fin 256) (i : Fin 512) : k0_pay5 V (ix2 j i) = V (ix3 0 j i) := by
  pointwise [k0_pay5]

/-- One row of the cross attention: the heads of the normed row's queries, times the output matrix, on top of the row. -/
def crossed (x g : Fin 2048 → EReal) (w : Fin 2048 → Fin 512 → EReal) (k v : Fin 256 → Fin 512 → EReal) (wo : Fin 512 → Fin 2048 → EReal) (n : Fin 2048) :
    EReal :=
  x n + ∑ i, heads (fun i => ∑ k, normed x g k * w k i) k v i * wo i n

theorem row_apply (V : Vec Ideal S1x256x512 .f32) (wo : Vec Ideal S512x2048 .bf16) (z : Fin 1) (p : Fin 512) (n : Fin 2048) :
    k0_pay1 (k0_pay2 x) (k0_pay5 V) (k0_pay7 (k0_pay5 V) (k0_pay6 x g w K)) (k0_pay8 (k0_pay3 x g w) (k0_pay4 K) (k0_pay5 V))
      (k0_pay9 (k0_pay3 x g w) (k0_pay4 K) (k0_pay5 V)) (k0_pay10 (k0_pay3 x g w) (k0_pay4 K)) (Scalar.ofBits .f32 0x3DB504F3#32) wo (ix3 z p n)
    = crossed (fun n => x (ix3 0 p n)) (fun n => g (ix2 0 n)) (fun n i => w (ix2 n i)) (fun j i => K (ix3 0 j i)) (fun j i => V (ix3 0 j i))
        (fun i n => wo (ix2 i n)) n := by
  rw [pay1_apply, pay2_apply]
  unfold crossed
  refine congrArg _ (Finset.sum_congr rfl fun i _ => congrArg (· * wo (ix2 i n)) ?_)
  have hq : (fun i => ∑ k, normed (fun n => x (ix3 0 p n)) (fun n => g (ix2 0 n)) k * w (ix2 k i)) = fun i => k0_pay3 x g w (ix2 p i) :=
    funext fun i => (pay3_apply x g w p i).symm
  rw [hq]
  simp only [pay7_apply, pay8_apply, pay9_apply, pay10_apply, pay4_apply, pay5_apply]
  generalize k0_pay3 x g w = q
  rcases lt_or_ge i.val 128 with h | h
  · rw [dif_pos h]
    exact heads_eq (fun i => q (ix2 p i)) (fun j i => K (ix3 0 j i)) (fun j i => V (ix3 0 j i)) i (fun d => ⟨d.val, by omega⟩) _
      (fun d => by dsimp only; omega) rfl
  rw [dif_neg (by omega)]
  rcases lt_or_ge i.val 256 with h | h
  · rw [dif_pos (by omega)]
    exact heads_eq (fun i => q (ix2 p i)) (fun j i => K (ix3 0 j i)) (fun j i => V (ix3 0 j i)) i (fun d => ⟨128 + d.val, by omega⟩) _
      (fun d => by dsimp only; omega) (by dsimp only; omega)
  rw [dif_neg (by omega)]
  rcases lt_or_ge i.val 384 with h | h
  · rw [dif_pos (by omega)]
    exact heads_eq (fun i => q (ix2 p i)) (fun j i => K (ix3 0 j i)) (fun j i => V (ix3 0 j i)) i (fun d => ⟨256 + d.val, by omega⟩) _
      (fun d => by dsimp only; omega) (by dsimp only; omega)
  rw [dif_neg (by omega)]
  exact heads_eq (fun i => q (ix2 p i)) (fun j i => K (ix3 0 j i)) (fun j i => V (ix3 0 j i)) i (fun d => ⟨384 + d.val, by omega⟩) _
    (fun d => by dsimp only; omega) (by dsimp only; omega)

end Cert.CrossKernelIdeal.RowValue
-- ==== Proof.CrossBlocks.lean ====
/- The cross attention: what the kernel's body leaves at a point, and the blocks it stages. -/
module

public import proofs.«01_k».proof.Proof.Gen.CrossKernelIdeal.Value
public import Idealize.ShloMosaic.Lib.Pipeline.ReadBack
public import Idealize.ShloMosaic.Lib.StableHlo.ReadAt
public import proofs.«01_k».proof.Proof.CrossRows

@[expose] public section

set_option maxRecDepth 16384

noncomputable section

namespace Cert.CrossKernelIdeal.RowValue

open Cert.NormRows
open Cert.CrossKernelIdeal Cert.CrossKernelIdeal.Gen Idealize.ShloMosaic Idealize.ShloMosaic.TcCoe Idealize.SL.Sem
open Idealize.ShloMosaic.Pipeline (Dat)

theorem out_apply (x : Vec Ideal S1x512x2048 .f32) (g : Vec Ideal S1x2048 .f32) (K V : Vec Ideal S1x256x512 .f32) (w : Vec Ideal S2048x512 .bf16)
    (wo : Vec Ideal S512x2048 .bf16) (z : Fin 1) (p : Fin 512) (n : Fin 2048) : out0_6 x g K V w wo (ix3 z p n)
    = crossed (fun n => x (ix3 0 p n)) (fun n => g (ix2 0 n)) (fun n i => w (ix2 n i)) (fun j i => K (ix3 0 j i)) (fun j i => V (ix3 0 j i))
        (fun i n => wo (ix2 i n)) n := by
  rw [← row_apply x g w K V wo z p n]
  unfold_out out0_6
  have hx : View.ld x r0_0 = x := View.ld_unit_lit' (S := S1x512x2048) inb_S1x512x2048_S1x512x2048_0_0_0 x (by decide)
  have hg : View.ld g r0_1 = g := View.ld_unit_lit' (S := S1x2048) inb_S1x2048_S1x2048_0_0 g (by decide)
  have hw : View.ld w r0_2 = w := View.ld_unit_lit' (S := S2048x512) inb_S2048x512_S2048x512_0_0 w (by decide)
  have hK : View.ld K r0_3 = K := View.ld_unit_lit' (S := S1x256x512) inb_S1x256x512_S1x256x512_0_0_0 K (by decide)
  have hV : View.ld V r0_3 = V := View.ld_unit_lit' (S := S1x256x512) inb_S1x256x512_S1x256x512_0_0_0 V (by decide)
  have hO : View.ld wo r0_4 = wo := View.ld_unit_lit' (S := S512x2048) inb_S512x2048_S512x2048_0_0 wo (by decide)
  have hc : ∀ u : Vec Ideal S1x512x2048 .f32, View.canon [⟨r0_0, u⟩] = u := fun u =>
    View.canon_cons_unit_lit' (S := S1x512x2048) inb_S1x512x2048_S1x512x2048_0_0_0 u [] (by decide)
  rw [hx, hg, hw, hK, hV, hO, hc]

variable (m : (ℓ : Loc nD τ sig) → Buf (Elt Ideal) ℓ)

/-- The arguments on core `c`: the rows, the norm's scale, the memory's keys and values, the query matrix, the output matrix. -/
abbrev rows (c : Dev nD) : FVec Ideal S2x8192x2048 .f32 := m ((c : Thread nD τ).loc main_arg0)
@[inherit_doc rows] abbrev scale (c : Dev nD) : FVec Ideal S1x2048 .f32 := m ((c : Thread nD τ).loc main_arg1)
@[inherit_doc rows] abbrev memory (c : Dev nD) : FVec Ideal S2x256x1024 .f32 := m ((c : Thread nD τ).loc main_arg2)
@[inherit_doc rows] abbrev matQ (c : Dev nD) : FVec Ideal S1x2048x512 .f32 := m ((c : Thread nD τ).loc main_arg3)
@[inherit_doc rows] abbrev matO (c : Dev nD) : FVec Ideal S1x512x2048 .f32 := m ((c : Thread nD τ).loc main_arg4)

theorem V_v5 (c : Dev nD) : (V m c main_v5 : FVec Ideal S1x2048 .f32) = shapeCast S1x2048 (shapeCast S2048 (scale m c) shapeCasts_S1x2048_S2048) shapeCasts_S2048_S1x2048 := by
  unfold V
  simp only [hostOps0]
  after_reads_simp
  try rfl

theorem V_v2 (c : Dev nD) : (V m c main_v2 : FVec Ideal S2048x512 .bf16)
    = truncf .bf16 (shapeCast S2048x512 (matQ m c) shapeCasts_S1x2048x512_S2048x512 : FVec Ideal S2048x512 .f32) bitsLt_bf16_f32 := by
  unfold V
  simp only [hostOps0]
  after_reads_simp
  rfl

theorem V_v4 (c : Dev nD) : (V m c main_v4 : FVec Ideal S512x2048 .bf16)
    = truncf .bf16 (shapeCast S512x2048 (matO m c) shapeCasts_S1x512x2048_S512x2048 : FVec Ideal S512x2048 .f32) bitsLt_bf16_f32 := by
  unfold V
  simp only [hostOps0]
  after_reads_simp
  rfl

theorem pt_lt (t : Fin cfg0.N) : t.val < 32 := lt_of_lt_of_eq t.isLt N_0

/-- The batch of point `t`. -/
def batchOf (t : Fin cfg0.N) : Fin 2 := ⟨t.val / 16, by have := pt_lt t; omega⟩

/-- Row `p` of the block at point `t`. -/
def rowOf (t : Fin cfg0.N) (p : Fin 512) : Fin 8192 := ⟨t.val % 16 * 512 + p.val, by have := pt_lt t; omega⟩

theorem idx0 : ∀ t : Fin cfg0.N, win0_0.index t = ![t.val / 16, t.val % 16, 0] := (by decide +kernel : ∀ t : Fin grid0.N, win0_0.index t = ![t.val / 16, t.val % 16, 0])
theorem idx1 : ∀ t : Fin cfg0.N, win0_1.index t = ![0, 0] := (by decide +kernel : ∀ t : Fin grid0.N, win0_1.index t = ![0, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![t.val / 16, 0, 1] := (by decide +kernel : ∀ t : Fin grid0.N, win0_3.index t = ![t.val / 16, 0, 1])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val / 16, t.val % 16, 0] := (by decide +kernel : ∀ t : Fin grid0.N, win0_6.index t = ![t.val / 16, t.val % 16, 0])

theorem rows_blk (c : Dev nD) (t : Fin cfg0.N) (p : Fin 512) (n : Fin 2048) : iblk m c 0 t (ix3 0 p n) = rows m c (ix3 (batchOf t) (rowOf t p) n) := by
  have hi : (win0_0.blk t).view.emb (ix3 0 p n) = (ix3 (batchOf t) (rowOf t p) n : S2x8192x2048.Idx) := by
    have e := idx0 t
    funext a
    fin_cases a
    · apply Fin.ext
      blk_simp [e]
      try rfl
    · apply Fin.ext
      blk_simp [e]
      try rfl
    · apply Fin.ext
      blk_simp [e]
      try rfl
  unfold iblk
  blk_simp
  rw [hi, V_main_arg0]

theorem scale_blk (c : Dev nD) (t : Fin cfg0.N) (n : Fin 2048) : iblk m c 1 t (ix2 0 n) = scale m c (ix2 0 n) := by
  have hi : (win0_1.blk t).view.emb (ix2 0 n) = (ix2 0 n : S1x2048.Idx) := by
    have e := idx1 t
    funext a
    fin_cases a
    · apply Fin.ext
      blk_simp [e]
      try rfl
    · apply Fin.ext
      blk_simp [e]
      try rfl
  unfold iblk
  blk_simp
  rw [hi, show V m c main_v5 = _ from V_v5 m c]
  pointwise

theorem key_blk (c : Dev nD) (t : Fin cfg0.N) (j : Fin 256) (i : Fin 512) : iblk m c 2 t (ix3 0 j i) = memory m c (ix3 (batchOf t) j ⟨i.val, by omega⟩) := by
  have hi : (win0_2.blk t).view.emb (ix3 0 j i) = (ix3 (batchOf t) j ⟨i.val, by omega⟩ : S2x256x1024.Idx) := by
    have e := idx2 t
    funext a
    fin_cases a
    · apply Fin.ext
      blk_simp [e]
      try rfl
    · apply Fin.ext
      blk_simp [e]
      try rfl
    · apply Fin.ext
      blk_simp [e]
      try rfl
  unfold iblk
  blk_simp
  rw [hi, V_main_arg2]

theorem value_blk (c : Dev nD) (t : Fin cfg0.N) (j : Fin 256) (i : Fin 512) :
    iblk m c 3 t (ix3 0 j i) = memory m c (ix3 (batchOf t) j ⟨512 + i.val, by omega⟩) := by
  have hi : (win0_3.blk t).view.emb (ix3 0 j i) = (ix3 (batchOf t) j ⟨512 + i.val, by omega⟩ : S2x256x1024.Idx) := by
    have e := idx3 t
    funext a
    fin_cases a
    · apply Fin.ext
      blk_simp [e]
      try rfl
    · apply Fin.ext
      blk_simp [e]
      try rfl
    · apply Fin.ext
      blk_simp [e]
      try rfl
  unfold iblk
  blk_simp
  rw [hi, V_main_arg2]

theorem matQ_blk (c : Dev nD) (t : Fin cfg0.N) (n : Fin 2048) (i : Fin 512) : iblk m c 4 t (ix2 n i) = matQ m c (ix3 0 n i) := by
  have hi : (win0_4.blk t).view.emb (ix2 n i) = (ix2 n i : S2048x512.Idx) := by
    have e := idx4 t
    funext a
    fin_cases a
    · apply Fin.ext
      blk_simp [e]
      try rfl
    · apply Fin.ext
      blk_simp [e]
      try rfl
  unfold iblk
  blk_simp
  rw [hi, show V m c main_v2 = _ from V_v2 m c]
  pointwise

theorem matO_blk (c : Dev nD) (t : Fin cfg0.N) (i : Fin 512) (n : Fin 2048) : iblk m c 5 t (ix2 i n) = matO m c (ix3 0 i n) := by
  have hi : (win0_5.blk t).view.emb (ix2 i n) = (ix2 i n : S512x2048.Idx) := by
    have e := idx5 t
    funext a
    fin_cases a
    · apply Fin.ext
      blk_simp [e]
      try rfl
    · apply Fin.ext
      blk_simp [e]
      try rfl
  unfold iblk
  blk_simp
  rw [hi, show V m c main_v4 = _ from V_v4 m c]
  pointwise

theorem emb6 (t : Fin cfg0.N) (z : Fin 1) (p : Fin 512) (n : Fin 2048) :
    (win0_6.blk t).view.emb (ix3 z p n) = (ix3 (batchOf t) (rowOf t p) n : S2x8192x2048.Idx) := by
  obtain rfl : z = 0 := Subsingleton.elim _ _
  have e := idx6 t
  funext a
  fin_cases a
  · apply Fin.ext
    blk_simp [e]
    try rfl
  · apply Fin.ext
    blk_simp [e]
    try rfl
  · apply Fin.ext
    blk_simp [e]
    try rfl

/-- WHAT THE KERNEL LEAVES at row `r` of batch `b` and column `n`. -/
def out (x : FVec Ideal S2x8192x2048 .f32) (g : FVec Ideal S1x2048 .f32) (kv : FVec Ideal S2x256x1024 .f32) (w : FVec Ideal S1x2048x512 .f32)
    (wo : FVec Ideal S1x512x2048 .f32) (b : Fin 2) (r : Fin 8192) (n : Fin 2048) : EReal :=
  crossed (fun n => x (ix3 b r n)) (fun n => g (ix2 0 n)) (fun n i => w (ix3 0 n i)) (fun j i => kv (ix3 b j ⟨i.val, by omega⟩))
    (fun j i => kv (ix3 b j ⟨512 + i.val, by omega⟩)) (fun i n => wo (ix3 0 i n)) n

theorem point (c : Dev nD) (t : Fin cfg0.N) (z : Fin 1) (p : Fin 512) (n : Fin 2048) :
    out0_6 (iblk m c 0 t) (iblk m c 1 t) (iblk m c 2 t) (iblk m c 3 t) (iblk m c 4 t) (iblk m c 5 t) (ix3 z p n)
    = out (rows m c) (scale m c) (memory m c) (matQ m c) (matO m c) (batchOf t) (rowOf t p) n := by
  rw [out_apply]
  unfold out
  simp only [rows_blk, scale_blk, key_blk, value_blk, matQ_blk, matO_blk]

end Cert.CrossKernelIdeal.RowValue
-- ==== Proof.CrossClaims.lean ====
/- The claims of the cross attention. -/
module

public import proofs.«01_k».proof.Defs
public import proofs.«01_k».proof.Proof.Gen.CrossReferenceIdeal.Read
public import proofs.«01_k».proof.Proof.CrossBlocks
public import Idealize.ShloMosaic.Lib.Quiescent

@[expose] public section

set_option maxRecDepth 16384

noncomputable section

namespace Cert.CrossReferenceIdeal.RowRead

open Cert.NormRows Cert.CrossReferenceIdeal.Read
open Cert.CrossKernelIdeal.RowValue (softened headed lane heads crossed out)
open Cert.CrossReferenceIdeal Cert.CrossReferenceIdeal.Gen Idealize.ShloMosaic Idealize.ShloMosaic.TcCoe Idealize.SL.Sem

variable (x : FVec Ideal S2x8192x2048 .f32) (g : FVec Ideal S1x2048 .f32) (kv : FVec Ideal S2x256x1024 .f32) (w : FVec Ideal S1x2048x512 .f32)
    (wo : FVec Ideal S1x512x2048 .f32)

theorem v16_apply (b : Fin 2) (r : Fin 8192) (i : Fin 512) : val_main_v16 (F := Ideal) x g w (ix3 b r i)
    = ∑ k, normed (fun n => x (ix3 b r n)) (fun n => g (ix2 0 n)) k * w (ix3 0 k i) := by
  unfold val_main_v16 val_main_v15 val_main_v14 val_main_v13 val_main_v12 val_main_v11 val_main_v10 val_main_v9 val_main_v8 val_main_v7 val_main_v6
    val_main_v5 val_main_v4 val_main_v3 val_main_v2 val_main_v1 val_main_cst val_main_cst_0 val_main_cst_1
  pointwise [normed]

theorem v17_apply (b : Fin 2) (r : Fin 8192) (h : Fin 4) (d : Fin 128) : val_main_v17 (F := Ideal) x g w (ix4 b r h d)
    = val_main_v16 (F := Ideal) x g w (ix3 b r ⟨h.val * 128 + d.val, by omega⟩) := by
  unfold val_main_v17
  generalize val_main_v16 (F := Ideal) x g w = y
  pointwise

theorem v19_apply (b : Fin 2) (j : Fin 256) (h : Fin 4) (d : Fin 128) : val_main_v19 (F := Ideal) kv (ix4 b j h d)
    = kv (ix3 b j ⟨h.val * 128 + d.val, by omega⟩) := by
  unfold val_main_v19 val_main_v18 val_main_v0
  pointwise

theorem v35_apply (b : Fin 2) (j : Fin 256) (h : Fin 4) (d : Fin 128) : val_main_v35 (F := Ideal) kv (ix4 b j h d)
    = kv (ix3 b j ⟨512 + (h.val * 128 + d.val), by omega⟩) := by
  unfold val_main_v35 val_main_v34 val_main_v0
  pointwise
  exact congrArg kv (congrArg (ix3 b j) (Fin.ext (Nat.add_assoc _ _ _)))

theorem v22_apply (b : Fin 2) (h : Fin 4) (r : Fin 8192) (j : Fin 256) : val_main_v22 (F := Ideal) x g kv w (ix4 b h r j)
    = (∑ d : Fin 128, val_main_v17 (F := Ideal) x g w (ix4 b r h d) * val_main_v19 (F := Ideal) kv (ix4 b j h d)) * Ideal.ofBits FTy.f32 0x3DB504F3#32 := by
  unfold val_main_v22 val_main_v21 val_main_v20 val_main_cst_2
  generalize val_main_v17 (F := Ideal) x g w = q
  generalize val_main_v19 (F := Ideal) kv = k
  pointwise

theorem v23_apply (b : Fin 2) (h : Fin 4) (r : Fin 8192) : val_main_v23 (F := Ideal) x g kv w (ix3 b h r)
    = Finset.fold max (Ideal.ofBits FTy.f32 0xFF800000#32) (fun j => val_main_v22 (F := Ideal) x g kv w (ix4 b h r j)) Finset.univ := by
  unfold val_main_v23 val_main_cst_3
  generalize val_main_v22 (F := Ideal) x g kv w = s
  pointwise

theorem v24_apply (b : Fin 2) (h : Fin 4) (r : Fin 8192) : val_main_v24 (F := Ideal) (ix3 b h r) = Ideal.ofBits FTy.f32 0xFF800000#32 := by
  unfold val_main_v24 val_main_cst_4
  pointwise

/-- The greatest of numbers, one of them taken twice. -/
theorem max_fold (z : EReal) (f : Fin 256 → EReal) : max z (Finset.fold max z f Finset.univ) = Finset.fold max z f Finset.univ :=
  max_eq_right ((Finset.le_fold_max _).2 (Or.inl le_rfl))

theorem idx27 (b : Fin 2) (h : Fin 4) (r : Fin 8192) (j : Fin 256) : idx_main_v26 (idx_main_v27 (ix4 b h r j)) = ix3 b h r := by
  funext a
  match a with
  | ⟨0, _⟩ => rfl
  | ⟨1, _⟩ => rfl
  | ⟨2, _⟩ => rfl

theorem v27_apply (b : Fin 2) (h : Fin 4) (r : Fin 8192) (j : Fin 256) : val_main_v27 (F := Ideal) x g kv w (ix4 b h r j)
    = val_main_v23 (F := Ideal) x g kv w (ix3 b h r) := by
  rw [val_main_v27_apply, val_main_v26_apply, idx27, val_main_v25_apply, v24_apply, v23_apply]
  generalize Ideal.ofBits FTy.f32 0xFF800000#32 = z
  exact max_fold z _

theorem v29_apply (b : Fin 2) (h : Fin 4) (r : Fin 8192) (j : Fin 256) : val_main_v29 (F := Ideal) x g kv w (ix4 b h r j)
    = Ideal.exp (val_main_v22 (F := Ideal) x g kv w (ix4 b h r j) - val_main_v23 (F := Ideal) x g kv w (ix3 b h r)) := by
  rw [← v27_apply x g kv w b h r j, val_main_v29_apply, val_main_v28_apply]
  generalize val_main_v27 (F := Ideal) x g kv w (ix4 b h r j) = y
  generalize val_main_v22 (F := Ideal) x g kv w (ix4 b h r j) = s
  rfl

theorem v30_apply (b : Fin 2) (h : Fin 4) (r : Fin 8192) : val_main_v30 (F := Ideal) x g kv w (ix3 b h r)
    = ∑ j, val_main_v29 (F := Ideal) x g kv w (ix4 b h r j) := by
  unfold val_main_v30 val_main_cst_5
  generalize val_main_v29 (F := Ideal) x g kv w = y
  pointwise

theorem idx32 (b : Fin 2) (h : Fin 4) (r : Fin 8192) (j : Fin 256) : idx_main_v31 (idx_main_v32 (ix4 b h r j)) = ix3 b h r := by
  funext a
  match a with
  | ⟨0, _⟩ => rfl
  | ⟨1, _⟩ => rfl
  | ⟨2, _⟩ => rfl

theorem v33_apply (b : Fin 2) (h : Fin 4) (r : Fin 8192) (j : Fin 256) : val_main_v33 (F := Ideal) x g kv w (ix4 b h r j)
    = softened (fun j => val_main_v22 (F := Ideal) x g kv w (ix4 b h r j)) j := by
  unfold softened
  rw [← v23_apply, ← v29_apply]
  have e : ∑ i, Ideal.exp (val_main_v22 (F := Ideal) x g kv w (ix4 b h r i) - val_main_v23 (F := Ideal) x g kv w (ix3 b h r))
      = val_main_v30 (F := Ideal) x g kv w (ix3 b h r) := by
    rw [v30_apply]
    exact Finset.sum_congr rfl fun i _ => (v29_apply x g kv w b h r i).symm
  rw [e, val_main_v33_apply, val_main_v32_apply, val_main_v31_apply, idx32]
  generalize val_main_v30 (F := Ideal) x g kv w (ix3 b h r) = s
  generalize val_main_v29 (F := Ideal) x g kv w (ix4 b h r j) = y
  rfl

theorem v37_apply (b : Fin 2) (r : Fin 8192) (h : Fin 4) (d : Fin 128) : val_main_v37 (F := Ideal) x g kv w (ix4 b r h d)
    = ∑ j : Fin 256, val_main_v33 (F := Ideal) x g kv w (ix4 b h r j) * val_main_v35 (F := Ideal) kv (ix4 b j h d) := by
  unfold val_main_v37 val_main_v36
  generalize val_main_v33 (F := Ideal) x g kv w = s
  generalize val_main_v35 (F := Ideal) kv = v
  pointwise
  try exact Finset.sum_congr rfl fun j _ => mul_comm _ _

theorem v38_apply (b : Fin 2) (r : Fin 8192) (i : Fin 512) : val_main_v38 (F := Ideal) x g kv w (ix3 b r i)
    = val_main_v37 (F := Ideal) x g kv w (ix4 b r ⟨i.val / 128, by omega⟩ ⟨i.val % 128, by omega⟩) := by
  unfold val_main_v38
  generalize val_main_v37 (F := Ideal) x g kv w = y
  pointwise

theorem v38_heads (b : Fin 2) (r : Fin 8192) (i : Fin 512) : val_main_v38 (F := Ideal) x g kv w (ix3 b r i)
    = heads (fun i => val_main_v16 (F := Ideal) x g w (ix3 b r i)) (fun j i => kv (ix3 b j ⟨i.val, by omega⟩)) (fun j i => kv (ix3 b j ⟨512 + i.val, by omega⟩)) i := by
  rw [v38_apply, v37_apply]
  simp only [v33_apply, v22_apply, v17_apply, v19_apply, v35_apply]
  have hi : (⟨i.val / 128 * 128 + i.val % 128, by omega⟩ : Fin 512) = i := Fin.ext (by dsimp only; omega)
  refine Eq.trans ?_ (Cert.CrossKernelIdeal.RowValue.heads_eq _ _ _ i (lane i) ⟨i.val / 128 * 128 + i.val % 128, by omega⟩ (fun d => rfl) (by dsimp only; omega))
  rfl

theorem v41_apply (b : Fin 2) (r : Fin 8192) (n : Fin 2048) : val_main_v41 (F := Ideal) x g kv w wo (ix3 b r n) = out x g kv w wo b r n := by
  unfold out crossed
  simp only [← v16_apply]
  simp only [← v38_heads]
  unfold val_main_v41 val_main_v40 val_main_v39
  generalize val_main_v38 (F := Ideal) x g kv w = y
  pointwise

end Cert.CrossReferenceIdeal.RowRead

namespace Cert.Proof.CrossClaims

open Cert.CrossReferenceIdeal.Read Cert.CrossReferenceIdeal.RowRead
open Cert.CrossKernelIdeal Cert.CrossKernelIdeal.Gen Cert.CrossKernelIdeal.RowValue Idealize.ShloMosaic Idealize.ShloMosaic.TcCoe Idealize.SL.Sem

/-- The reference's value of the kernel's arguments. -/
abbrev want (m : (ℓ : Loc nD τ sig) → Buf (Elt Ideal) ℓ) (c : Dev nD) : FVec Ideal S2x8192x2048 .f32 :=
  val_main_v41 (F := Ideal) (rows m c) (scale m c) (memory m c) (matQ m c) (matO m c)

theorem point_value (m : (ℓ : Loc nD τ sig) → Buf (Elt Ideal) ℓ) (c : Dev nD) (t : Fin cfg0.N) (y : S1x512x2048.Idx) :
    out0_6 (iblk m c 0 t) (iblk m c 1 t) (iblk m c 2 t) (iblk m c 3 t) (iblk m c 4 t) (iblk m c 5 t) y = want m c ((win0_6.blk t).view.emb y) := by
  obtain ⟨z, p, n, rfl⟩ : ∃ (z : Fin 1) (p : Fin 512) (n : Fin 2048), y = ix3 z p n := ⟨y 0, y 1, y 2, by funext a; fin_cases a <;> rfl⟩
  rw [emb6, point]
  exact (v41_apply _ _ _ _ _ _ _ _).symm

/-- The rows after the cross attention. -/
theorem final (m : (ℓ : Loc nD τ sig) → Buf (Elt Ideal) ℓ) (c : Dev nD) : (dats m 0 c).arrAt 6 cfg0.N = want m c := by
  refine (dats m 0 c).arrAt_eq_of_covers 6 _ (by decide +kernel) fun t hf y => ?_
  blk_simp
  rw [after0_6]
  exact point_value m c t y

/-- The reference's frame, from its host run; it declares no semaphore. -/
theorem frame_reference : Cert.quiescent_CrossReferenceIdeal := fun m ρ _ =>
  (θ_run Cert.CrossReferenceIdeal.defs _ _).mono (fun r h => ⟨fun c => (h c).2, sem_eq_zero_of_no_sems (by decide) r.2⟩)
    (Cert.CrossReferenceIdeal.Value.run (F := Ideal) m ρ)

theorem algebraic : Cert.algebraic_CrossKernelIdeal_CrossReferenceIdeal := by
  intro m ρ m' ρ' _ hagree
  refine ⟨fun c => want m c, ?_, ?_⟩
  · exact (θ_run Cert.CrossKernelIdeal.defs _ _).mono (fun _ h c => ⟨(h c).1.trans (final m c), (h c).2⟩) (Cert.CrossKernelIdeal.Value.run_blocks (F := Ideal) m ρ)
  · refine (θ_run Cert.CrossReferenceIdeal.defs _ _).mono (fun _ h c => ⟨(h c).1.trans ?_, (h c).2⟩) (Cert.CrossReferenceIdeal.Value.run (F := Ideal) m' ρ')
    obtain ⟨h0, h1, h2, h3, h4⟩ := hagree c
    rw [val_main_v41_eq, h0, h1, h2, h3, h4]

end Cert.Proof.CrossClaims
-- ==== Proof.lean ====
/- The claims of the calls (the modules proof/Proof/*Claims.lean), conjoined. -/
module

public import proofs.«01_k».proof.Defs
public import proofs.«01_k».proof.Proof.Gen.StepKernel
public import proofs.«01_k».proof.Proof.Gen.StepKernel.Skeleton
public import proofs.«01_k».proof.Proof.Gen.StepKernel.Launch
public import proofs.«01_k».proof.Proof.Gen.StepKernel.Points
public import proofs.«01_k».proof.Proof.Gen.StepKernel.Frame
public import proofs.«01_k».proof.Proof.Gen.StepKernelIdeal
public import proofs.«01_k».proof.Proof.Gen.StepKernelIdeal.Skeleton
public import proofs.«01_k».proof.Proof.Gen.StepKernelIdeal.Launch
public import proofs.«01_k».proof.Proof.Gen.StepKernelIdeal.Points
public import proofs.«01_k».proof.Proof.Gen.StepKernelIdeal.Frame
public import proofs.«01_k».proof.Proof.Gen.StepReferenceIdeal
public import proofs.«01_k».proof.Proof.Gen.StepKernelIdeal.Value
public import proofs.«01_k».proof.Proof.Gen.StepReferenceIdeal.Run
public import proofs.«01_k».proof.Proof.Gen.StepReferenceIdeal.Read
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.SProjKernel
public import proofs.«01_k».proof.Proof.Gen.SProjKernel.Skeleton
public import proofs.«01_k».proof.Proof.Gen.SProjKernel.Launch
public import proofs.«01_k».proof.Proof.Gen.SProjKernel.Points
public import proofs.«01_k».proof.Proof.Gen.SProjKernel.Frame
public import proofs.«01_k».proof.Proof.Gen.SProjKernelIdeal
public import proofs.«01_k».proof.Proof.Gen.SProjKernelIdeal.Skeleton
public import proofs.«01_k».proof.Proof.Gen.SProjKernelIdeal.Launch
public import proofs.«01_k».proof.Proof.Gen.SProjKernelIdeal.Points
public import proofs.«01_k».proof.Proof.Gen.SProjKernelIdeal.Frame
public import proofs.«01_k».proof.Proof.Gen.SProjReferenceIdeal
public import proofs.«01_k».proof.Proof.Gen.SProjKernelIdeal.Value
public import proofs.«01_k».proof.Proof.Gen.SProjReferenceIdeal.Run
public import proofs.«01_k».proof.Proof.Gen.SProjReferenceIdeal.Read
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemReferenceIdeal
public import proofs.«01_k».proof.Proof.Gen.MemKernelIdeal.Value
public import proofs.«01_k».proof.Proof.Gen.MemReferenceIdeal.Run
public import proofs.«01_k».proof.Proof.Gen.MemReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.DnKernel
public import proofs.«01_k».proof.Proof.Gen.DnKernel.Skeleton
public import proofs.«01_k».proof.Proof.Gen.DnKernel.Launch
public import proofs.«01_k».proof.Proof.Gen.DnKernel.Flash
public import proofs.«01_k».proof.Proof.Gen.DnKernelIdeal
public import proofs.«01_k».proof.Proof.Gen.DnKernelIdeal.Skeleton
public import proofs.«01_k».proof.Proof.Gen.DnKernelIdeal.Launch
public import proofs.«01_k».proof.Proof.Gen.DnKernelIdeal.Flash
public import proofs.«01_k».proof.Proof.Gen.DnReferenceIdeal
public import proofs.«01_k».proof.Proof.Gen.DnReferenceIdeal.Run
public import proofs.«01_k».proof.Proof.Gen.DnReferenceIdeal.Read
public import proofs.«01_k».proof.Proof.Gen.Pre_in_range
public import proofs.«01_k».proof.Proof.Gen.GuKernel
public import proofs.«01_k».proof.Proof.Gen.GuKernel.Skeleton
public import proofs.«01_k».proof.Proof.Gen.GuKernel.Launch
public import proofs.«01_k».proof.Proof.Gen.GuKernel.Flash
public import proofs.«01_k».proof.Proof.Gen.GuKernelIdeal
public import proofs.«01_k».proof.Proof.Gen.GuKernelIdeal.Skeleton
public import proofs.«01_k».proof.Proof.Gen.GuKernelIdeal.Launch
public import proofs.«01_k».proof.Proof.Gen.GuKernelIdeal.Flash
public import proofs.«01_k».proof.Proof.Gen.GuReferenceIdeal
public import proofs.«01_k».proof.Proof.Gen.GuReferenceIdeal.Run
public import proofs.«01_k».proof.Proof.Gen.GuReferenceIdeal.Read
public import proofs.«01_k».proof.Proof.Gen.Pre_in_range_gu
public import proofs.«01_k».proof.Proof.Gen.CrossKernel
public import proofs.«01_k».proof.Proof.Gen.CrossKernel.Skeleton
public import proofs.«01_k».proof.Proof.Gen.CrossKernel.Launch
public import proofs.«01_k».proof.Proof.Gen.CrossKernel.Points
public import proofs.«01_k».proof.Proof.Gen.CrossKernel.Frame
public import proofs.«01_k».proof.Proof.Gen.CrossKernelIdeal
public import proofs.«01_k».proof.Proof.Gen.CrossKernelIdeal.Skeleton
public import proofs.«01_k».proof.Proof.Gen.CrossKernelIdeal.Launch
public import proofs.«01_k».proof.Proof.Gen.CrossKernelIdeal.Points
public import proofs.«01_k».proof.Proof.Gen.CrossKernelIdeal.Frame
public import proofs.«01_k».proof.Proof.Gen.CrossReferenceIdeal
public import proofs.«01_k».proof.Proof.Gen.CrossKernelIdeal.Value
public import proofs.«01_k».proof.Proof.Gen.CrossReferenceIdeal.Run
public import proofs.«01_k».proof.Proof.Gen.CrossReferenceIdeal.Read
public import proofs.«01_k».proof.Proof.StepClaims
public import proofs.«01_k».proof.Proof.ProjClaims
public import proofs.«01_k».proof.Proof.SProjClaims
public import proofs.«01_k».proof.Proof.MemClaims
public import proofs.«01_k».proof.Proof.MergeClaims
public import proofs.«01_k».proof.Proof.DnClaims
public import proofs.«01_k».proof.Proof.GuClaims
public import proofs.«01_k».proof.Proof.CrossClaims
public import Idealize.ShloMosaic.Adequacy
public import Idealize.ShloMosaic.Init

@[expose] public section

noncomputable section

namespace Cert.Proof

open Idealize.ShloMosaic Idealize.SL.Sem Cert.StepKernel

theorem claim : Cert.Claim := ⟨
  Cert.StepKernel.Gen.facts, Cert.StepKernelIdeal.Gen.facts, Cert.StepReferenceIdeal.Gen.facts,
  Cert.ProjKernel.Gen.facts, Cert.ProjKernelIdeal.Gen.facts, Cert.ProjReferenceIdeal.Gen.facts,
  Cert.SProjKernel.Gen.facts, Cert.SProjKernelIdeal.Gen.facts, Cert.SProjReferenceIdeal.Gen.facts,
  Cert.MemKernel.Gen.facts, Cert.MemKernelIdeal.Gen.facts, Cert.MemReferenceIdeal.Gen.facts,
  Cert.MergeKernel.Gen.facts, Cert.MergeKernelIdeal.Gen.facts, Cert.MergeReferenceIdeal.Gen.facts,
  Cert.DnKernel.Gen.facts, Cert.DnKernelIdeal.Gen.facts, Cert.DnReferenceIdeal.Gen.facts,
  Cert.GuKernel.Gen.facts, Cert.GuKernelIdeal.Gen.facts, Cert.GuReferenceIdeal.Gen.facts,
  Cert.CrossKernel.Gen.facts, Cert.CrossKernelIdeal.Gen.facts, Cert.CrossReferenceIdeal.Gen.facts,
  StepClaims.pre_facts,
  Cert.Pre_in_range.Gen.facts,
  Cert.Pre_in_range_gu.Gen.facts,
  fun m ρ _ => Cert.StepKernel.Gen.frame m ρ,
  fun m ρ _ => Cert.StepKernelIdeal.Gen.frame m ρ,
  fun m ρ _ => Cert.StepKernelIdeal.Gen.frame m ρ,
  StepClaims.frame_reference,
  fun m ρ _ => StepClaims.frame_reference m ρ trivial,
  fun m ρ _ => Cert.ProjKernel.Gen.frame m ρ,
  fun m ρ _ => Cert.ProjKernelIdeal.Gen.frame m ρ,
  ProjClaims.frame_reference,
  fun m ρ _ => Cert.SProjKernel.Gen.frame m ρ,
  fun m ρ _ => Cert.SProjKernelIdeal.Gen.frame m ρ,
  SProjClaims.frame_reference,
  fun m ρ _ => Cert.MemKernel.Gen.frame m ρ,
  fun m ρ _ => Cert.MemKernelIdeal.Gen.frame m ρ,
  MemClaims.frame_reference,
  fun m ρ _ => Cert.MergeKernel.Gen.frame m ρ,
  fun m ρ _ => Cert.MergeKernelIdeal.Gen.frame m ρ,
  MergeClaims.frame_reference,
  DnClaims.frame_kernel,
  DnClaims.frame_ideal,
  DnClaims.frame_reference,
  DnClaims.frame_reference_pre,
  GuClaims.frame_kernel,
  GuClaims.frame_ideal,
  GuClaims.frame_reference,
  GuClaims.frame_reference_pre,
  fun m ρ _ => Cert.CrossKernel.Gen.frame m ρ,
  fun m ρ _ => Cert.CrossKernelIdeal.Gen.frame m ρ,
  CrossClaims.frame_reference,
  trivial,
  (haveI := StepClaims.pre_facts; StepClaims.algebraic),
  trivial,
  ProjClaims.algebraic,
  trivial,
  SProjClaims.algebraic,
  trivial,
  MemClaims.algebraic,
  trivial,
  MergeClaims.algebraic,
  trivial,
  DnClaims.algebraic,
  trivial,
  GuClaims.algebraic,
  trivial,
  CrossClaims.algebraic⟩

end Cert.Proof

end
